-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_norm_weights [hPre_finite_norm_weights : Cert.Pre_finite_norm_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_norm_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_norm_weights [hPre_finite_norm_weights : Cert.Pre_finite_norm_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_norm_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_log_sums [hPre_finite_log_sums : Cert.Pre_finite_log_sums.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_log_sums.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_log_sums [hPre_finite_log_sums : Cert.Pre_finite_log_sums.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_log_sums.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_bias10 [hPre_finite_bias10 : Cert.Pre_finite_bias10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_bias10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_bias10 [hPre_finite_bias10 : Cert.Pre_finite_bias10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_bias10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_bias11 [hPre_finite_bias11 : Cert.Pre_finite_bias11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_bias11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_bias11 [hPre_finite_bias11 : Cert.Pre_finite_bias11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_bias11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite_bias11 [hPre_finite_bias11 : Cert.Pre_finite_bias11.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite_bias11.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite_bias11 [hPre_finite_bias11 : Cert.Pre_finite_bias11.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite_bias11.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_norm_weights [hKernelIdeal : Cert.KernelIdeal.Facts] [hPre_finite_norm_weights : Cert.Pre_finite_norm_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_norm_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_norm_weights [hReferenceIdeal : Cert.ReferenceIdeal.Facts] [hPre_finite_norm_weights : Cert.Pre_finite_norm_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_norm_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Kernel9Ideal_pre_finite_log_sums [hKernel9Ideal : Cert.Kernel9Ideal.Facts] [hPre_finite_log_sums : Cert.Pre_finite_log_sums.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_log_sums m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Reference9Ideal_pre_finite_log_sums [hReference9Ideal : Cert.Reference9Ideal.Facts] [hPre_finite_log_sums : Cert.Pre_finite_log_sums.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_log_sums m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Kernel10Ideal_pre_finite_bias10 [hKernel10Ideal : Cert.Kernel10Ideal.Facts] [hPre_finite_bias10 : Cert.Pre_finite_bias10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_bias10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Reference10Ideal_pre_finite_bias10 [hReference10Ideal : Cert.Reference10Ideal.Facts] [hPre_finite_bias10 : Cert.Pre_finite_bias10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_bias10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Kernel11Ideal_pre_finite_bias11 [hKernel11Ideal : Cert.Kernel11Ideal.Facts] [hPre_finite_bias11 : Cert.Pre_finite_bias11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_bias11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Reference11Ideal_pre_finite_bias11 [hReference11Ideal : Cert.Reference11Ideal.Facts] [hPre_finite_bias11 : Cert.Pre_finite_bias11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_bias11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Kernel12Ideal_pre_finite_bias11 [hKernel12Ideal : Cert.Kernel12Ideal.Facts] [hPre_finite_bias11 : Cert.Pre_finite_bias11.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite_bias11 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Reference12Ideal_pre_finite_bias11 [hReference12Ideal : Cert.Reference12Ideal.Facts] [hPre_finite_bias11 : Cert.Pre_finite_bias11.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite_bias11 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def preserves_Kernel_KernelIdeal : Prop :=
  True

def algebraic_KernelIdeal_ReferenceIdeal_pre_finite_norm_weights [hKernelIdeal : Cert.KernelIdeal.Facts] [hReferenceIdeal : Cert.ReferenceIdeal.Facts] [hPre_finite_norm_weights : Cert.Pre_finite_norm_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_norm_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v35) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v14) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal_pre_finite_log_sums [hKernel9Ideal : Cert.Kernel9Ideal.Facts] [hReference9Ideal : Cert.Reference9Ideal.Facts] [hPre_finite_log_sums : Cert.Pre_finite_log_sums.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_log_sums m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v21) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal_pre_finite_bias10 [hKernel10Ideal : Cert.Kernel10Ideal.Facts] [hReference10Ideal : Cert.Reference10Ideal.Facts] [hPre_finite_bias10 : Cert.Pre_finite_bias10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_bias10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v63) = v0 c
          ∧ r.2.mem ((c.tc : Thread Cert.Reference10Ideal.nD Cert.Reference10Ideal.τ).loc Cert.Reference10Ideal.main_v64) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal_pre_finite_bias11 [hKernel11Ideal : Cert.Kernel11Ideal.Facts] [hReference11Ideal : Cert.Reference11Ideal.Facts] [hPre_finite_bias11 : Cert.Pre_finite_bias11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_bias11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v88) = v0 c
          ∧ r.2.mem ((c.tc : Thread Cert.Reference11Ideal.nD Cert.Reference11Ideal.τ).loc Cert.Reference11Ideal.main_v89) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal_pre_finite_bias11 [hKernel12Ideal : Cert.Kernel12Ideal.Facts] [hReference12Ideal : Cert.Reference12Ideal.Facts] [hPre_finite_bias11 : Cert.Pre_finite_bias11.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite_bias11 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v88) = v0 c
          ∧ r.2.mem ((c.tc : Thread Cert.Reference12Ideal.nD Cert.Reference12Ideal.τ).loc Cert.Reference12Ideal.main_v89) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite_norm_weights : Cert.Pre_finite_norm_weights.Facts) (hPre_finite_log_sums : Cert.Pre_finite_log_sums.Facts) (hPre_finite_bias10 : Cert.Pre_finite_bias10.Facts) (hPre_finite_bias11 : Cert.Pre_finite_bias11.Facts),
    quiescent_Kernel (hKernel := hKernel)
    ∧ quiescent_KernelIdeal (hKernelIdeal := hKernelIdeal)
    ∧ quiescent_KernelIdeal_pre_finite_norm_weights (hKernelIdeal := hKernelIdeal) (hPre_finite_norm_weights := hPre_finite_norm_weights)
    ∧ quiescent_ReferenceIdeal (hReferenceIdeal := hReferenceIdeal)
    ∧ quiescent_ReferenceIdeal_pre_finite_norm_weights (hReferenceIdeal := hReferenceIdeal) (hPre_finite_norm_weights := hPre_finite_norm_weights)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite_log_sums (hKernel9Ideal := hKernel9Ideal) (hPre_finite_log_sums := hPre_finite_log_sums)
    ∧ quiescent_Reference9Ideal (hReference9Ideal := hReference9Ideal)
    ∧ quiescent_Reference9Ideal_pre_finite_log_sums (hReference9Ideal := hReference9Ideal) (hPre_finite_log_sums := hPre_finite_log_sums)
    ∧ quiescent_Kernel10 (hKernel10 := hKernel10)
    ∧ quiescent_Kernel10Ideal (hKernel10Ideal := hKernel10Ideal)
    ∧ quiescent_Kernel10Ideal_pre_finite_bias10 (hKernel10Ideal := hKernel10Ideal) (hPre_finite_bias10 := hPre_finite_bias10)
    ∧ quiescent_Reference10Ideal (hReference10Ideal := hReference10Ideal)
    ∧ quiescent_Reference10Ideal_pre_finite_bias10 (hReference10Ideal := hReference10Ideal) (hPre_finite_bias10 := hPre_finite_bias10)
    ∧ quiescent_Kernel11 (hKernel11 := hKernel11)
    ∧ quiescent_Kernel11Ideal (hKernel11Ideal := hKernel11Ideal)
    ∧ quiescent_Kernel11Ideal_pre_finite_bias11 (hKernel11Ideal := hKernel11Ideal) (hPre_finite_bias11 := hPre_finite_bias11)
    ∧ quiescent_Reference11Ideal (hReference11Ideal := hReference11Ideal)
    ∧ quiescent_Reference11Ideal_pre_finite_bias11 (hReference11Ideal := hReference11Ideal) (hPre_finite_bias11 := hPre_finite_bias11)
    ∧ quiescent_Kernel12 (hKernel12 := hKernel12)
    ∧ quiescent_Kernel12Ideal (hKernel12Ideal := hKernel12Ideal)
    ∧ quiescent_Kernel12Ideal_pre_finite_bias11 (hKernel12Ideal := hKernel12Ideal) (hPre_finite_bias11 := hPre_finite_bias11)
    ∧ quiescent_Reference12Ideal (hReference12Ideal := hReference12Ideal)
    ∧ quiescent_Reference12Ideal_pre_finite_bias11 (hReference12Ideal := hReference12Ideal) (hPre_finite_bias11 := hPre_finite_bias11)
    ∧ preserves_Kernel_KernelIdeal
    ∧ algebraic_KernelIdeal_ReferenceIdeal_pre_finite_norm_weights (hKernelIdeal := hKernelIdeal) (hReferenceIdeal := hReferenceIdeal) (hPre_finite_norm_weights := hPre_finite_norm_weights)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite_log_sums (hKernel9Ideal := hKernel9Ideal) (hReference9Ideal := hReference9Ideal) (hPre_finite_log_sums := hPre_finite_log_sums)
    ∧ preserves_Kernel10_Kernel10Ideal
    ∧ algebraic_Kernel10Ideal_Reference10Ideal_pre_finite_bias10 (hKernel10Ideal := hKernel10Ideal) (hReference10Ideal := hReference10Ideal) (hPre_finite_bias10 := hPre_finite_bias10)
    ∧ preserves_Kernel11_Kernel11Ideal
    ∧ algebraic_Kernel11Ideal_Reference11Ideal_pre_finite_bias11 (hKernel11Ideal := hKernel11Ideal) (hReference11Ideal := hReference11Ideal) (hPre_finite_bias11 := hPre_finite_bias11)
    ∧ preserves_Kernel12_Kernel12Ideal
    ∧ algebraic_Kernel12Ideal_Reference12Ideal_pre_finite_bias11 (hKernel12Ideal := hKernel12Ideal) (hReference12Ideal := hReference12Ideal) (hPre_finite_bias11 := hPre_finite_bias11)
-- ==== Pre_finite_bias10.lean ====
abbrev S4x2048x15872 : Shape := ⟨3, ![4, 2048, 15872]⟩
abbrev S1x4x128x128 : Shape := ⟨4, ![1, 4, 128, 128]⟩
abbrev S1x128 : Shape := ⟨2, ![1, 128]⟩
abbrev S_ : Shape := ⟨0, ![]⟩
abbrev S1x1x128x1 : Shape := ⟨4, ![1, 1, 128, 1]⟩

class Facts : Prop where
  bcast_S_S1x4x128x128 : S_.BroadcastsInDim S1x4x128x128 (![] : Fin 0 → Fin S1x4x128x128.rank)
  bcast_S_S1x128 : S_.BroadcastsInDim S1x128 (![] : Fin 0 → Fin S1x128.rank)
  shapeCasts_S1x128_S1x1x128x1 : S1x128.ShapeCasts S1x1x128x1
  bcast_S1x1x128x1_S1x4x128x128_0_1_2_3 : S1x1x128x1.BroadcastsInDim S1x4x128x128 (![0, 1, 2, 3] : Fin 4 → Fin S1x4x128x128.rank)

variable [Facts]

def fn {F : FTy → Type} [FloatOps F] (main_arg0 : FVec F S4x2048x15872 .bf16) (main_arg1 : FVec F S1x4x128x128 .f32) (main_arg2 : FVec F S1x128 .f32) (main_arg3 : FVec F S1x128 .f32) : IVec S1x4x128x128 1 :=
  let main_v0 : FVec F S1x4x128x128 .f32 := Host.absf main_arg1
  let main_cst : FVec F S_ .f32 := constant S_ .f32 0x7F800000#32
  let main_v1 : FVec F S1x4x128x128 .f32 := broadcastInDim S1x4x128x128 ![] bcast_S_S1x4x128x128 main_cst
  let main_v2 : IVec S1x4x128x128 1 := cmpf .olt main_v0 main_v1
  let main_v3 : FVec F S1x128 .f32 := Host.absf main_arg2
  let main_cst_0 : FVec F S_ .f32 := constant S_ .f32 0x7F800000#32
  let main_v4 : FVec F S1x128 .f32 := broadcastInDim S1x128 ![] bcast_S_S1x128 main_cst_0
  let main_v5 : IVec S1x128 1 := cmpf .olt main_v3 main_v4
  let main_v6 : IVec S1x1x128x1 1 := shapeCast S1x1x128x1 main_v5 shapeCasts_S1x128_S1x1x128x1
  let main_v7 : IVec S1x4x128x128 1 := broadcastInDim S1x4x128x128 ![0, 1, 2, 3] bcast_S1x1x128x1_S1x4x128x128_0_1_2_3 main_v6
  let main_v8 : IVec S1x4x128x128 1 := andi main_v2 main_v7
  let main_v9 : FVec F S1x128 .f32 := Host.absf main_arg3
  let main_cst_1 : FVec F S_ .f32 := constant S_ .f32 0x7F800000#32
  let main_v10 : FVec F S1x128 .f32 := broadcastInDim S1x128 ![] bcast_S_S1x128 main_cst_1
  let main_v11 : IVec S1x128 1 := cmpf .olt main_v9 main_v10
  let main_v12 : IVec S1x1x128x1 1 := shapeCast S1x1x128x1 main_v11 shapeCasts_S1x128_S1x1x128x1
  let main_v13 : IVec S1x4x128x128 1 := broadcastInDim S1x4x128x128 ![0, 1, 2, 3] bcast_S1x1x128x1_S1x4x128x128_0_1_2_3 main_v12
  let main_v14 : IVec S1x4x128x128 1 := andi main_v8 main_v13
  main_v14
-- ==== Pre_finite_bias11.lean ====
abbrev S4x2048x15872 : Shape := ⟨3, ![4, 2048, 15872]⟩
abbrev S3x4x128x256 : Shape := ⟨4, ![3, 4, 128, 256]⟩
abbrev S1x128 : Shape := ⟨2, ![1, 128]⟩
abbrev S_ : Shape := ⟨0, ![]⟩
abbrev S1x1x128x1 : Shape := ⟨4, ![1, 1, 128, 1]⟩

class Facts : Prop where
  bcast_S_S3x4x128x256 : S_.BroadcastsInDim S3x4x128x256 (![] : Fin 0 → Fin S3x4x128x256.rank)
  bcast_S_S1x128 : S_.BroadcastsInDim S1x128 (![] : Fin 0 → Fin S1x128.rank)
  shapeCasts_S1x128_S1x1x128x1 : S1x128.ShapeCasts S1x1x128x1
  bcast_S1x1x128x1_S3x4x128x256_0_1_2_3 : S1x1x128x1.BroadcastsInDim S3x4x128x256 (![0, 1, 2, 3] : Fin 4 → Fin S3x4x128x256.rank)

variable [Facts]

def fn {F : FTy → Type} [FloatOps F] (main_arg0 : FVec F S4x2048x15872 .bf16) (main_arg1 : FVec F S3x4x128x256 .f32) (main_arg2 : FVec F S1x128 .f32) (main_arg3 : FVec F S1x128 .f32) : IVec S3x4x128x256 1 :=
  let main_v0 : FVec F S3x4x128x256 .f32 := Host.absf main_arg1
  let main_cst : FVec F S_ .f32 := constant S_ .f32 0x7F800000#32
  let main_v1 : FVec F S3x4x128x256 .f32 := broadcastInDim S3x4x128x256 ![] bcast_S_S3x4x128x256 main_cst
  let main_v2 : IVec S3x4x128x256 1 := cmpf .olt main_v0 main_v1
  let main_v3 : FVec F S1x128 .f32 := Host.absf main_arg2
  let main_cst_0 : FVec F S_ .f32 := constant S_ .f32 0x7F800000#32
  let main_v4 : FVec F S1x128 .f32 := broadcastInDim S1x128 ![] bcast_S_S1x128 main_cst_0
  let main_v5 : IVec S1x128 1 := cmpf .olt main_v3 main_v4
  let main_v6 : IVec S1x1x128x1 1 := shapeCast S1x1x128x1 main_v5 shapeCasts_S1x128_S1x1x128x1
  let main_v7 : IVec S3x4x128x256 1 := broadcastInDim S3x4x128x256 ![0, 1, 2, 3] bcast_S1x1x128x1_S3x4x128x256_0_1_2_3 main_v6
  let main_v8 : IVec S3x4x128x256 1 := andi main_v2 main_v7
  let main_v9 : FVec F S1x128 .f32 := Host.absf main_arg3
  let main_cst_1 : FVec F S_ .f32 := constant S_ .f32 0x7F800000#32
  let main_v10 : FVec F S1x128 .f32 := broadcastInDim S1x128 ![] bcast_S_S1x128 main_cst_1
  let main_v11 : IVec S1x128 1 := cmpf .olt main_v9 main_v10
  let main_v12 : IVec S1x1x128x1 1 := shapeCast S1x1x128x1 main_v11 shapeCasts_S1x128_S1x1x128x1
  let main_v13 : IVec S3x4x128x256 1 := broadcastInDim S3x4x128x256 ![0, 1, 2, 3] bcast_S1x1x128x1_S3x4x128x256_0_1_2_3 main_v12
  let main_v14 : IVec S3x4x128x256 1 := andi main_v8 main_v13
  main_v14
-- ==== Pre_finite_log_sums.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)

variable [Facts]

def fn {F : FTy → Type} [FloatOps F] (main_arg0 : FVec F S8192x512 .f32) (main_arg1 : FVec F S8192x512 .f32) (main_arg2 : FVec F S8192x512 .f32) (main_arg3 : FVec F S8192x512 .f32) (main_arg4 : FVec F S8192x512 .f32) (main_arg5 : FVec F S8192x512 .f32) : IVec S8192x512 1 :=
  let main_v0 : FVec F S8192x512 .f32 := Host.absf main_arg3
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg4
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : IVec S8192x512 1 := andi main_v2 main_v5
  let main_v7 : FVec F S8192x512 .f32 := Host.absf main_arg5
  let main_cst_1 : FVec F S_ .f32 := constant S_ .f32 0x7F800000#32
  let main_v8 : FVec F S8192x512 .f32 := broadcastInDim S8192x512 ![] bcast_S_S8192x512 main_cst_1
  let main_v9 : IVec S8192x512 1 := cmpf .olt main_v7 main_v8
  let main_v10 : IVec S8192x512 1 := andi main_v6 main_v9
  main_v10
-- ==== Pre_finite_norm_weights.lean ====
abbrev S4x2048x15872 : Shape := ⟨3, ![4, 2048, 15872]⟩
abbrev S1x128 : Shape := ⟨2, ![1, 128]⟩
abbrev S_ : Shape := ⟨0, ![]⟩

class Facts : Prop where
  bcast_S_S1x128 : S_.BroadcastsInDim S1x128 (![] : Fin 0 → Fin S1x128.rank)

variable [Facts]

def fn {F : FTy → Type} [FloatOps F] (main_arg0 : FVec F S4x2048x15872 .bf16) (main_arg1 : FVec F S1x128 .f32) (main_arg2 : FVec F S1x128 .f32) : IVec S1x128 1 :=
  let main_v0 : FVec F S1x128 .f32 := Host.absf main_arg1
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_v3 : FVec F S1x128 .f32 := Host.absf main_arg2
  let main_cst_0 : FVec F S_ .f32 := constant S_ .f32 0x7F800000#32
  let main_v4 : FVec F S1x128 .f32 := broadcastInDim S1x128 ![] bcast_S_S1x128 main_cst_0
  let main_v5 : IVec S1x128 1 := cmpf .olt main_v3 main_v4
  let main_v6 : IVec S1x128 1 := andi main_v2 main_v5
  main_v6
-- ==== Kernel.lean ====
abbrev S4x2048x15872 : Shape := ⟨3, ![4, 2048, 15872]⟩
abbrev S1x128 : Shape := ⟨2, ![1, 128]⟩
abbrev S32 : Shape := ⟨1, ![32]⟩
abbrev S32x1 : Shape := ⟨2, ![32, 1]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S4x2048x2048 : Shape := ⟨3, ![4, 2048, 2048]⟩
abbrev S1x256x512 : Shape := ⟨3, ![1, 256, 512]⟩
abbrev S1x2048x128 : Shape := ⟨3, ![1, 2048, 128]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S256x2048 : Shape := ⟨2, ![256, 2048]⟩

abbrev nBuf : Space → Nat
  | .hbm => 46
  | .vmem => 17
  | .smem => 0
  | _ => 0

abbrev bufTy : (tb : Table) → Fin (tcTables nBuf tb) → BufTy
  | .hbm, ⟨0, _⟩ => ⟨S4x2048x15872, .bf16⟩
  | .hbm, ⟨1, _⟩ => ⟨S1x128, .f32⟩
  | .hbm, ⟨2, _⟩ => ⟨S1x128, .f32⟩
  | .hbm, ⟨3, _⟩ => ⟨S32, .i32⟩
  | .hbm, ⟨4, _⟩ => ⟨S32x1, .i32⟩
  | .hbm, ⟨5, _⟩ => ⟨S32x64, .i32⟩
  | .hbm, ⟨6, _⟩ => ⟨S2048, .i32⟩
  | .hbm, ⟨7, _⟩ => ⟨S2048, .f32⟩
  | .hbm, ⟨8, _⟩ => ⟨S64, .i32⟩
  | .hbm, ⟨9, _⟩ => ⟨S1x64, .i32⟩
  | .hbm, ⟨10, _⟩ => ⟨S32x64, .i32⟩
  | .hbm, ⟨11, _⟩ => ⟨S2048, .i32⟩
  | .hbm, ⟨12, _⟩ => ⟨S2048, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S2048x1, .f32⟩
  | .hbm, ⟨28, _⟩ => ⟨S1x32, .f32⟩
  | .hbm, ⟨29, _⟩ => ⟨S2048x32, .f32⟩
  | .hbm, ⟨30, _⟩ => ⟨S2048x32, .f32⟩
  | .hbm, ⟨31, _⟩ => ⟨S2048x32, .f32⟩
  | .hbm, ⟨32, _⟩ => ⟨S2048x1, .f32⟩
  | .hbm, ⟨33, _⟩ => ⟨S1x32, .f32⟩
  | .hbm, ⟨34, _⟩ => ⟨S2048x32, .f32⟩
  | .hbm, ⟨35, _⟩ => ⟨S2048x32, .f32⟩
  | .hbm, ⟨36, _⟩ => ⟨S2048x32, .f32⟩
  | .hbm, ⟨37, _⟩ => ⟨S2048x32, .f32⟩
  | .hbm, ⟨38, _⟩ => ⟨S2048x32, .f32⟩
  | .hbm, ⟨39, _⟩ => ⟨S2048x32, .f32⟩
  | .hbm, ⟨40, _⟩ => ⟨S2048x32, .f32⟩
  | .hbm, ⟨41, _⟩ => ⟨S2048x128, .f32⟩
  | .hbm, ⟨42, _⟩ => ⟨S2048x32, .f32⟩
  | .hbm, ⟨43, _⟩ => ⟨S2048x32, .f32⟩
  | .hbm, ⟨44, _⟩ => ⟨S2048x128, .f32⟩
  | .hbm, ⟨45, _⟩ => ⟨S4x2048x2048, .bf16⟩
  | .local _ .vmem, ⟨0, _⟩ => ⟨S1x256x512, .bf16⟩
  | .local _ .vmem, ⟨1, _⟩ => ⟨S1x256x512, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S2048x128, .f32⟩
  | .local _ .vmem, ⟨11, _⟩ => ⟨S2048x128, .f32⟩
  | .local _ .vmem, ⟨12, _⟩ => ⟨S1x128, .f32⟩
  | .local _ .vmem, ⟨13, _⟩ => ⟨S1x128, .f32⟩
  | .local _ .vmem, ⟨14, _⟩ => ⟨S1x256x512, .bf16⟩
  | .local _ .vmem, ⟨15, _⟩ => ⟨S1x256x512, .bf16⟩
  | .local _ .vmem, ⟨16, _⟩ => ⟨S2048x128, .bf16⟩
  | _, _ => ⟨S4x2048x15872, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== ReferenceIdeal.lean ====
abbrev S4x2048x15872 : Shape := ⟨3, ![4, 2048, 15872]⟩
abbrev S1x128 : Shape := ⟨2, ![1, 128]⟩
abbrev S4x2048x3072 : Shape := ⟨3, ![4, 2048, 3072]⟩
abbrev S4x2048x2048 : Shape := ⟨3, ![4, 2048, 2048]⟩
abbrev S4x2048x512 : Shape := ⟨3, ![4, 2048, 512]⟩
abbrev S32 : Shape := ⟨1, ![32]⟩
abbrev S32x1 : Shape := ⟨2, ![32, 1]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S4x2048x16x128 : Shape := ⟨4, ![4, 2048, 16, 128]⟩
abbrev S128 : Shape := ⟨1, ![128]⟩
abbrev S4x2048x16 : Shape := ⟨3, ![4, 2048, 16]⟩
abbrev S4x2048x16x1 : Shape := ⟨4, ![4, 2048, 16, 1]⟩
abbrev S1x1x1x128 : Shape := ⟨4, ![1, 1, 1, 128]⟩
abbrev S4x2048x16x64 : Shape := ⟨4, ![4, 2048, 16, 64]⟩
abbrev S4x2048x16x32 : Shape := ⟨4, ![4, 2048, 16, 32]⟩
abbrev S1x2048x1x32 : Shape := ⟨4, ![1, 2048, 1, 32]⟩
abbrev S4x2048x4x128 : Shape := ⟨4, ![4, 2048, 4, 128]⟩
abbrev S4x2048x4 : Shape := ⟨3, ![4, 2048, 4]⟩
abbrev S4x2048x4x1 : Shape := ⟨4, ![4, 2048, 4, 1]⟩
abbrev S4x2048x4x64 : Shape := ⟨4, ![4, 2048, 4, 64]⟩
abbrev S4x2048x4x32 : Shape := ⟨4, ![4, 2048, 4, 32]⟩
abbrev S4x2048x4x4x128 : Shape := ⟨5, ![4, 2048, 4, 4, 128]⟩
abbrev S4x4x2048x2048x4 : Shape := ⟨5, ![4, 4, 2048, 2048, 4]⟩
abbrev S4x4x4x2048x2048 : Shape := ⟨5, ![4, 4, 4, 2048, 2048]⟩
abbrev S4x4x4x2048 : Shape := ⟨4, ![4, 4, 4, 2048]⟩
abbrev S4x4x4x2048x1 : Shape := ⟨5, ![4, 4, 4, 2048, 1]⟩
abbrev S4x4x128x4x2048 : Shape := ⟨5, ![4, 4, 128, 4, 2048]⟩

abbrev nBuf : Space → Nat
  | .hbm => 177
  | .vmem => 0
  | .smem => 0
  | _ => 0

abbrev hbmTy0_0 (i : Nat) : BufTy := match i % 128 with
  | 0 => ⟨S4x2048x15872, .bf16⟩
  | 1 => ⟨S1x128, .f32⟩
  | 2 => ⟨S1x128, .f32⟩
  | 3 => ⟨S4x2048x15872, .f32⟩
  | 4 => ⟨S4x2048x3072, .f32⟩
  | 5 => ⟨S4x2048x2048, .f32⟩
  | 6 => ⟨S4x2048x512, .f32⟩
  | 7 => ⟨S4x2048x512, .f32⟩
  | 8 => ⟨S32, .i32⟩
  | 9 => ⟨S32x1, .i32⟩
  | 10 => ⟨S32x64, .i32⟩
  | 11 => ⟨S2048, .i32⟩
  | 12 => ⟨S2048, .f32⟩
  | 13 => ⟨S64, .i32⟩
  | 14 => ⟨S1x64, .i32⟩
  | 15 => ⟨S32x64, .i32⟩
  | 16 => ⟨S2048, .i32⟩
  | 17 => ⟨S2048, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S32, .f32⟩
  | 26 => ⟨S_, .f32⟩
  | 27 => ⟨S32, .f32⟩
  | 28 => ⟨S32, .f32⟩
  | 29 => ⟨S_, .f32⟩
  | 30 => ⟨S32, .f32⟩
  | 31 => ⟨S32, .f32⟩
  | 32 => ⟨S2048x1, .f32⟩
  | 33 => ⟨S1x32, .f32⟩
  | 34 => ⟨S2048x32, .f32⟩
  | 35 => ⟨S2048x32, .f32⟩
  | 36 => ⟨S2048x32, .f32⟩
  | 37 => ⟨S2048x1, .f32⟩
  | 38 => ⟨S1x32, .f32⟩
  | 39 => ⟨S2048x32, .f32⟩
  | 40 => ⟨S2048x32, .f32⟩
  | 41 => ⟨S2048x32, .f32⟩
  | 42 => ⟨S4x2048x16x128, .f32⟩
  | 43 => ⟨S128, .f32⟩
  | 44 => ⟨S4x2048x16x128, .f32⟩
  | 45 => ⟨S_, .f32⟩
  | 46 => ⟨S4x2048x16, .f32⟩
  | 47 => ⟨S4x2048x16x1, .f32⟩
  | 48 => ⟨S_, .f32⟩
  | 49 => ⟨S4x2048x16x1, .f32⟩
  | 50 => ⟨S4x2048x16x1, .f32⟩
  | 51 => ⟨S_, .f32⟩
  | 52 => ⟨S4x2048x16x1, .f32⟩
  | 53 => ⟨S4x2048x16x1, .f32⟩
  | 54 => ⟨S4x2048x16x1, .f32⟩
  | 55 => ⟨S4x2048x16x128, .f32⟩
  | 56 => ⟨S4x2048x16x128, .f32⟩
  | 57 => ⟨S1x1x1x128, .f32⟩
  | 58 => ⟨S4x2048x16x128, .f32⟩
  | 59 => ⟨S4x2048x16x128, .f32⟩
  | 60 => ⟨S4x2048x16x64, .f32⟩
  | 61 => ⟨S4x2048x16x32, .f32⟩
  | 62 => ⟨S4x2048x16x32, .f32⟩
  | 63 => ⟨S2048x32, .f32⟩
  | 64 => ⟨S1x2048x1x32, .f32⟩
  | 65 => ⟨S2048x32, .f32⟩
  | 66 => ⟨S1x2048x1x32, .f32⟩
  | 67 => ⟨S4x2048x16x32, .f32⟩
  | 68 => ⟨S4x2048x16x32, .f32⟩
  | 69 => ⟨S4x2048x16x32, .f32⟩
  | 70 => ⟨S4x2048x16x32, .f32⟩
  | 71 => ⟨S4x2048x16x32, .f32⟩
  | 72 => ⟨S4x2048x16x32, .f32⟩
  | 73 => ⟨S4x2048x16x32, .f32⟩
  | 74 => ⟨S4x2048x16x32, .f32⟩
  | 75 => ⟨S4x2048x16x32, .f32⟩
  | 76 => ⟨S4x2048x16x32, .f32⟩
  | 77 => ⟨S4x2048x16x64, .f32⟩
  | 78 => ⟨S4x2048x16x64, .f32⟩
  | 79 => ⟨S4x2048x16x32, .f32⟩
  | 80 => ⟨S4x2048x16x32, .f32⟩
  | 81 => ⟨S2048x32, .f32⟩
  | 82 => ⟨S1x2048x1x32, .f32⟩
  | 83 => ⟨S2048x32, .f32⟩
  | 84 => ⟨S1x2048x1x32, .f32⟩
  | 85 => ⟨S4x2048x16x32, .f32⟩
  | 86 => ⟨S4x2048x16x32, .f32⟩
  | 87 => ⟨S4x2048x16x32, .f32⟩
  | 88 => ⟨S4x2048x16x32, .f32⟩
  | 89 => ⟨S4x2048x16x32, .f32⟩
  | 90 => ⟨S4x2048x16x32, .f32⟩
  | 91 => ⟨S4x2048x16x32, .f32⟩
  | 92 => ⟨S4x2048x16x32, .f32⟩
  | 93 => ⟨S4x2048x16x32, .f32⟩
  | 94 => ⟨S4x2048x16x32, .f32⟩
  | 95 => ⟨S4x2048x16x64, .f32⟩
  | 96 => ⟨S4x2048x16x128, .f32⟩
  | 97 => ⟨S4x2048x4x128, .f32⟩
  | 98 => ⟨S128, .f32⟩
  | 99 => ⟨S4x2048x4x128, .f32⟩
  | 100 => ⟨S_, .f32⟩
  | 101 => ⟨S4x2048x4, .f32⟩
  | 102 => ⟨S4x2048x4x1, .f32⟩
  | 103 => ⟨S_, .f32⟩
  | 104 => ⟨S4x2048x4x1, .f32⟩
  | 105 => ⟨S4x2048x4x1, .f32⟩
  | 106 => ⟨S_, .f32⟩
  | 107 => ⟨S4x2048x4x1, .f32⟩
  | 108 => ⟨S4x2048x4x1, .f32⟩
  | 109 => ⟨S4x2048x4x1, .f32⟩
  | 110 => ⟨S4x2048x4x128, .f32⟩
  | 111 => ⟨S4x2048x4x128, .f32⟩
  | 112 => ⟨S1x1x1x128, .f32⟩
  | 113 => ⟨S4x2048x4x128, .f32⟩
  | 114 => ⟨S4x2048x4x128, .f32⟩
  | 115 => ⟨S4x2048x4x64, .f32⟩
  | 116 => ⟨S4x2048x4x32, .f32⟩
  | 117 => ⟨S4x2048x4x32, .f32⟩
  | 118 => ⟨S2048x32, .f32⟩
  | 119 => ⟨S1x2048x1x32, .f32⟩
  | 120 => ⟨S2048x32, .f32⟩
  | 121 => ⟨S1x2048x1x32, .f32⟩
  | 122 => ⟨S4x2048x4x32, .f32⟩
  | 123 => ⟨S4x2048x4x32, .f32⟩
  | 124 => ⟨S4x2048x4x32, .f32⟩
  | 125 => ⟨S4x2048x4x32, .f32⟩
  | 126 => ⟨S4x2048x4x32, .f32⟩
  | 127 => ⟨S4x2048x4x32, .f32⟩
  | _ => ⟨S4x2048x15872, .bf16⟩

abbrev hbmTy0_1 (i : Nat) : BufTy := match i % 128 with
  | 0 => ⟨S4x2048x4x32, .f32⟩
  | 1 => ⟨S4x2048x4x32, .f32⟩
  | 2 => ⟨S4x2048x4x32, .f32⟩
  | 3 => ⟨S4x2048x4x32, .f32⟩
  | 4 => ⟨S4x2048x4x64, .f32⟩
  | 5 => ⟨S4x2048x4x64, .f32⟩
  | 6 => ⟨S4x2048x4x32, .f32⟩
  | 7 => ⟨S4x2048x4x32, .f32⟩
  | 8 => ⟨S2048x32, .f32⟩
  | 9 => ⟨S1x2048x1x32, .f32⟩
  | 10 => ⟨S2048x32, .f32⟩
  | 11 => ⟨S1x2048x1x32, .f32⟩
  | 12 => ⟨S4x2048x4x32, .f32⟩
  | 13 => ⟨S4x2048x4x32, .f32⟩
  | 14 => ⟨S4x2048x4x32, .f32⟩
  | 15 => ⟨S4x2048x4x32, .f32⟩
  | 16 => ⟨S4x2048x4x32, .f32⟩
  | 17 => ⟨S4x2048x4x32, .f32⟩
  | 18 => ⟨S4x2048x4x32, .f32⟩
  | 19 => ⟨S4x2048x4x32, .f32⟩
  | 20 => ⟨S4x2048x4x32, .f32⟩
  | 21 => ⟨S4x2048x4x32, .f32⟩
  | 22 => ⟨S4x2048x4x64, .f32⟩
  | 23 => ⟨S4x2048x4x128, .f32⟩
  | 24 => ⟨S4x2048x4x128, .f32⟩
  | 25 => ⟨S4x2048x4x4x128, .f32⟩
  | 26 => ⟨S4x4x2048x2048x4, .f32⟩
  | 27 => ⟨S4x4x4x2048x2048, .f32⟩
  | 28 => ⟨S_, .f32⟩
  | 29 => ⟨S4x4x4x2048x2048, .f32⟩
  | 30 => ⟨S4x4x4x2048x2048, .f32⟩
  | 31 => ⟨S_, .f32⟩
  | 32 => ⟨S4x4x4x2048, .f32⟩
  | 33 => ⟨S_, .f32⟩
  | 34 => ⟨S4x4x4x2048, .f32⟩
  | 35 => ⟨S4x4x4x2048, .f32⟩
  | 36 => ⟨S4x4x4x2048x1, .f32⟩
  | 37 => ⟨S4x4x4x2048x2048, .f32⟩
  | 38 => ⟨S4x4x4x2048x2048, .f32⟩
  | 39 => ⟨S4x4x4x2048x2048, .f32⟩
  | 40 => ⟨S_, .f32⟩
  | 41 => ⟨S4x4x4x2048, .f32⟩
  | 42 => ⟨S4x4x4x2048x1, .f32⟩
  | 43 => ⟨S4x4x4x2048x2048, .f32⟩
  | 44 => ⟨S4x4x4x2048x2048, .f32⟩
  | 45 => ⟨S4x4x128x4x2048, .f32⟩
  | 46 => ⟨S4x2048x4x4x128, .f32⟩
  | 47 => ⟨S4x2048x2048, .f32⟩
  | 48 => ⟨S4x2048x2048, .bf16⟩
  | _ => ⟨S4x2048x15872, .bf16⟩

abbrev hbmTy (i : Nat) : BufTy := match i / 128 with
  | 0 => hbmTy0_0 i
  | 1 => hbmTy0_1 i
  | _ => ⟨S4x2048x15872, .bf16⟩

abbrev bufTy : (tb : Table) → Fin (tcTables nBuf tb) → BufTy
  | .hbm, ⟨i, _⟩ => hbmTy i
  | _, _ => ⟨S4x2048x15872, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_cst_6 : Ref sig .tc := ⟨.hbm, 100, rfl⟩
abbrev main_v90 : Ref sig .tc := ⟨.hbm, 101, rfl⟩
abbrev main_v91 : Ref sig .tc := ⟨.hbm, 102, rfl⟩
abbrev main_cst_7 : Ref sig .tc := ⟨.hbm, 103, rfl⟩
abbrev main_v92 : Ref sig .tc := ⟨.hbm, 104, rfl⟩
abbrev main_v93 : Ref sig .tc := ⟨.hbm, 105, rfl⟩
abbrev main_cst_8 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_cst_9 : Ref sig .tc := ⟨.hbm, 156, rfl⟩
abbrev main_v143 : Ref sig .tc := ⟨.hbm, 157, rfl⟩
abbrev main_v144 : Ref sig .tc := ⟨.hbm, 158, rfl⟩
abbrev main_cst_10 : Ref sig .tc := ⟨.hbm, 159, rfl⟩
abbrev main_v145 : Ref sig .tc := ⟨.hbm, 160, rfl⟩
abbrev main_cst_11 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_cst_12 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩

abbrev nD : Nat := 1
abbrev τ : Topo := Topo.v7x

variable {F : FTy → Type} [FloatOps F]
-- ==== Kernel2.lean ====
abbrev S8192x4096 : Shape := ⟨2, ![8192, 4096]⟩
abbrev S1x4096x11008 : Shape := ⟨3, ![1, 4096, 11008]⟩
abbrev S4096x11008 : Shape := ⟨2, ![4096, 11008]⟩
abbrev S8192x11008 : Shape := ⟨2, ![8192, 11008]⟩
abbrev S1024x4096 : Shape := ⟨2, ![1024, 4096]⟩
abbrev S4096x256 : Shape := ⟨2, ![4096, 256]⟩
abbrev S1024x256 : Shape := ⟨2, ![1024, 256]⟩

abbrev nBuf : Space → Nat
  | .hbm => 6
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S1x4096x11008, .f32⟩
  | .hbm, ⟨2, _⟩ => ⟨S1x4096x11008, .f32⟩
  | .hbm, ⟨3, _⟩ => ⟨S4096x11008, .f32⟩
  | .hbm, ⟨4, _⟩ => ⟨S4096x11008, .f32⟩
  | .hbm, ⟨5, _⟩ => ⟨S8192x11008, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S1024x256, .bf16⟩
  | .local _ .vmem, ⟨7, _⟩ => ⟨S1024x256, .bf16⟩
  | .local _ .vmem, ⟨8, _⟩ => ⟨S4096x256, .bf16⟩
  | .local _ .vmem, ⟨9, _⟩ => ⟨S4096x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![43, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x4096 : Shape := ⟨2, ![8192, 4096]⟩
abbrev S1x4096x11008 : Shape := ⟨3, ![1, 4096, 11008]⟩
abbrev S4096x11008 : Shape := ⟨2, ![4096, 11008]⟩
abbrev S8192x11008 : Shape := ⟨2, ![8192, 11008]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x11008, .f32⟩
  | .hbm, ⟨2, _⟩ => ⟨S1x4096x11008, .f32⟩
  | .hbm, ⟨3, _⟩ => ⟨S8192x4096, .f32⟩
  | .hbm, ⟨4, _⟩ => ⟨S4096x11008, .f32⟩
  | .hbm, ⟨5, _⟩ => ⟨S8192x11008, .f32⟩
  | .hbm, ⟨6, _⟩ => ⟨S8192x11008, .f32⟩
  | .hbm, ⟨7, _⟩ => ⟨S8192x11008, .f32⟩
  | .hbm, ⟨8, _⟩ => ⟨S_, .f32⟩
  | .hbm, ⟨9, _⟩ => ⟨S8192x11008, .f32⟩
  | .hbm, ⟨10, _⟩ => ⟨S8192x11008, .f32⟩
  | .hbm, ⟨11, _⟩ => ⟨S_, .f32⟩
  | .hbm, ⟨12, _⟩ => ⟨S8192x11008, .f32⟩
  | .hbm, ⟨13, _⟩ => ⟨S8192x11008, .f32⟩
  | .hbm, ⟨14, _⟩ => ⟨S8192x11008, .f32⟩
  | .hbm, ⟨15, _⟩ => ⟨S4096x11008, .f32⟩
  | .hbm, ⟨16, _⟩ => ⟨S8192x11008, .f32⟩
  | .hbm, ⟨17, _⟩ => ⟨S8192x11008, .f32⟩
  | .hbm, ⟨18, _⟩ => ⟨S8192x11008, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Kernel3.lean ====
abbrev S8192x4096 : Shape := ⟨2, ![8192, 4096]⟩
abbrev S1x4096x15872 : Shape := ⟨3, ![1, 4096, 15872]⟩
abbrev S4096x15872 : Shape := ⟨2, ![4096, 15872]⟩
abbrev S8192x15872 : Shape := ⟨2, ![8192, 15872]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1x4096x15872, .f32⟩
  | .hbm, ⟨2, _⟩ => ⟨S4096x15872, .f32⟩
  | .hbm, ⟨3, _⟩ => ⟨S8192x15872, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .bf16⟩
  | .local _ .vmem, ⟨5, _⟩ => ⟨S1024x512, .bf16⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![31, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8192x4096 : Shape := ⟨2, ![8192, 4096]⟩
abbrev S1x4096x15872 : Shape := ⟨3, ![1, 4096, 15872]⟩
abbrev S4096x15872 : Shape := ⟨2, ![4096, 15872]⟩
abbrev S8192x15872 : Shape := ⟨2, ![8192, 15872]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x15872, .f32⟩
  | .hbm, ⟨2, _⟩ => ⟨S8192x4096, .f32⟩
  | .hbm, ⟨3, _⟩ => ⟨S4096x15872, .f32⟩
  | .hbm, ⟨4, _⟩ => ⟨S8192x15872, .f32⟩
  | .hbm, ⟨5, _⟩ => ⟨S8192x15872, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S8192x11008 : Shape := ⟨2, ![8192, 11008]⟩
abbrev S1x11008x4096 : Shape := ⟨3, ![1, 11008, 4096]⟩
abbrev S8192x4096 : Shape := ⟨2, ![8192, 4096]⟩
abbrev S11008x4096 : Shape := ⟨2, ![11008, 4096]⟩
abbrev S512x5504 : Shape := ⟨2, ![512, 5504]⟩
abbrev S5504x512 : Shape := ⟨2, ![5504, 512]⟩
abbrev S512x512 : Shape := ⟨2, ![512, 512]⟩

abbrev nBuf : Space → Nat
  | .hbm => 5
  | .vmem => 9
  | .smem => 0
  | _ => 0

abbrev bufTy : (tb : Table) → Fin (tcTables nBuf tb) → BufTy
  | .hbm, ⟨0, _⟩ => ⟨S8192x11008, .bf16⟩
  | .hbm, ⟨1, _⟩ => ⟨S1x11008x4096, .f32⟩
  | .hbm, ⟨2, _⟩ => ⟨S8192x4096, .f32⟩
  | .hbm, ⟨3, _⟩ => ⟨S11008x4096, .f32⟩
  | .hbm, ⟨4, _⟩ => ⟨S8192x4096, .f32⟩
  | .local _ .vmem, ⟨0, _⟩ => ⟨S512x5504, .bf16⟩
  | .local _ .vmem, ⟨1, _⟩ => ⟨S512x5504, .bf16⟩
  | .local _ .vmem, ⟨2, _⟩ => ⟨S5504x512, .f32⟩
  | .local _ .vmem, ⟨3, _⟩ => ⟨S5504x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S5504x512, .bf16⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5504x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8192x11008 : Shape := ⟨2, ![8192, 11008]⟩
abbrev S1x11008x4096 : Shape := ⟨3, ![1, 11008, 4096]⟩
abbrev S8192x4096 : Shape := ⟨2, ![8192, 4096]⟩
abbrev S8192x5504 : Shape := ⟨2, ![8192, 5504]⟩
abbrev S1x5504x4096 : Shape := ⟨3, ![1, 5504, 4096]⟩
abbrev S5504x4096 : Shape := ⟨2, ![5504, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S1x11008x4096, .f32⟩
  | .hbm, ⟨2, _⟩ => ⟨S8192x4096, .f32⟩
  | .hbm, ⟨3, _⟩ => ⟨S8192x5504, .bf16⟩
  | .hbm, ⟨4, _⟩ => ⟨S8192x5504, .f32⟩
  | .hbm, ⟨5, _⟩ => ⟨S1x5504x4096, .f32⟩
  | .hbm, ⟨6, _⟩ => ⟨S5504x4096, .f32⟩
  | .hbm, ⟨7, _⟩ => ⟨S8192x4096, .f32⟩
  | .hbm, ⟨8, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x11008 : Shape := ⟨2, ![8192, 11008]⟩
abbrev S1x11008x4096 : Shape := ⟨3, ![1, 11008, 4096]⟩
abbrev S8192x4096 : Shape := ⟨2, ![8192, 4096]⟩
abbrev S11008x4096 : Shape := ⟨2, ![11008, 4096]⟩
abbrev S512x5504 : Shape := ⟨2, ![512, 5504]⟩
abbrev S5504x512 : Shape := ⟨2, ![5504, 512]⟩
abbrev S512x512 : Shape := ⟨2, ![512, 512]⟩

abbrev nBuf : Space → Nat
  | .hbm => 5
  | .vmem => 9
  | .smem => 0
  | _ => 0

abbrev bufTy : (tb : Table) → Fin (tcTables nBuf tb) → BufTy
  | .hbm, ⟨0, _⟩ => ⟨S8192x11008, .bf16⟩
  | .hbm, ⟨1, _⟩ => ⟨S1x11008x4096, .f32⟩
  | .hbm, ⟨2, _⟩ => ⟨S8192x4096, .f32⟩
  | .hbm, ⟨3, _⟩ => ⟨S11008x4096, .f32⟩
  | .hbm, ⟨4, _⟩ => ⟨S8192x4096, .f32⟩
  | .local _ .vmem, ⟨0, _⟩ => ⟨S512x5504, .bf16⟩
  | .local _ .vmem, ⟨1, _⟩ => ⟨S512x5504, .bf16⟩
  | .local _ .vmem, ⟨2, _⟩ => ⟨S5504x512, .f32⟩
  | .local _ .vmem, ⟨3, _⟩ => ⟨S5504x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S5504x512, .bf16⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5504x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8192x11008 : Shape := ⟨2, ![8192, 11008]⟩
abbrev S1x11008x4096 : Shape := ⟨3, ![1, 11008, 4096]⟩
abbrev S8192x4096 : Shape := ⟨2, ![8192, 4096]⟩
abbrev S8192x5504 : Shape := ⟨2, ![8192, 5504]⟩
abbrev S1x5504x4096 : Shape := ⟨3, ![1, 5504, 4096]⟩
abbrev S5504x4096 : Shape := ⟨2, ![5504, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S1x11008x4096, .f32⟩
  | .hbm, ⟨2, _⟩ => ⟨S8192x4096, .f32⟩
  | .hbm, ⟨3, _⟩ => ⟨S8192x5504, .bf16⟩
  | .hbm, ⟨4, _⟩ => ⟨S8192x5504, .f32⟩
  | .hbm, ⟨5, _⟩ => ⟨S1x5504x4096, .f32⟩
  | .hbm, ⟨6, _⟩ => ⟨S5504x4096, .f32⟩
  | .hbm, ⟨7, _⟩ => ⟨S8192x4096, .f32⟩
  | .hbm, ⟨8, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x4096 : Shape := ⟨2, ![8192, 4096]⟩
abbrev S1x4096x4096 : Shape := ⟨3, ![1, 4096, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .hbm, ⟨3, _⟩ => ⟨S4096x4096, .f32⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8192x4096 : Shape := ⟨2, ![8192, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .hbm, ⟨3, _⟩ => ⟨S8192x4096, .f32⟩
  | .hbm, ⟨4, _⟩ => ⟨S4096x4096, .f32⟩
  | .hbm, ⟨5, _⟩ => ⟨S8192x4096, .f32⟩
  | .hbm, ⟨6, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8192x2048 : Shape := ⟨2, ![8192, 2048]⟩
abbrev S8192x512 : Shape := ⟨2, ![8192, 512]⟩
abbrev S8192x15872 : Shape := ⟨2, ![8192, 15872]⟩
abbrev S1x2x4096 : Shape := ⟨3, ![1, 2, 4096]⟩
abbrev S1x2048x4096 : Shape := ⟨3, ![1, 2048, 4096]⟩
abbrev S1x512x4096 : Shape := ⟨3, ![1, 512, 4096]⟩
abbrev S2x4096 : Shape := ⟨2, ![2, 4096]⟩
abbrev S2048x4096 : Shape := ⟨2, ![2048, 4096]⟩
abbrev S512x4096 : Shape := ⟨2, ![512, 4096]⟩
abbrev S8192x4096 : Shape := ⟨2, ![8192, 4096]⟩
abbrev S1024x2048 : Shape := ⟨2, ![1024, 2048]⟩
abbrev S1024x512 : Shape := ⟨2, ![1024, 512]⟩
abbrev S2x512 : Shape := ⟨2, ![2, 512]⟩
abbrev S2048x512 : Shape := ⟨2, ![2048, 512]⟩
abbrev S512x512 : Shape := ⟨2, ![512, 512]⟩
abbrev S1x512 : Shape := ⟨2, ![1, 512]⟩

abbrev nBuf : Space → Nat
  | .hbm => 10
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S8192x15872, .bf16⟩
  | .hbm, ⟨3, _⟩ => ⟨S1x2x4096, .f32⟩
  | .hbm, ⟨4, _⟩ => ⟨S1x2048x4096, .f32⟩
  | .hbm, ⟨5, _⟩ => ⟨S1x512x4096, .f32⟩
  | .hbm, ⟨6, _⟩ => ⟨S2x4096, .f32⟩
  | .hbm, ⟨7, _⟩ => ⟨S2048x4096, .f32⟩
  | .hbm, ⟨8, _⟩ => ⟨S512x4096, .f32⟩
  | .hbm, ⟨9, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S2x512, .f32⟩
  | .local _ .vmem, ⟨9, _⟩ => ⟨S2x512, .f32⟩
  | .local _ .vmem, ⟨10, _⟩ => ⟨S2048x512, .f32⟩
  | .local _ .vmem, ⟨11, _⟩ => ⟨S2048x512, .f32⟩
  | .local _ .vmem, ⟨12, _⟩ => ⟨S512x512, .f32⟩
  | .local _ .vmem, ⟨13, _⟩ => ⟨S512x512, .f32⟩
  | .local _ .vmem, ⟨14, _⟩ => ⟨S1024x512, .bf16⟩
  | .local _ .vmem, ⟨15, _⟩ => ⟨S1024x512, .bf16⟩
  | .local _ .vmem, ⟨16, _⟩ => ⟨S2048x512, .bf16⟩
  | .local _ .vmem, ⟨17, _⟩ => ⟨S512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.addi c23_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference7Ideal.lean ====
abbrev S8192x2048 : Shape := ⟨2, ![8192, 2048]⟩
abbrev S8192x512 : Shape := ⟨2, ![8192, 512]⟩
abbrev S8192x15872 : Shape := ⟨2, ![8192, 15872]⟩
abbrev S1x2x4096 : Shape := ⟨3, ![1, 2, 4096]⟩
abbrev S1x2048x4096 : Shape := ⟨3, ![1, 2048, 4096]⟩
abbrev S1x512x4096 : Shape := ⟨3, ![1, 512, 4096]⟩
abbrev S8192x4096 : Shape := ⟨2, ![8192, 4096]⟩
abbrev S1x1x4096 : Shape := ⟨3, ![1, 1, 4096]⟩
abbrev S4096 : Shape := ⟨1, ![4096]⟩
abbrev S1x4096 : Shape := ⟨2, ![1, 4096]⟩
abbrev S_ : Shape := ⟨0, ![]⟩
abbrev S2048x4096 : Shape := ⟨2, ![2048, 4096]⟩
abbrev S512x4096 : Shape := ⟨2, ![512, 4096]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S8192x15872, .bf16⟩
  | .hbm, ⟨3, _⟩ => ⟨S1x2x4096, .f32⟩
  | .hbm, ⟨4, _⟩ => ⟨S1x2048x4096, .f32⟩
  | .hbm, ⟨5, _⟩ => ⟨S1x512x4096, .f32⟩
  | .hbm, ⟨6, _⟩ => ⟨S8192x2048, .f32⟩
  | .hbm, ⟨7, _⟩ => ⟨S8192x512, .f32⟩
  | .hbm, ⟨8, _⟩ => ⟨S8192x4096, .bf16⟩
  | .hbm, ⟨9, _⟩ => ⟨S8192x4096, .f32⟩
  | .hbm, ⟨10, _⟩ => ⟨S8192x4096, .bf16⟩
  | .hbm, ⟨11, _⟩ => ⟨S8192x4096, .f32⟩
  | .hbm, ⟨12, _⟩ => ⟨S1x1x4096, .f32⟩
  | .hbm, ⟨13, _⟩ => ⟨S4096, .f32⟩
  | .hbm, ⟨14, _⟩ => ⟨S1x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S1x1x4096, .f32⟩
  | .hbm, ⟨26, _⟩ => ⟨S4096, .f32⟩
  | .hbm, ⟨27, _⟩ => ⟨S1x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S_, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S2048x4096, .f32⟩
  | .hbm, ⟨39, _⟩ => ⟨S8192x4096, .f32⟩
  | .hbm, ⟨40, _⟩ => ⟨S8192x4096, .f32⟩
  | .hbm, ⟨41, _⟩ => ⟨S512x4096, .f32⟩
  | .hbm, ⟨42, _⟩ => ⟨S8192x4096, .f32⟩
  | .hbm, ⟨43, _⟩ => ⟨S8192x4096, .f32⟩
  | .hbm, ⟨44, _⟩ => ⟨S8192x4096, .f32⟩
  | .hbm, ⟨45, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Kernel8.lean ====
abbrev S8192x4096 : Shape := ⟨2, ![8192, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S4096, .f32⟩
  | .hbm, ⟨3, _⟩ => ⟨S1x4096, .f32⟩
  | .hbm, ⟨4, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S8192x4096 : Shape := ⟨2, ![8192, 4096]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel9.lean ====
abbrev S8192x512 : Shape := ⟨2, ![8192, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S8192x512 : Shape := ⟨2, ![8192, 512]⟩
abbrev S1x8192x512 : Shape := ⟨3, ![1, 8192, 512]⟩
abbrev S3x8192x512 : Shape := ⟨3, ![3, 8192, 512]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S1x8192x512, .f32⟩
  | .hbm, ⟨7, _⟩ => ⟨S1x8192x512, .f32⟩
  | .hbm, ⟨8, _⟩ => ⟨S1x8192x512, .f32⟩
  | .hbm, ⟨9, _⟩ => ⟨S3x8192x512, .f32⟩
  | .hbm, ⟨10, _⟩ => ⟨S_, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S1x8192x512, .f32⟩
  | .hbm, ⟨16, _⟩ => ⟨S3x8192x512, .f32⟩
  | .hbm, ⟨17, _⟩ => ⟨S3x8192x512, .f32⟩
  | .hbm, ⟨18, _⟩ => ⟨S3x8192x512, .f32⟩
  | .hbm, ⟨19, _⟩ => ⟨S_, .f32⟩
  | .hbm, ⟨20, _⟩ => ⟨S8192x512, .f32⟩
  | .hbm, ⟨21, _⟩ => ⟨S1x8192x512, .f32⟩
  | .hbm, ⟨22, _⟩ => ⟨S3x8192x512, .f32⟩
  | .hbm, ⟨23, _⟩ => ⟨S3x8192x512, .f32⟩
  | .hbm, ⟨24, _⟩ => ⟨S1x8192x512, .f32⟩
  | .hbm, ⟨25, _⟩ => ⟨S1x8192x512, .f32⟩
  | .hbm, ⟨26, _⟩ => ⟨S1x8192x512, .f32⟩
  | .hbm, ⟨27, _⟩ => ⟨S3x8192x512, .f32⟩
  | .hbm, ⟨28, _⟩ => ⟨S3x8192x512, .f32⟩
  | .hbm, ⟨29, _⟩ => ⟨S_, .f32⟩
  | .hbm, ⟨30, _⟩ => ⟨S8192x512, .f32⟩
  | .hbm, ⟨31, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel10.lean ====
abbrev S4x2048x15872 : Shape := ⟨3, ![4, 2048, 15872]⟩
abbrev S1x4x128x128 : Shape := ⟨4, ![1, 4, 128, 128]⟩
abbrev S1x128 : Shape := ⟨2, ![1, 128]⟩
abbrev S4x128x253952 : Shape := ⟨3, ![4, 128, 253952]⟩
abbrev S4x128x8192 : Shape := ⟨3, ![4, 128, 8192]⟩
abbrev S1x128x512 : Shape := ⟨3, ![1, 128, 512]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩
abbrev S1x1x128x128 : Shape := ⟨4, ![1, 1, 128, 128]⟩

abbrev nBuf : Space → Nat
  | .hbm => 7
  | .vmem => 13
  | .smem => 0
  | _ => 0

abbrev bufTy : (tb : Table) → Fin (tcTables nBuf tb) → BufTy
  | .hbm, ⟨0, _⟩ => ⟨S4x2048x15872, .bf16⟩
  | .hbm, ⟨1, _⟩ => ⟨S1x4x128x128, .f32⟩
  | .hbm, ⟨2, _⟩ => ⟨S1x128, .f32⟩
  | .hbm, ⟨3, _⟩ => ⟨S1x128, .f32⟩
  | .hbm, ⟨4, _⟩ => ⟨S4x128x253952, .bf16⟩
  | .hbm, ⟨5, _⟩ => ⟨S4x128x8192, .f32⟩
  | .hbm, ⟨6, _⟩ => ⟨S4x128x8192, .f32⟩
  | .local _ .vmem, ⟨0, _⟩ => ⟨S1x128x512, .bf16⟩
  | .local _ .vmem, ⟨1, _⟩ => ⟨S1x128x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x4x128x128, .f32⟩
  | .local _ .vmem, ⟨7, _⟩ => ⟨S1x128, .f32⟩
  | .local _ .vmem, ⟨8, _⟩ => ⟨S1x128, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | _, _ => ⟨S4x2048x15872, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.muli arg1 c31_i32
  let c8_i32 : BitVec 32 := 8#32
  let v1 : BitVec 32 := Scalar.addi v0 c8_i32
  let c0_i32 : BitVec 32 := 0#32
  ![arg0.toNat, arg2.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.muli arg1 c31_i32
  let c11_i32 : BitVec 32 := 11#32
  let v1 : BitVec 32 := Scalar.addi v0 c11_i32
  let c0_i32 : BitVec 32 := 0#32
  let c0_i32_0 : BitVec 32 := 0#32
  ![arg0.toNat, c0_i32.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.muli arg1 c31_i32
  let c14_i32 : BitVec 32 := 14#32
  let v1 : BitVec 32 := Scalar.addi v0 c14_i32
  let c0_i32 : BitVec 32 := 0#32
  let c0_i32_0 : BitVec 32 := 0#32
  ![arg0.toNat, c0_i32.toNat, v1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference10Ideal.lean ====
abbrev S4x2048x15872 : Shape := ⟨3, ![4, 2048, 15872]⟩
abbrev S1x4x128x128 : Shape := ⟨4, ![1, 4, 128, 128]⟩
abbrev S1x128 : Shape := ⟨2, ![1, 128]⟩
abbrev S4x2048x4608 : Shape := ⟨3, ![4, 2048, 4608]⟩
abbrev S4x2048x1536 : Shape := ⟨3, ![4, 2048, 1536]⟩
abbrev S4x2048x3x4x128 : Shape := ⟨5, ![4, 2048, 3, 4, 128]⟩
abbrev S4x2048x1x4x128 : Shape := ⟨5, ![4, 2048, 1, 4, 128]⟩
abbrev S4x2048x4x128 : Shape := ⟨4, ![4, 2048, 4, 128]⟩
abbrev S128 : Shape := ⟨1, ![128]⟩
abbrev S_ : Shape := ⟨0, ![]⟩
abbrev S4x2048x4 : Shape := ⟨3, ![4, 2048, 4]⟩
abbrev S4x2048x4x1 : Shape := ⟨4, ![4, 2048, 4, 1]⟩
abbrev S1x1x1x128 : Shape := ⟨4, ![1, 1, 1, 128]⟩
abbrev S4x128x16x4x128 : Shape := ⟨5, ![4, 128, 16, 4, 128]⟩
abbrev S4x16x4x128x128 : Shape := ⟨5, ![4, 16, 4, 128, 128]⟩
abbrev S1x1x4x128x128 : Shape := ⟨5, ![1, 1, 4, 128, 128]⟩
abbrev S4x16x4x128 : Shape := ⟨4, ![4, 16, 4, 128]⟩
abbrev S4x16x4x128x1 : Shape := ⟨5, ![4, 16, 4, 128, 1]⟩
abbrev S4x128x16x4 : Shape := ⟨4, ![4, 128, 16, 4]⟩
abbrev S4x128x16x4x1 : Shape := ⟨5, ![4, 128, 16, 4, 1]⟩
abbrev S4x128x8192 : Shape := ⟨3, ![4, 128, 8192]⟩

abbrev nBuf : Space → Nat
  | .hbm => 77
  | .vmem => 0
  | .smem => 0
  | _ => 0

abbrev bufTy : (tb : Table) → Fin (tcTables nBuf tb) → BufTy
  | .hbm, ⟨0, _⟩ => ⟨S4x2048x15872, .bf16⟩
  | .hbm, ⟨1, _⟩ => ⟨S1x4x128x128, .f32⟩
  | .hbm, ⟨2, _⟩ => ⟨S1x128, .f32⟩
  | .hbm, ⟨3, _⟩ => ⟨S1x128, .f32⟩
  | .hbm, ⟨4, _⟩ => ⟨S4x2048x15872, .f32⟩
  | .hbm, ⟨5, _⟩ => ⟨S4x2048x4608, .f32⟩
  | .hbm, ⟨6, _⟩ => ⟨S4x2048x1536, .f32⟩
  | .hbm, ⟨7, _⟩ => ⟨S4x2048x1536, .f32⟩
  | .hbm, ⟨8, _⟩ => ⟨S4x2048x1536, .f32⟩
  | .hbm, ⟨9, _⟩ => ⟨S4x2048x3x4x128, .f32⟩
  | .hbm, ⟨10, _⟩ => ⟨S4x2048x1x4x128, .f32⟩
  | .hbm, ⟨11, _⟩ => ⟨S4x2048x4x128, .f32⟩
  | .hbm, ⟨12, _⟩ => ⟨S128, .f32⟩
  | .hbm, ⟨13, _⟩ => ⟨S4x2048x4x128, .f32⟩
  | .hbm, ⟨14, _⟩ => ⟨S_, .f32⟩
  | .hbm, ⟨15, _⟩ => ⟨S4x2048x4, .f32⟩
  | .hbm, ⟨16, _⟩ => ⟨S4x2048x4x1, .f32⟩
  | .hbm, ⟨17, _⟩ => ⟨S_, .f32⟩
  | .hbm, ⟨18, _⟩ => ⟨S4x2048x4x1, .f32⟩
  | .hbm, ⟨19, _⟩ => ⟨S4x2048x4x1, .f32⟩
  | .hbm, ⟨20, _⟩ => ⟨S_, .f32⟩
  | .hbm, ⟨21, _⟩ => ⟨S4x2048x4x1, .f32⟩
  | .hbm, ⟨22, _⟩ => ⟨S4x2048x4x1, .f32⟩
  | .hbm, ⟨23, _⟩ => ⟨S4x2048x4x1, .f32⟩
  | .hbm, ⟨24, _⟩ => ⟨S4x2048x4x128, .f32⟩
  | .hbm, ⟨25, _⟩ => ⟨S4x2048x4x128, .f32⟩
  | .hbm, ⟨26, _⟩ => ⟨S1x1x1x128, .f32⟩
  | .hbm, ⟨27, _⟩ => ⟨S4x2048x4x128, .f32⟩
  | .hbm, ⟨28, _⟩ => ⟨S4x2048x4x128, .f32⟩
  | .hbm, ⟨29, _⟩ => ⟨S4x128x16x4x128, .f32⟩
  | .hbm, ⟨30, _⟩ => ⟨S4x2048x3x4x128, .f32⟩
  | .hbm, ⟨31, _⟩ => ⟨S4x2048x1x4x128, .f32⟩
  | .hbm, ⟨32, _⟩ => ⟨S4x2048x4x128, .f32⟩
  | .hbm, ⟨33, _⟩ => ⟨S128, .f32⟩
  | .hbm, ⟨34, _⟩ => ⟨S4x2048x4x128, .f32⟩
  | .hbm, ⟨35, _⟩ => ⟨S_, .f32⟩
  | .hbm, ⟨36, _⟩ => ⟨S4x2048x4, .f32⟩
  | .hbm, ⟨37, _⟩ => ⟨S4x2048x4x1, .f32⟩
  | .hbm, ⟨38, _⟩ => ⟨S_, .f32⟩
  | .hbm, ⟨39, _⟩ => ⟨S4x2048x4x1, .f32⟩
  | .hbm, ⟨40, _⟩ => ⟨S4x2048x4x1, .f32⟩
  | .hbm, ⟨41, _⟩ => ⟨S_, .f32⟩
  | .hbm, ⟨42, _⟩ => ⟨S4x2048x4x1, .f32⟩
  | .hbm, ⟨43, _⟩ => ⟨S4x2048x4x1, .f32⟩
  | .hbm, ⟨44, _⟩ => ⟨S4x2048x4x1, .f32⟩
  | .hbm, ⟨45, _⟩ => ⟨S4x2048x4x128, .f32⟩
  | .hbm, ⟨46, _⟩ => ⟨S4x2048x4x128, .f32⟩
  | .hbm, ⟨47, _⟩ => ⟨S1x1x1x128, .f32⟩
  | .hbm, ⟨48, _⟩ => ⟨S4x2048x4x128, .f32⟩
  | .hbm, ⟨49, _⟩ => ⟨S4x2048x4x128, .f32⟩
  | .hbm, ⟨50, _⟩ => ⟨S4x128x16x4x128, .f32⟩
  | .hbm, ⟨51, _⟩ => ⟨S4x2048x3x4x128, .f32⟩
  | .hbm, ⟨52, _⟩ => ⟨S4x2048x1x4x128, .f32⟩
  | .hbm, ⟨53, _⟩ => ⟨S4x2048x4x128, .f32⟩
  | .hbm, ⟨54, _⟩ => ⟨S4x128x16x4x128, .f32⟩
  | .hbm, ⟨55, _⟩ => ⟨S4x16x4x128x128, .f32⟩
  | .hbm, ⟨56, _⟩ => ⟨S_, .f32⟩
  | .hbm, ⟨57, _⟩ => ⟨S4x16x4x128x128, .f32⟩
  | .hbm, ⟨58, _⟩ => ⟨S4x16x4x128x128, .f32⟩
  | .hbm, ⟨59, _⟩ => ⟨S1x1x4x128x128, .f32⟩
  | .hbm, ⟨60, _⟩ => ⟨S4x16x4x128x128, .f32⟩
  | .hbm, ⟨61, _⟩ => ⟨S4x16x4x128x128, .f32⟩
  | .hbm, ⟨62, _⟩ => ⟨S4x16x4x128x128, .f32⟩
  | .hbm, ⟨63, _⟩ => ⟨S_, .f32⟩
  | .hbm, ⟨64, _⟩ => ⟨S4x16x4x128, .f32⟩
  | .hbm, ⟨65, _⟩ => ⟨S4x16x4x128, .f32⟩
  | .hbm, ⟨66, _⟩ => ⟨S4x16x4x128x1, .f32⟩
  | .hbm, ⟨67, _⟩ => ⟨S4x16x4x128x128, .f32⟩
  | .hbm, ⟨68, _⟩ => ⟨S4x16x4x128x128, .f32⟩
  | .hbm, ⟨69, _⟩ => ⟨S4x16x4x128x128, .f32⟩
  | .hbm, ⟨70, _⟩ => ⟨S4x16x4x128x128, .f32⟩
  | .hbm, ⟨71, _⟩ => ⟨S4x128x16x4x128, .f32⟩
  | .hbm, ⟨72, _⟩ => ⟨S4x128x16x4, .f32⟩
  | .hbm, ⟨73, _⟩ => ⟨S4x128x16x4x1, .f32⟩
  | .hbm, ⟨74, _⟩ => ⟨S4x128x16x4x128, .f32⟩
  | .hbm, ⟨75, _⟩ => ⟨S4x128x8192, .f32⟩
  | .hbm, ⟨76, _⟩ => ⟨S4x128x8192, .f32⟩
  | _, _ => ⟨S4x2048x15872, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_6 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩

abbrev nD : Nat := 1
abbrev τ : Topo := Topo.v7x

variable {F : FTy → Type} [FloatOps F]
-- ==== Kernel11.lean ====
abbrev S4x2048x15872 : Shape := ⟨3, ![4, 2048, 15872]⟩
abbrev S3x4x128x256 : Shape := ⟨4, ![3, 4, 128, 256]⟩
abbrev S1x128 : Shape := ⟨2, ![1, 128]⟩
abbrev S4x512x63488 : Shape := ⟨3, ![4, 512, 63488]⟩
abbrev S4x512x2048 : Shape := ⟨3, ![4, 512, 2048]⟩
abbrev S1x128x512 : Shape := ⟨3, ![1, 128, 512]⟩
abbrev S1x512x512 : Shape := ⟨3, ![1, 512, 512]⟩
abbrev S1x4x128x256 : Shape := ⟨4, ![1, 4, 128, 256]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S128x256 : Shape := ⟨2, ![128, 256]⟩
abbrev S1x1x128x256 : Shape := ⟨4, ![1, 1, 128, 256]⟩

abbrev nBuf : Space → Nat
  | .hbm => 7
  | .vmem => 14
  | .smem => 0
  | _ => 0

abbrev bufTy : (tb : Table) → Fin (tcTables nBuf tb) → BufTy
  | .hbm, ⟨0, _⟩ => ⟨S4x2048x15872, .bf16⟩
  | .hbm, ⟨1, _⟩ => ⟨S3x4x128x256, .f32⟩
  | .hbm, ⟨2, _⟩ => ⟨S1x128, .f32⟩
  | .hbm, ⟨3, _⟩ => ⟨S1x128, .f32⟩
  | .hbm, ⟨4, _⟩ => ⟨S4x512x63488, .bf16⟩
  | .hbm, ⟨5, _⟩ => ⟨S4x512x2048, .f32⟩
  | .hbm, ⟨6, _⟩ => ⟨S4x512x2048, .f32⟩
  | .local _ .vmem, ⟨0, _⟩ => ⟨S1x128x512, .bf16⟩
  | .local _ .vmem, ⟨1, _⟩ => ⟨S1x128x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x4x128x256, .f32⟩
  | .local _ .vmem, ⟨7, _⟩ => ⟨S1x4x128x256, .f32⟩
  | .local _ .vmem, ⟨8, _⟩ => ⟨S1x128, .f32⟩
  | .local _ .vmem, ⟨9, _⟩ => ⟨S1x128, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | _, _ => ⟨S4x2048x15872, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 4, 4], ![false, false, false]⟩

def k0_mult1 (i : grid0.Coords) : BitVec 32 :=
  let c256_i32 : BitVec 32 := 256#32
  let c0_i32 : BitVec 32 := 0#32
  let arg2 : BitVec 32 := BitVec.ofNat 32 (i 2).val
  let c128_i32 : BitVec 32 := 128#32
  let v0 : BitVec 32 := Scalar.muli arg2 c128_i32
  let c64_i32 : BitVec 32 := 64#32
  let v1 : BitVec 32 := Scalar.subi v0 c64_i32
  let v2 : BitVec 32 := Scalar.maxsi c0_i32 v1
  let v3 : BitVec 32 := Scalar.minsi c256_i32 v2
  v3
def k0_off1 (i : grid0.Coords) : Fin 3 → Nat :=
  let c0_9 : Index := 0#32
  let c256_i32 : BitVec 32 := 256#32
  let c0_i32 : BitVec 32 := 0#32
  let arg2 : BitVec 32 := BitVec.ofNat 32 (i 2).val
  let c128_i32 : BitVec 32 := 128#32
  let v0 : BitVec 32 := Scalar.muli arg2 c128_i32
  let c64_i32 : BitVec 32 := 64#32
  let v1 : BitVec 32 := Scalar.subi v0 c64_i32
  let v2 : BitVec 32 := Scalar.maxsi c0_i32 v1
  let v3 : BitVec 32 := Scalar.minsi c256_i32 v2
  let v4 : BitVec 32 := v3
  let v25 : Index := Scalar.indexCast v4
  let c0_10 : Index := 0#32
  ![0, v25.toNat, 0]
def k0_off2 (i : grid0.Coords) : Fin 3 → Nat :=
  let c0_36 : Index := 0#32
  let c256_i32 : BitVec 32 := 256#32
  let c0_i32 : BitVec 32 := 0#32
  let arg2 : BitVec 32 := BitVec.ofNat 32 (i 2).val
  let c128_i32 : BitVec 32 := 128#32
  let v0 : BitVec 32 := Scalar.muli arg2 c128_i32
  let c64_i32 : BitVec 32 := 64#32
  let v1 : BitVec 32 := Scalar.subi v0 c64_i32
  let v2 : BitVec 32 := Scalar.maxsi c0_i32 v1
  let v3 : BitVec 32 := Scalar.minsi c256_i32 v2
  let v4 : BitVec 32 := v3
  let v88 : Index := Scalar.indexCast v4
  let c128_37 : Index := 128#32
  ![0, v88.toNat, 128]
def k0_off3 (i : grid0.Coords) : Fin 3 → Nat :=
  let c0_62 : Index := 0#32
  let c256_i32 : BitVec 32 := 256#32
  let c0_i32 : BitVec 32 := 0#32
  let arg2 : BitVec 32 := BitVec.ofNat 32 (i 2).val
  let c128_i32 : BitVec 32 := 128#32
  let v0 : BitVec 32 := Scalar.muli arg2 c128_i32
  let c64_i32 : BitVec 32 := 64#32
  let v1 : BitVec 32 := Scalar.subi v0 c64_i32
  let v2 : BitVec 32 := Scalar.maxsi c0_i32 v1
  let v3 : BitVec 32 := Scalar.minsi c256_i32 v2
  let v4 : BitVec 32 := v3
  let v151 : Index := Scalar.indexCast v4
  let c256_63 : Index := 256#32
  ![0, v151.toNat, 256]
def k0_off4 (i : grid0.Coords) : Fin 3 → Nat :=
  let c0_88 : Index := 0#32
  let c256_i32 : BitVec 32 := 256#32
  let c0_i32 : BitVec 32 := 0#32
  let arg2 : BitVec 32 := BitVec.ofNat 32 (i 2).val
  let c128_i32 : BitVec 32 := 128#32
  let v0 : BitVec 32 := Scalar.muli arg2 c128_i32
  let c64_i32 : BitVec 32 := 64#32
  let v1 : BitVec 32 := Scalar.subi v0 c64_i32
  let v2 : BitVec 32 := Scalar.maxsi c0_i32 v1
  let v3 : BitVec 32 := Scalar.minsi c256_i32 v2
  let v4 : BitVec 32 := v3
  let v214 : Index := Scalar.indexCast v4
  let c384_89 : Index := 384#32
  ![0, v214.toNat, 384]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.muli arg1 c31_i32
  let c7_i32 : BitVec 32 := 7#32
  let v1 : BitVec 32 := Scalar.addi v0 c7_i32
  let c0_i32 : BitVec 32 := 0#32
  ![arg0.toNat, arg2.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.muli arg1 c31_i32
  let c10_i32 : BitVec 32 := 10#32
  let v1 : BitVec 32 := Scalar.addi v0 c10_i32
  let c0_i32 : BitVec 32 := 0#32
  let c0_i32_0 : BitVec 32 := 0#32
  ![arg0.toNat, c0_i32.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.muli arg1 c31_i32
  let c13_i32 : BitVec 32 := 13#32
  let v1 : BitVec 32 := Scalar.addi v0 c13_i32
  let c0_i32 : BitVec 32 := 0#32
  let c0_i32_0 : BitVec 32 := 0#32
  ![arg0.toNat, c0_i32.toNat, v1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c3_i32 : BitVec 32 := 3#32
  let v1 : BitVec 1 := Scalar.cmpi .eq arg2 c3_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  let c0_i32_4 : BitVec 32 := 0#32
  ![v3.toNat, c0_i32_1.toNat, c0_i32_2.toNat, c0_i32_3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference11Ideal.lean ====
abbrev S4x2048x15872 : Shape := ⟨3, ![4, 2048, 15872]⟩
abbrev S3x4x128x256 : Shape := ⟨4, ![3, 4, 128, 256]⟩
abbrev S1x128 : Shape := ⟨2, ![1, 128]⟩
abbrev S4x2048x4608 : Shape := ⟨3, ![4, 2048, 4608]⟩
abbrev S4x2048x1536 : Shape := ⟨3, ![4, 2048, 1536]⟩
abbrev S4x2048x3x4x128 : Shape := ⟨5, ![4, 2048, 3, 4, 128]⟩
abbrev S4x2048x1x4x128 : Shape := ⟨5, ![4, 2048, 1, 4, 128]⟩
abbrev S4x2048x4x128 : Shape := ⟨4, ![4, 2048, 4, 128]⟩
abbrev S128 : Shape := ⟨1, ![128]⟩
abbrev S_ : Shape := ⟨0, ![]⟩
abbrev S4x2048x4 : Shape := ⟨3, ![4, 2048, 4]⟩
abbrev S4x2048x4x1 : Shape := ⟨4, ![4, 2048, 4, 1]⟩
abbrev S1x1x1x128 : Shape := ⟨4, ![1, 1, 1, 128]⟩
abbrev S4x4x128x4x4x128 : Shape := ⟨6, ![4, 4, 128, 4, 4, 128]⟩
abbrev S4x512x4x4x128 : Shape := ⟨5, ![4, 512, 4, 4, 128]⟩
abbrev S4x384x4x4x128 : Shape := ⟨5, ![4, 384, 4, 4, 128]⟩
abbrev S4x3x128x4x4x128 : Shape := ⟨6, ![4, 3, 128, 4, 4, 128]⟩
abbrev S4x2x128x4x4x128 : Shape := ⟨6, ![4, 2, 128, 4, 4, 128]⟩
abbrev S4x2x256x4x4x128 : Shape := ⟨6, ![4, 2, 256, 4, 4, 128]⟩
abbrev S4x256x4x4x128 : Shape := ⟨5, ![4, 256, 4, 4, 128]⟩
abbrev S4x1x256x4x4x128 : Shape := ⟨6, ![4, 1, 256, 4, 4, 128]⟩
abbrev S4x4x256x4x4x128 : Shape := ⟨6, ![4, 4, 256, 4, 4, 128]⟩
abbrev S1x4x128x256 : Shape := ⟨4, ![1, 4, 128, 256]⟩
abbrev S2x4x128x256 : Shape := ⟨4, ![2, 4, 128, 256]⟩
abbrev S4x4x128x256 : Shape := ⟨4, ![4, 4, 128, 256]⟩
abbrev S1x4x1x4x128x256 : Shape := ⟨6, ![1, 4, 1, 4, 128, 256]⟩
abbrev S4x4x4x4x128x256 : Shape := ⟨6, ![4, 4, 4, 4, 128, 256]⟩
abbrev S4x4x4x4x128 : Shape := ⟨5, ![4, 4, 4, 4, 128]⟩
abbrev S4x4x4x4x128x1 : Shape := ⟨6, ![4, 4, 4, 4, 128, 1]⟩
abbrev S4x4x4x4x128x128 : Shape := ⟨6, ![4, 4, 4, 4, 128, 128]⟩
abbrev S4x4x128x4x4 : Shape := ⟨5, ![4, 4, 128, 4, 4]⟩
abbrev S4x4x128x4x4x1 : Shape := ⟨6, ![4, 4, 128, 4, 4, 1]⟩
abbrev S4x512x2048 : Shape := ⟨3, ![4, 512, 2048]⟩

abbrev nBuf : Space → Nat
  | .hbm => 102
  | .vmem => 0
  | .smem => 0
  | _ => 0

abbrev bufTy : (tb : Table) → Fin (tcTables nBuf tb) → BufTy
  | .hbm, ⟨0, _⟩ => ⟨S4x2048x15872, .bf16⟩
  | .hbm, ⟨1, _⟩ => ⟨S3x4x128x256, .f32⟩
  | .hbm, ⟨2, _⟩ => ⟨S1x128, .f32⟩
  | .hbm, ⟨3, _⟩ => ⟨S1x128, .f32⟩
  | .hbm, ⟨4, _⟩ => ⟨S4x2048x15872, .f32⟩
  | .hbm, ⟨5, _⟩ => ⟨S4x2048x4608, .f32⟩
  | .hbm, ⟨6, _⟩ => ⟨S4x2048x1536, .f32⟩
  | .hbm, ⟨7, _⟩ => ⟨S4x2048x1536, .f32⟩
  | .hbm, ⟨8, _⟩ => ⟨S4x2048x1536, .f32⟩
  | .hbm, ⟨9, _⟩ => ⟨S4x2048x3x4x128, .f32⟩
  | .hbm, ⟨10, _⟩ => ⟨S4x2048x1x4x128, .f32⟩
  | .hbm, ⟨11, _⟩ => ⟨S4x2048x4x128, .f32⟩
  | .hbm, ⟨12, _⟩ => ⟨S128, .f32⟩
  | .hbm, ⟨13, _⟩ => ⟨S4x2048x4x128, .f32⟩
  | .hbm, ⟨14, _⟩ => ⟨S_, .f32⟩
  | .hbm, ⟨15, _⟩ => ⟨S4x2048x4, .f32⟩
  | .hbm, ⟨16, _⟩ => ⟨S4x2048x4x1, .f32⟩
  | .hbm, ⟨17, _⟩ => ⟨S_, .f32⟩
  | .hbm, ⟨18, _⟩ => ⟨S4x2048x4x1, .f32⟩
  | .hbm, ⟨19, _⟩ => ⟨S4x2048x4x1, .f32⟩
  | .hbm, ⟨20, _⟩ => ⟨S_, .f32⟩
  | .hbm, ⟨21, _⟩ => ⟨S4x2048x4x1, .f32⟩
  | .hbm, ⟨22, _⟩ => ⟨S4x2048x4x1, .f32⟩
  | .hbm, ⟨23, _⟩ => ⟨S4x2048x4x1, .f32⟩
  | .hbm, ⟨24, _⟩ => ⟨S4x2048x4x128, .f32⟩
  | .hbm, ⟨25, _⟩ => ⟨S4x2048x4x128, .f32⟩
  | .hbm, ⟨26, _⟩ => ⟨S1x1x1x128, .f32⟩
  | .hbm, ⟨27, _⟩ => ⟨S4x2048x4x128, .f32⟩
  | .hbm, ⟨28, _⟩ => ⟨S4x2048x4x128, .f32⟩
  | .hbm, ⟨29, _⟩ => ⟨S4x4x128x4x4x128, .f32⟩
  | .hbm, ⟨30, _⟩ => ⟨S4x2048x3x4x128, .f32⟩
  | .hbm, ⟨31, _⟩ => ⟨S4x2048x1x4x128, .f32⟩
  | .hbm, ⟨32, _⟩ => ⟨S4x2048x4x128, .f32⟩
  | .hbm, ⟨33, _⟩ => ⟨S128, .f32⟩
  | .hbm, ⟨34, _⟩ => ⟨S4x2048x4x128, .f32⟩
  | .hbm, ⟨35, _⟩ => ⟨S_, .f32⟩
  | .hbm, ⟨36, _⟩ => ⟨S4x2048x4, .f32⟩
  | .hbm, ⟨37, _⟩ => ⟨S4x2048x4x1, .f32⟩
  | .hbm, ⟨38, _⟩ => ⟨S_, .f32⟩
  | .hbm, ⟨39, _⟩ => ⟨S4x2048x4x1, .f32⟩
  | .hbm, ⟨40, _⟩ => ⟨S4x2048x4x1, .f32⟩
  | .hbm, ⟨41, _⟩ => ⟨S_, .f32⟩
  | .hbm, ⟨42, _⟩ => ⟨S4x2048x4x1, .f32⟩
  | .hbm, ⟨43, _⟩ => ⟨S4x2048x4x1, .f32⟩
  | .hbm, ⟨44, _⟩ => ⟨S4x2048x4x1, .f32⟩
  | .hbm, ⟨45, _⟩ => ⟨S4x2048x4x128, .f32⟩
  | .hbm, ⟨46, _⟩ => ⟨S4x2048x4x128, .f32⟩
  | .hbm, ⟨47, _⟩ => ⟨S1x1x1x128, .f32⟩
  | .hbm, ⟨48, _⟩ => ⟨S4x2048x4x128, .f32⟩
  | .hbm, ⟨49, _⟩ => ⟨S4x2048x4x128, .f32⟩
  | .hbm, ⟨50, _⟩ => ⟨S4x512x4x4x128, .f32⟩
  | .hbm, ⟨51, _⟩ => ⟨S4x2048x3x4x128, .f32⟩
  | .hbm, ⟨52, _⟩ => ⟨S4x2048x1x4x128, .f32⟩
  | .hbm, ⟨53, _⟩ => ⟨S4x2048x4x128, .f32⟩
  | .hbm, ⟨54, _⟩ => ⟨S4x512x4x4x128, .f32⟩
  | .hbm, ⟨55, _⟩ => ⟨S4x384x4x4x128, .f32⟩
  | .hbm, ⟨56, _⟩ => ⟨S4x3x128x4x4x128, .f32⟩
  | .hbm, ⟨57, _⟩ => ⟨S4x2x128x4x4x128, .f32⟩
  | .hbm, ⟨58, _⟩ => ⟨S4x2x128x4x4x128, .f32⟩
  | .hbm, ⟨59, _⟩ => ⟨S4x2x256x4x4x128, .f32⟩
  | .hbm, ⟨60, _⟩ => ⟨S4x256x4x4x128, .f32⟩
  | .hbm, ⟨61, _⟩ => ⟨S4x1x256x4x4x128, .f32⟩
  | .hbm, ⟨62, _⟩ => ⟨S4x256x4x4x128, .f32⟩
  | .hbm, ⟨63, _⟩ => ⟨S4x1x256x4x4x128, .f32⟩
  | .hbm, ⟨64, _⟩ => ⟨S4x4x256x4x4x128, .f32⟩
  | .hbm, ⟨65, _⟩ => ⟨S4x384x4x4x128, .f32⟩
  | .hbm, ⟨66, _⟩ => ⟨S4x3x128x4x4x128, .f32⟩
  | .hbm, ⟨67, _⟩ => ⟨S4x2x128x4x4x128, .f32⟩
  | .hbm, ⟨68, _⟩ => ⟨S4x2x128x4x4x128, .f32⟩
  | .hbm, ⟨69, _⟩ => ⟨S4x2x256x4x4x128, .f32⟩
  | .hbm, ⟨70, _⟩ => ⟨S4x256x4x4x128, .f32⟩
  | .hbm, ⟨71, _⟩ => ⟨S4x1x256x4x4x128, .f32⟩
  | .hbm, ⟨72, _⟩ => ⟨S4x256x4x4x128, .f32⟩
  | .hbm, ⟨73, _⟩ => ⟨S4x1x256x4x4x128, .f32⟩
  | .hbm, ⟨74, _⟩ => ⟨S4x4x256x4x4x128, .f32⟩
  | .hbm, ⟨75, _⟩ => ⟨S1x4x128x256, .f32⟩
  | .hbm, ⟨76, _⟩ => ⟨S1x4x128x256, .f32⟩
  | .hbm, ⟨77, _⟩ => ⟨S2x4x128x256, .f32⟩
  | .hbm, ⟨78, _⟩ => ⟨S1x4x128x256, .f32⟩
  | .hbm, ⟨79, _⟩ => ⟨S4x4x128x256, .f32⟩
  | .hbm, ⟨80, _⟩ => ⟨S1x4x1x4x128x256, .f32⟩
  | .hbm, ⟨81, _⟩ => ⟨S4x4x4x4x128x256, .f32⟩
  | .hbm, ⟨82, _⟩ => ⟨S_, .f32⟩
  | .hbm, ⟨83, _⟩ => ⟨S4x4x4x4x128x256, .f32⟩
  | .hbm, ⟨84, _⟩ => ⟨S4x4x4x4x128x256, .f32⟩
  | .hbm, ⟨85, _⟩ => ⟨S4x4x4x4x128x256, .f32⟩
  | .hbm, ⟨86, _⟩ => ⟨S4x4x4x4x128x256, .f32⟩
  | .hbm, ⟨87, _⟩ => ⟨S4x4x4x4x128x256, .f32⟩
  | .hbm, ⟨88, _⟩ => ⟨S_, .f32⟩
  | .hbm, ⟨89, _⟩ => ⟨S4x4x4x4x128, .f32⟩
  | .hbm, ⟨90, _⟩ => ⟨S4x4x4x4x128, .f32⟩
  | .hbm, ⟨91, _⟩ => ⟨S4x4x4x4x128x1, .f32⟩
  | .hbm, ⟨92, _⟩ => ⟨S4x4x4x4x128x256, .f32⟩
  | .hbm, ⟨93, _⟩ => ⟨S4x4x4x4x128x256, .f32⟩
  | .hbm, ⟨94, _⟩ => ⟨S4x4x4x4x128x256, .f32⟩
  | .hbm, ⟨95, _⟩ => ⟨S4x4x4x4x128x128, .f32⟩
  | .hbm, ⟨96, _⟩ => ⟨S4x4x128x4x4x128, .f32⟩
  | .hbm, ⟨97, _⟩ => ⟨S4x4x128x4x4, .f32⟩
  | .hbm, ⟨98, _⟩ => ⟨S4x4x128x4x4x1, .f32⟩
  | .hbm, ⟨99, _⟩ => ⟨S4x4x128x4x4x128, .f32⟩
  | .hbm, ⟨100, _⟩ => ⟨S4x512x2048, .f32⟩
  | .hbm, ⟨101, _⟩ => ⟨S4x512x2048, .f32⟩
  | _, _ => ⟨S4x2048x15872, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_cst_5 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_cst_6 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩

abbrev nD : Nat := 1
abbrev τ : Topo := Topo.v7x

variable {F : FTy → Type} [FloatOps F]
-- ==== Kernel12.lean ====
abbrev S4x2048x15872 : Shape := ⟨3, ![4, 2048, 15872]⟩
abbrev S3x4x128x256 : Shape := ⟨4, ![3, 4, 128, 256]⟩
abbrev S1x128 : Shape := ⟨2, ![1, 128]⟩
abbrev S4x2048x512 : Shape := ⟨3, ![4, 2048, 512]⟩
abbrev S1x128x512 : Shape := ⟨3, ![1, 128, 512]⟩
abbrev S1x2048x512 : Shape := ⟨3, ![1, 2048, 512]⟩
abbrev S1x4x128x256 : Shape := ⟨4, ![1, 4, 128, 256]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S128x256 : Shape := ⟨2, ![128, 256]⟩
abbrev S1x1x128x256 : Shape := ⟨4, ![1, 1, 128, 256]⟩

abbrev nBuf : Space → Nat
  | .hbm => 6
  | .vmem => 14
  | .smem => 0
  | _ => 0

abbrev bufTy : (tb : Table) → Fin (tcTables nBuf tb) → BufTy
  | .hbm, ⟨0, _⟩ => ⟨S4x2048x15872, .bf16⟩
  | .hbm, ⟨1, _⟩ => ⟨S3x4x128x256, .f32⟩
  | .hbm, ⟨2, _⟩ => ⟨S1x128, .f32⟩
  | .hbm, ⟨3, _⟩ => ⟨S1x128, .f32⟩
  | .hbm, ⟨4, _⟩ => ⟨S4x2048x512, .f32⟩
  | .hbm, ⟨5, _⟩ => ⟨S4x2048x512, .f32⟩
  | .local _ .vmem, ⟨0, _⟩ => ⟨S1x128x512, .bf16⟩
  | .local _ .vmem, ⟨1, _⟩ => ⟨S1x128x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x4x128x256, .f32⟩
  | .local _ .vmem, ⟨7, _⟩ => ⟨S1x4x128x256, .f32⟩
  | .local _ .vmem, ⟨8, _⟩ => ⟨S1x128, .f32⟩
  | .local _ .vmem, ⟨9, _⟩ => ⟨S1x128, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | _, _ => ⟨S4x2048x15872, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 1, 16], ![false, false, false]⟩

def k0_mult1 (i : grid0.Coords) : BitVec 32 :=
  let c1792_i32 : BitVec 32 := 1792#32
  let c0_i32 : BitVec 32 := 0#32
  let arg2 : BitVec 32 := BitVec.ofNat 32 (i 2).val
  let c128_i32 : BitVec 32 := 128#32
  let v0 : BitVec 32 := Scalar.muli arg2 c128_i32
  let c64_i32 : BitVec 32 := 64#32
  let v1 : BitVec 32 := Scalar.subi v0 c64_i32
  let v2 : BitVec 32 := Scalar.maxsi c0_i32 v1
  let v3 : BitVec 32 := Scalar.minsi c1792_i32 v2
  v3
def k0_off1 (i : grid0.Coords) : Fin 3 → Nat :=
  let c0_9 : Index := 0#32
  let c1792_i32 : BitVec 32 := 1792#32
  let c0_i32 : BitVec 32 := 0#32
  let arg2 : BitVec 32 := BitVec.ofNat 32 (i 2).val
  let c128_i32 : BitVec 32 := 128#32
  let v0 : BitVec 32 := Scalar.muli arg2 c128_i32
  let c64_i32 : BitVec 32 := 64#32
  let v1 : BitVec 32 := Scalar.subi v0 c64_i32
  let v2 : BitVec 32 := Scalar.maxsi c0_i32 v1
  let v3 : BitVec 32 := Scalar.minsi c1792_i32 v2
  let v4 : BitVec 32 := v3
  let v25 : Index := Scalar.indexCast v4
  let c0_10 : Index := 0#32
  ![0, v25.toNat, 0]
def k0_off2 (i : grid0.Coords) : Fin 3 → Nat :=
  let c0_36 : Index := 0#32
  let c1792_i32 : BitVec 32 := 1792#32
  let c0_i32 : BitVec 32 := 0#32
  let arg2 : BitVec 32 := BitVec.ofNat 32 (i 2).val
  let c128_i32 : BitVec 32 := 128#32
  let v0 : BitVec 32 := Scalar.muli arg2 c128_i32
  let c64_i32 : BitVec 32 := 64#32
  let v1 : BitVec 32 := Scalar.subi v0 c64_i32
  let v2 : BitVec 32 := Scalar.maxsi c0_i32 v1
  let v3 : BitVec 32 := Scalar.minsi c1792_i32 v2
  let v4 : BitVec 32 := v3
  let v88 : Index := Scalar.indexCast v4
  let c128_37 : Index := 128#32
  ![0, v88.toNat, 128]
def k0_off3 (i : grid0.Coords) : Fin 3 → Nat :=
  let c0_62 : Index := 0#32
  let c1792_i32 : BitVec 32 := 1792#32
  let c0_i32 : BitVec 32 := 0#32
  let arg2 : BitVec 32 := BitVec.ofNat 32 (i 2).val
  let c128_i32 : BitVec 32 := 128#32
  let v0 : BitVec 32 := Scalar.muli arg2 c128_i32
  let c64_i32 : BitVec 32 := 64#32
  let v1 : BitVec 32 := Scalar.subi v0 c64_i32
  let v2 : BitVec 32 := Scalar.maxsi c0_i32 v1
  let v3 : BitVec 32 := Scalar.minsi c1792_i32 v2
  let v4 : BitVec 32 := v3
  let v151 : Index := Scalar.indexCast v4
  let c256_63 : Index := 256#32
  ![0, v151.toNat, 256]
def k0_off4 (i : grid0.Coords) : Fin 3 → Nat :=
  let c0_88 : Index := 0#32
  let c1792_i32 : BitVec 32 := 1792#32
  let c0_i32 : BitVec 32 := 0#32
  let arg2 : BitVec 32 := BitVec.ofNat 32 (i 2).val
  let c128_i32 : BitVec 32 := 128#32
  let v0 : BitVec 32 := Scalar.muli arg2 c128_i32
  let c64_i32 : BitVec 32 := 64#32
  let v1 : BitVec 32 := Scalar.subi v0 c64_i32
  let v2 : BitVec 32 := Scalar.maxsi c0_i32 v1
  let v3 : BitVec 32 := Scalar.minsi c1792_i32 v2
  let v4 : BitVec 32 := v3
  let v214 : Index := Scalar.indexCast v4
  let c384_89 : Index := 384#32
  ![0, v214.toNat, 384]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.muli arg1 c31_i32
  let c6_i32 : BitVec 32 := 6#32
  let v1 : BitVec 32 := Scalar.addi v0 c6_i32
  let c0_i32 : BitVec 32 := 0#32
  ![arg0.toNat, arg2.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.muli arg1 c31_i32
  let c9_i32 : BitVec 32 := 9#32
  let v1 : BitVec 32 := Scalar.addi v0 c9_i32
  let c0_i32 : BitVec 32 := 0#32
  let c0_i32_0 : BitVec 32 := 0#32
  ![arg0.toNat, c0_i32.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.muli arg1 c31_i32
  let c12_i32 : BitVec 32 := 12#32
  let v1 : BitVec 32 := Scalar.addi v0 c12_i32
  let c0_i32 : BitVec 32 := 0#32
  let c0_i32_0 : BitVec 32 := 0#32
  ![arg0.toNat, c0_i32.toNat, v1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c15_i32 : BitVec 32 := 15#32
  let v1 : BitVec 1 := Scalar.cmpi .eq arg2 c15_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  let c0_i32_4 : BitVec 32 := 0#32
  ![v3.toNat, c0_i32_1.toNat, c0_i32_2.toNat, c0_i32_3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference12Ideal.lean ====
abbrev S4x2048x15872 : Shape := ⟨3, ![4, 2048, 15872]⟩
abbrev S3x4x128x256 : Shape := ⟨4, ![3, 4, 128, 256]⟩
abbrev S1x128 : Shape := ⟨2, ![1, 128]⟩
abbrev S4x2048x4608 : Shape := ⟨3, ![4, 2048, 4608]⟩
abbrev S4x2048x1536 : Shape := ⟨3, ![4, 2048, 1536]⟩
abbrev S4x2048x3x4x128 : Shape := ⟨5, ![4, 2048, 3, 4, 128]⟩
abbrev S4x2048x1x4x128 : Shape := ⟨5, ![4, 2048, 1, 4, 128]⟩
abbrev S4x2048x4x128 : Shape := ⟨4, ![4, 2048, 4, 128]⟩
abbrev S128 : Shape := ⟨1, ![128]⟩
abbrev S_ : Shape := ⟨0, ![]⟩
abbrev S4x2048x4 : Shape := ⟨3, ![4, 2048, 4]⟩
abbrev S4x2048x4x1 : Shape := ⟨4, ![4, 2048, 4, 1]⟩
abbrev S1x1x1x128 : Shape := ⟨4, ![1, 1, 1, 128]⟩
abbrev S4x16x128x1x4x128 : Shape := ⟨6, ![4, 16, 128, 1, 4, 128]⟩
abbrev S4x1920x1x4x128 : Shape := ⟨5, ![4, 1920, 1, 4, 128]⟩
abbrev S4x15x128x1x4x128 : Shape := ⟨6, ![4, 15, 128, 1, 4, 128]⟩
abbrev S4x14x128x1x4x128 : Shape := ⟨6, ![4, 14, 128, 1, 4, 128]⟩
abbrev S4x14x256x1x4x128 : Shape := ⟨6, ![4, 14, 256, 1, 4, 128]⟩
abbrev S4x256x1x4x128 : Shape := ⟨5, ![4, 256, 1, 4, 128]⟩
abbrev S4x1x256x1x4x128 : Shape := ⟨6, ![4, 1, 256, 1, 4, 128]⟩
abbrev S4x16x256x1x4x128 : Shape := ⟨6, ![4, 16, 256, 1, 4, 128]⟩
abbrev S1x4x128x256 : Shape := ⟨4, ![1, 4, 128, 256]⟩
abbrev S14x4x128x256 : Shape := ⟨4, ![14, 4, 128, 256]⟩
abbrev S16x4x128x256 : Shape := ⟨4, ![16, 4, 128, 256]⟩
abbrev S1x16x1x4x128x256 : Shape := ⟨6, ![1, 16, 1, 4, 128, 256]⟩
abbrev S4x16x1x4x128x256 : Shape := ⟨6, ![4, 16, 1, 4, 128, 256]⟩
abbrev S4x16x1x4x128 : Shape := ⟨5, ![4, 16, 1, 4, 128]⟩
abbrev S4x16x1x4x128x1 : Shape := ⟨6, ![4, 16, 1, 4, 128, 1]⟩
abbrev S4x16x1x4x128x128 : Shape := ⟨6, ![4, 16, 1, 4, 128, 128]⟩
abbrev S4x16x128x1x4 : Shape := ⟨5, ![4, 16, 128, 1, 4]⟩
abbrev S4x16x128x1x4x1 : Shape := ⟨6, ![4, 16, 128, 1, 4, 1]⟩
abbrev S4x2048x512 : Shape := ⟨3, ![4, 2048, 512]⟩

abbrev nBuf : Space → Nat
  | .hbm => 102
  | .vmem => 0
  | .smem => 0
  | _ => 0

abbrev bufTy : (tb : Table) → Fin (tcTables nBuf tb) → BufTy
  | .hbm, ⟨0, _⟩ => ⟨S4x2048x15872, .bf16⟩
  | .hbm, ⟨1, _⟩ => ⟨S3x4x128x256, .f32⟩
  | .hbm, ⟨2, _⟩ => ⟨S1x128, .f32⟩
  | .hbm, ⟨3, _⟩ => ⟨S1x128, .f32⟩
  | .hbm, ⟨4, _⟩ => ⟨S4x2048x15872, .f32⟩
  | .hbm, ⟨5, _⟩ => ⟨S4x2048x4608, .f32⟩
  | .hbm, ⟨6, _⟩ => ⟨S4x2048x1536, .f32⟩
  | .hbm, ⟨7, _⟩ => ⟨S4x2048x1536, .f32⟩
  | .hbm, ⟨8, _⟩ => ⟨S4x2048x1536, .f32⟩
  | .hbm, ⟨9, _⟩ => ⟨S4x2048x3x4x128, .f32⟩
  | .hbm, ⟨10, _⟩ => ⟨S4x2048x1x4x128, .f32⟩
  | .hbm, ⟨11, _⟩ => ⟨S4x2048x4x128, .f32⟩
  | .hbm, ⟨12, _⟩ => ⟨S128, .f32⟩
  | .hbm, ⟨13, _⟩ => ⟨S4x2048x4x128, .f32⟩
  | .hbm, ⟨14, _⟩ => ⟨S_, .f32⟩
  | .hbm, ⟨15, _⟩ => ⟨S4x2048x4, .f32⟩
  | .hbm, ⟨16, _⟩ => ⟨S4x2048x4x1, .f32⟩
  | .hbm, ⟨17, _⟩ => ⟨S_, .f32⟩
  | .hbm, ⟨18, _⟩ => ⟨S4x2048x4x1, .f32⟩
  | .hbm, ⟨19, _⟩ => ⟨S4x2048x4x1, .f32⟩
  | .hbm, ⟨20, _⟩ => ⟨S_, .f32⟩
  | .hbm, ⟨21, _⟩ => ⟨S4x2048x4x1, .f32⟩
  | .hbm, ⟨22, _⟩ => ⟨S4x2048x4x1, .f32⟩
  | .hbm, ⟨23, _⟩ => ⟨S4x2048x4x1, .f32⟩
  | .hbm, ⟨24, _⟩ => ⟨S4x2048x4x128, .f32⟩
  | .hbm, ⟨25, _⟩ => ⟨S4x2048x4x128, .f32⟩
  | .hbm, ⟨26, _⟩ => ⟨S1x1x1x128, .f32⟩
  | .hbm, ⟨27, _⟩ => ⟨S4x2048x4x128, .f32⟩
  | .hbm, ⟨28, _⟩ => ⟨S4x2048x4x128, .f32⟩
  | .hbm, ⟨29, _⟩ => ⟨S4x16x128x1x4x128, .f32⟩
  | .hbm, ⟨30, _⟩ => ⟨S4x2048x3x4x128, .f32⟩
  | .hbm, ⟨31, _⟩ => ⟨S4x2048x1x4x128, .f32⟩
  | .hbm, ⟨32, _⟩ => ⟨S4x2048x4x128, .f32⟩
  | .hbm, ⟨33, _⟩ => ⟨S128, .f32⟩
  | .hbm, ⟨34, _⟩ => ⟨S4x2048x4x128, .f32⟩
  | .hbm, ⟨35, _⟩ => ⟨S_, .f32⟩
  | .hbm, ⟨36, _⟩ => ⟨S4x2048x4, .f32⟩
  | .hbm, ⟨37, _⟩ => ⟨S4x2048x4x1, .f32⟩
  | .hbm, ⟨38, _⟩ => ⟨S_, .f32⟩
  | .hbm, ⟨39, _⟩ => ⟨S4x2048x4x1, .f32⟩
  | .hbm, ⟨40, _⟩ => ⟨S4x2048x4x1, .f32⟩
  | .hbm, ⟨41, _⟩ => ⟨S_, .f32⟩
  | .hbm, ⟨42, _⟩ => ⟨S4x2048x4x1, .f32⟩
  | .hbm, ⟨43, _⟩ => ⟨S4x2048x4x1, .f32⟩
  | .hbm, ⟨44, _⟩ => ⟨S4x2048x4x1, .f32⟩
  | .hbm, ⟨45, _⟩ => ⟨S4x2048x4x128, .f32⟩
  | .hbm, ⟨46, _⟩ => ⟨S4x2048x4x128, .f32⟩
  | .hbm, ⟨47, _⟩ => ⟨S1x1x1x128, .f32⟩
  | .hbm, ⟨48, _⟩ => ⟨S4x2048x4x128, .f32⟩
  | .hbm, ⟨49, _⟩ => ⟨S4x2048x4x128, .f32⟩
  | .hbm, ⟨50, _⟩ => ⟨S4x2048x1x4x128, .f32⟩
  | .hbm, ⟨51, _⟩ => ⟨S4x2048x3x4x128, .f32⟩
  | .hbm, ⟨52, _⟩ => ⟨S4x2048x1x4x128, .f32⟩
  | .hbm, ⟨53, _⟩ => ⟨S4x2048x4x128, .f32⟩
  | .hbm, ⟨54, _⟩ => ⟨S4x2048x1x4x128, .f32⟩
  | .hbm, ⟨55, _⟩ => ⟨S4x1920x1x4x128, .f32⟩
  | .hbm, ⟨56, _⟩ => ⟨S4x15x128x1x4x128, .f32⟩
  | .hbm, ⟨57, _⟩ => ⟨S4x14x128x1x4x128, .f32⟩
  | .hbm, ⟨58, _⟩ => ⟨S4x14x128x1x4x128, .f32⟩
  | .hbm, ⟨59, _⟩ => ⟨S4x14x256x1x4x128, .f32⟩
  | .hbm, ⟨60, _⟩ => ⟨S4x256x1x4x128, .f32⟩
  | .hbm, ⟨61, _⟩ => ⟨S4x1x256x1x4x128, .f32⟩
  | .hbm, ⟨62, _⟩ => ⟨S4x256x1x4x128, .f32⟩
  | .hbm, ⟨63, _⟩ => ⟨S4x1x256x1x4x128, .f32⟩
  | .hbm, ⟨64, _⟩ => ⟨S4x16x256x1x4x128, .f32⟩
  | .hbm, ⟨65, _⟩ => ⟨S4x1920x1x4x128, .f32⟩
  | .hbm, ⟨66, _⟩ => ⟨S4x15x128x1x4x128, .f32⟩
  | .hbm, ⟨67, _⟩ => ⟨S4x14x128x1x4x128, .f32⟩
  | .hbm, ⟨68, _⟩ => ⟨S4x14x128x1x4x128, .f32⟩
  | .hbm, ⟨69, _⟩ => ⟨S4x14x256x1x4x128, .f32⟩
  | .hbm, ⟨70, _⟩ => ⟨S4x256x1x4x128, .f32⟩
  | .hbm, ⟨71, _⟩ => ⟨S4x1x256x1x4x128, .f32⟩
  | .hbm, ⟨72, _⟩ => ⟨S4x256x1x4x128, .f32⟩
  | .hbm, ⟨73, _⟩ => ⟨S4x1x256x1x4x128, .f32⟩
  | .hbm, ⟨74, _⟩ => ⟨S4x16x256x1x4x128, .f32⟩
  | .hbm, ⟨75, _⟩ => ⟨S1x4x128x256, .f32⟩
  | .hbm, ⟨76, _⟩ => ⟨S1x4x128x256, .f32⟩
  | .hbm, ⟨77, _⟩ => ⟨S14x4x128x256, .f32⟩
  | .hbm, ⟨78, _⟩ => ⟨S1x4x128x256, .f32⟩
  | .hbm, ⟨79, _⟩ => ⟨S16x4x128x256, .f32⟩
  | .hbm, ⟨80, _⟩ => ⟨S1x16x1x4x128x256, .f32⟩
  | .hbm, ⟨81, _⟩ => ⟨S4x16x1x4x128x256, .f32⟩
  | .hbm, ⟨82, _⟩ => ⟨S_, .f32⟩
  | .hbm, ⟨83, _⟩ => ⟨S4x16x1x4x128x256, .f32⟩
  | .hbm, ⟨84, _⟩ => ⟨S4x16x1x4x128x256, .f32⟩
  | .hbm, ⟨85, _⟩ => ⟨S4x16x1x4x128x256, .f32⟩
  | .hbm, ⟨86, _⟩ => ⟨S4x16x1x4x128x256, .f32⟩
  | .hbm, ⟨87, _⟩ => ⟨S4x16x1x4x128x256, .f32⟩
  | .hbm, ⟨88, _⟩ => ⟨S_, .f32⟩
  | .hbm, ⟨89, _⟩ => ⟨S4x16x1x4x128, .f32⟩
  | .hbm, ⟨90, _⟩ => ⟨S4x16x1x4x128, .f32⟩
  | .hbm, ⟨91, _⟩ => ⟨S4x16x1x4x128x1, .f32⟩
  | .hbm, ⟨92, _⟩ => ⟨S4x16x1x4x128x256, .f32⟩
  | .hbm, ⟨93, _⟩ => ⟨S4x16x1x4x128x256, .f32⟩
  | .hbm, ⟨94, _⟩ => ⟨S4x16x1x4x128x256, .f32⟩
  | .hbm, ⟨95, _⟩ => ⟨S4x16x1x4x128x128, .f32⟩
  | .hbm, ⟨96, _⟩ => ⟨S4x16x128x1x4x128, .f32⟩
  | .hbm, ⟨97, _⟩ => ⟨S4x16x128x1x4, .f32⟩
  | .hbm, ⟨98, _⟩ => ⟨S4x16x128x1x4x1, .f32⟩
  | .hbm, ⟨99, _⟩ => ⟨S4x16x128x1x4x128, .f32⟩
  | .hbm, ⟨100, _⟩ => ⟨S4x2048x512, .f32⟩
  | .hbm, ⟨101, _⟩ => ⟨S4x2048x512, .f32⟩
  | _, _ => ⟨S4x2048x15872, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_cst_5 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_cst_6 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩

abbrev nD : Nat := 1
abbrev τ : Topo := Topo.v7x

variable {F : FTy → Type} [FloatOps F]
-- ==== Proof.Soft.lean ====
/- Extended-real facts that the attention rests on: which values are real numbers, that a root-mean-square
   normalized vector is real whatever the vector, and that dividing a weighted sum by a real positive number
   is the sum with each weight divided. -/
module

public import Idealize.ShloMosaic.PureOps.Ideal
public import Idealize.ShloMosaic.PureOps.Ideal.Laws
public import Idealize.ShloMosaic.Lib.Pointwise.Select

@[expose] public section

noncomputable section

namespace Cert.Soft

open Idealize.ShloMosaic

/-- An extended real that is a real number. -/
def IsReal (x : EReal) : Prop := ∃ r : ℝ, x = (r : EReal)

/-- An extended real that is a positive real number. -/
def IsPos (x : EReal) : Prop := ∃ r : ℝ, 0 < r ∧ x = (r : EReal)

theorem IsPos.isReal {x : EReal} : IsPos x → IsReal x := fun ⟨r, _, h⟩ => ⟨r, h⟩

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.neg {x : EReal} : IsReal x → IsReal (-x)
  | ⟨a, ha⟩ => ⟨-a, by rw [ha, EReal.coe_neg]⟩

theorem IsReal.sub {x y : EReal} : IsReal x → IsReal y → IsReal (x - y)
  | ⟨a, ha⟩, ⟨b, hb⟩ => ⟨a - b, by rw [ha, hb, EReal.coe_sub]⟩

theorem IsReal.sum {n : ℕ} {f : Fin n → EReal} (h : ∀ i, IsReal (f i)) : IsReal (∑ i, f i) := by
  choose r hr using h
  exact ⟨∑ i, r i, by simp only [hr]; exact (map_sum (⟨⟨Real.toEReal, EReal.coe_zero⟩, EReal.coe_add⟩ : ℝ →+ EReal) r Finset.univ).symm⟩

theorem IsReal.cos {x : EReal} : IsReal x → IsReal (Ideal.cos x)
  | ⟨a, ha⟩ => ⟨Real.cos a, by rw [ha]; rfl⟩

theorem IsReal.sin {x : EReal} : IsReal x → IsReal (Ideal.sin x)
  | ⟨a, ha⟩ => ⟨Real.sin a, by rw [ha]; rfl⟩

theorem IsReal.pow {x y : EReal} : IsReal x → IsReal y → IsReal (Ideal.pow x y)
  | ⟨a, ha⟩, ⟨b, hb⟩ => ⟨Real.rpow a b, by rw [ha, hb]; rfl⟩

theorem IsReal.exp {x : EReal} : IsReal x → IsPos (Ideal.exp x)
  | ⟨a, ha⟩ => ⟨Real.exp a, Real.exp_pos a, by rw [ha]; rfl⟩

theorem IsReal.div {x y : EReal} : IsReal x → IsPos y → IsReal (Ideal.div x y)
  | ⟨a, ha⟩, ⟨b, hb0, hb⟩ => ⟨a * b⁻¹, by
      have h : (b : EReal) ≠ 0 := by exact_mod_cast hb0.ne'
      rw [ha, hb, Ideal.div, if_neg h, EReal.coe_mul, EReal.coe_inv]⟩

theorem pos_of {x : EReal} {r : ℝ} (h : x = (r : EReal)) (h0 : 0 < r) : IsPos x := ⟨r, h0, h⟩

/-- The words of the two programs' constants: 128, the small number under the root, the score's scale,
    64, 2, 10000 are positive real numbers. -/
theorem pos_128 : IsPos (Ideal.ofBits .f32 0x43000000#32) :=
  pos_of (r := 8388608 * 2 ^ (-16 : ℤ)) (by simp [Ideal.ofBits, Ideal.ieee, -EReal.coe_mul]) (by norm_num)
theorem pos_eps : IsPos (Ideal.ofBits .f32 0x358637BD#32) :=
  pos_of (r := 8796093 * 2 ^ (-43 : ℤ)) (by simp [Ideal.ofBits, Ideal.ieee, -EReal.coe_mul]) (by norm_num)
theorem pos_scale : IsPos (Ideal.ofBits .f32 0x3DB504F3#32) :=
  pos_of (r := 11863283 * 2 ^ (-27 : ℤ)) (by simp [Ideal.ofBits, Ideal.ieee, -EReal.coe_mul]) (by norm_num)
theorem pos_64 : IsPos (Ideal.ofBits .f32 0x42800000#32) :=
  pos_of (r := 8388608 * 2 ^ (-17 : ℤ)) (by simp [Ideal.ofBits, Ideal.ieee, -EReal.coe_mul]) (by norm_num)
theorem pos_2 : IsPos (Ideal.ofBits .f32 0x40000000#32) :=
  pos_of (r := 8388608 * 2 ^ (-22 : ℤ)) (by simp [Ideal.ofBits, Ideal.ieee, -EReal.coe_mul]) (by norm_num)
theorem pos_10000 : IsPos (Ideal.ofBits .f32 0x461C4000#32) :=
  pos_of (r := 10240000 * 2 ^ (-10 : ℤ)) (by simp [Ideal.ofBits, Ideal.ieee, -EReal.coe_mul]) (by norm_num)
theorem real_zero : IsReal (Ideal.ofBits .f32 0x00000000#32) := ⟨0, by simp [Ideal.ofBits, Ideal.ieee]⟩
theorem neg_inf : Ideal.ofBits .f32 0xFF800000#32 = ⊥ := by
  simp [Ideal.ofBits, Ideal.ieee]
theorem pos_inf : Ideal.ofBits .f32 0x7F800000#32 = ⊤ := by
  simp [Ideal.ofBits, Ideal.ieee]

/-- An extended real times itself is not negative. -/
theorem mul_self_nonneg' (x : EReal) : 0 ≤ x * x := by
  induction x with
  | bot => simp
  | top => simp
  | coe r => rw [← EReal.coe_mul]; exact_mod_cast mul_self_nonneg r

/-- A sum of extended reals, none negative and one of them `⊤`, is `⊤`. -/
theorem sum_eq_top {n : ℕ} (f : Fin n → EReal) (h : ∀ i, 0 ≤ f i) (i : Fin n) (hi : f i = ⊤) :
    ∑ i, f i = ⊤ :=
  top_le_iff.mp (hi ▸ Finset.single_le_sum (fun j _ => h j) (Finset.mem_univ i))

/-- Element `d` of the root-mean-square normalization of `x` with the weights `w`. -/
def nrm (x w : Fin 128 → EReal) (d : Fin 128) : EReal :=
  x d * Ideal.rsqrt (Ideal.div (∑ e, x e * x e) (Ideal.ofBits .f32 0x43000000#32)
    + Ideal.ofBits .f32 0x358637BD#32) * w d

/-- The normalization of any vector with real weights is real: where the vector has an infinite element the
    root is infinite and every element is zero. -/
theorem nrm_real (x w : Fin 128 → EReal) (hw : ∀ d, IsReal (w d)) (d : Fin 128) : IsReal (nrm x w d) := by
  unfold nrm
  obtain ⟨a, ha, ea⟩ := pos_128
  obtain ⟨b, hb, eb⟩ := pos_eps
  have ha' : (a : EReal) ≠ 0 := by exact_mod_cast ha.ne'
  rw [ea, eb, Ideal.div, if_neg ha', ← EReal.coe_inv]
  refine IsReal.mul ?_ (hw d)
  by_cases h : ∀ e, IsReal (x e)
  · choose r hr using h
    have hs : ∑ e, x e * x e = ((∑ e, r e * r e : ℝ) : EReal) := by
      simp only [hr, ← EReal.coe_mul]
      exact (map_sum (⟨⟨Real.toEReal, EReal.coe_zero⟩, EReal.coe_add⟩ : ℝ →+ EReal) (fun e => r e * r e) Finset.univ).symm
    have h0 : 0 ≤ ∑ e, r e * r e := Finset.sum_nonneg fun e _ => mul_self_nonneg _
    rw [hs, ← EReal.coe_mul, ← EReal.coe_add, hr d]
    have hp : 0 < (∑ e, r e * r e) * a⁻¹ + b := by positivity
    refine ⟨r d * (Real.sqrt ((∑ e, r e * r e) * a⁻¹ + b))⁻¹, ?_⟩
    rw [EReal.coe_mul]
    show _ * (if _ then _ else if _ then _ else _) = _
    rw [if_neg (not_lt.mpr hp.le), if_neg hp.ne']
  · obtain ⟨e, he⟩ := not_forall.mp h
    have hx : x e * x e = ⊤ := by
      generalize x e = y at he
      induction y with
      | bot => simp
      | top => simp
      | coe r => exact absurd ⟨r, rfl⟩ he
    rw [sum_eq_top _ (fun i => mul_self_nonneg' (x i)) e hx,
      EReal.top_mul_coe_of_pos (inv_pos.mpr ha), EReal.top_add_coe]
    exact ⟨0, by show x d * 0 = _; rw [mul_zero]; rfl⟩

/-- The maximum of real numbers, from `⊥`, is real. -/
theorem fold_max_real {n : ℕ} (hn : 0 < n) (l : Fin n → EReal) (hl : ∀ j, IsReal (l j)) :
    IsReal (Finset.univ.fold max ⊥ l) := by
  have e : Finset.univ.fold max ⊥ l = Finset.univ.sup l := rfl
  rw [e]
  obtain ⟨j, -, hj⟩ := Finset.exists_mem_eq_sup Finset.univ ⟨⟨0, hn⟩, Finset.mem_univ _⟩ l
  exact hj ▸ hl j

/-- A product by a real number that is not negative is the sum of the products. -/
theorem sum_mul_coe {n : ℕ} (f : Fin n → EReal) (r : ℝ) (hr : 0 ≤ r) :
    (∑ j, f j) * (r : EReal) = ∑ j, f j * (r : EReal) := by
  have h : ∀ s : Finset (Fin n), (∑ j ∈ s, f j) * (r : EReal) = ∑ j ∈ s, f j * (r : EReal) := by
    intro s
    induction s using Finset.induction_on with
    | empty => simp
    | insert a s ha ih =>
        rw [Finset.sum_insert ha, Finset.sum_insert ha, ← ih,
          EReal.right_distrib_of_nonneg_of_ne_top (by exact_mod_cast hr) (EReal.coe_ne_top r)]
  exact h _

/-- A weighted sum divided by the weights' sum is the sum with every weight divided. -/
theorem softmax_div {n : ℕ} (hn : 0 < n) (p v : Fin n → EReal) (hp : ∀ j, IsPos (p j)) :
    Ideal.div (∑ j, p j * v j) (∑ j, p j) = ∑ j, Ideal.div (p j) (∑ j, p j) * v j := by
  choose r h0 hr using hp
  have hs : ∑ j, p j = ((∑ j, r j : ℝ) : EReal) := by
    simp only [hr]
    exact (map_sum (⟨⟨Real.toEReal, EReal.coe_zero⟩, EReal.coe_add⟩ : ℝ →+ EReal) r Finset.univ).symm
  have hpos : 0 < ∑ j, r j := Finset.sum_pos (fun j _ => h0 j) ⟨⟨0, hn⟩, Finset.mem_univ _⟩
  have hne : ((∑ j, r j : ℝ) : EReal) ≠ 0 := by exact_mod_cast hpos.ne'
  rw [hs]
  simp only [Ideal.div, if_neg hne]
  rw [← EReal.coe_inv, sum_mul_coe _ _ (inv_nonneg.mpr hpos.le)]
  exact Finset.sum_congr rfl fun j _ => mul_right_comm _ _ _

/-- Row `d` of the result of attending with the scores `l` to the values `v`, as the kernel computes it: the
    weights' sum divides the weighted sum. -/
def attend (l v : Fin 2048 → EReal) : EReal :=
  Ideal.div (∑ j, Ideal.exp (l j - Finset.univ.fold max ⊥ l) * v j)
    (∑ j, Ideal.exp (l j - Finset.univ.fold max ⊥ l))

/-- For real scores the result is the sum of the values weighted by the scores' softmax. -/
theorem attend_eq (l v : Fin 2048 → EReal) (hl : ∀ j, IsReal (l j)) :
    attend l v = ∑ j, Ideal.div (Ideal.exp (l j - Finset.univ.fold max ⊥ l))
      (∑ j, Ideal.exp (l j - Finset.univ.fold max ⊥ l)) * v j :=
  softmax_div (by norm_num) _ _ fun j => ((hl j).sub (fold_max_real (by norm_num) l hl)).exp

/-- A real positive factor on every first element of the products goes out of the sum. -/
theorem scale_out (q k : Fin 128 → EReal) (s : EReal) (hs : IsPos s) :
    ∑ d, q d * s * k d = (∑ d, q d * k d) * s := by
  obtain ⟨r, h0, rfl⟩ := hs
  rw [sum_mul_coe _ _ h0.le]
  exact Finset.sum_congr rfl fun d _ => mul_right_comm _ _ _

/-- The element that `d` is turned with: 32 further in the first half of each 64, 32 back in the second. -/
def part (d : Fin 128) : Fin 128 :=
  if d.val % 64 < 32 then ⟨(d.val + 128 - 96) % 128, Nat.mod_lt _ (by norm_num)⟩
  else ⟨(d.val + 128 - 32) % 128, Nat.mod_lt _ (by norm_num)⟩

/-- Element `d` of the vector `n` turned by the cosines `c` and the signed sines `s`. -/
def rope (n c s : Fin 128 → EReal) (d : Fin 128) : EReal := n d * c d + n (part d) * s d

theorem rope_real (n c s : Fin 128 → EReal) (hn : ∀ d, IsReal (n d)) (hc : ∀ d, IsReal (c d))
    (hs : ∀ d, IsReal (s d)) (d : Fin 128) : IsReal (rope n c s d) :=
  ((hn d).mul (hc d)).add ((hn _).mul (hs d))

/-- The angle of frequency `i` at the coordinate `n`. -/
def ang (n i : ℕ) : EReal :=
  ((((BitVec.ofNat 32 n).toInt : ℝ)) : EReal) * Ideal.pow (Ideal.ofBits .f32 0x461C4000#32)
    (Ideal.div (-(Ideal.ofBits .f32 0x00000000#32 + Ideal.ofBits .f32 0x40000000#32 * ((((BitVec.ofNat 32 i).toInt : ℝ)) : EReal)))
      (Ideal.ofBits .f32 0x42800000#32))

theorem ang_real (n i : ℕ) : IsReal (ang n i) :=
  IsReal.mul ⟨_, rfl⟩ (pos_10000.isReal.pow
    ((((real_zero.add (pos_2.isReal.mul ⟨_, rfl⟩)).neg).div pos_64)))

/-- The angle of element `d` at position `r`: the first 64 elements turn with the row, the others with the
    column of the position on the grid of 64 columns. -/
def angle (r : Fin 2048) (d : Fin 128) : EReal := ang (if d.val < 64 then r.val / 64 else r.val % 64) (d.val % 32)

/-- The cosine of element `d` at position `r`. -/
def cosT (r : Fin 2048) (d : Fin 128) : EReal := Ideal.cos (angle r d)

/-- The sine of element `d` at position `r`, negated in the first half of each 64. -/
def sinT (r : Fin 2048) (d : Fin 128) : EReal :=
  if d.val % 64 < 32 then -Ideal.sin (angle r d) else Ideal.sin (angle r d)

theorem cosT_real (r d) : IsReal (cosT r d) := (ang_real _ _).cos
theorem sinT_real (r d) : IsReal (sinT r d) := by
  unfold sinT; split
  · exact (ang_real _ _).sin.neg
  · exact (ang_real _ _).sin

/-- Turned half by half: in each 64 elements the first 32 and the last 32 turn together. -/
theorem halves (n : Fin 128 → EReal) (r : Fin 2048) (x : Fin 128) :
    (if h : x.val < 64 then
      if h1 : x.val < 32 then
        n x * Ideal.cos (ang (r.val / 64) x.val)
          - n ⟨32 + x.val, by omega⟩ * Ideal.sin (ang (r.val / 64) x.val)
      else
        n ⟨32 + (x.val - 32), by omega⟩ * Ideal.cos (ang (r.val / 64) (x.val - 32))
          + n ⟨x.val - 32, by omega⟩ * Ideal.sin (ang (r.val / 64) (x.val - 32))
    else
      if h1 : x.val - 64 < 32 then
        n ⟨64 + (x.val - 64), by omega⟩ * Ideal.cos (ang (r.val % 64) (x.val - 64))
          - n ⟨64 + (32 + (x.val - 64)), by omega⟩ * Ideal.sin (ang (r.val % 64) (x.val - 64))
      else
        n ⟨64 + (32 + (x.val - 64 - 32)), by omega⟩ * Ideal.cos (ang (r.val % 64) (x.val - 64 - 32))
          + n ⟨64 + (x.val - 64 - 32), by omega⟩ * Ideal.sin (ang (r.val % 64) (x.val - 64 - 32)))
      = rope n (cosT r) (sinT r) x := by
  have hx := x.isLt
  unfold rope cosT sinT angle part
  split_ifs with h h1 h2 h2 h1 h2 h2 <;> first
    | (exfalso; omega)
    | (rw [mul_neg, ← sub_eq_add_neg]
       congr 3 <;> first | (congr 1; omega) | (apply Fin.ext; show _ = _; simp only []; omega))
    | (congr 3 <;> first | (congr 1; omega) | (apply Fin.ext; show _ = _; simp only []; omega))

/-- Element `d` of the vector `x` at position `r`, normalized with the weights `w` and turned. -/
def turned (x w : Fin 128 → EReal) (r : Fin 2048) (d : Fin 128) : EReal := rope (nrm x w) (cosT r) (sinT r) d

theorem turned_real (x w : Fin 128 → EReal) (hw : ∀ d, IsReal (w d)) (r d) : IsReal (turned x w r d) :=
  rope_real _ _ _ (nrm_real x w hw) (cosT_real r) (sinT_real r) d

/-- The result of the attention at batch `b`, position `r`, column `n`: head `n / 128` of 16, of which four
    share a key and value head; the queries, keys and values lie side by side in the rows of `X`. -/
def G (X : Fin 4 → Fin 2048 → Fin 15872 → EReal) (gq gk : Fin 128 → EReal) (b : Fin 4) (r n : Fin 2048) : EReal :=
  attend
    (fun j => (∑ d, turned (fun e => X b r ⟨n.val / 128 * 128 + e.val, by omega⟩) gq r d
      * turned (fun e => X b j ⟨2048 + n.val / 512 * 128 + e.val, by omega⟩) gk j d) * Ideal.ofBits .f32 0x3DB504F3#32)
    (fun j => X b j ⟨2560 + n.val / 512 * 128 + n.val % 128, by omega⟩)

/-- Three groups' results weighted by their log sums, as the kernel computes it. -/
def mix (l0 l1 l2 o0 o1 o2 : EReal) : EReal :=
  Ideal.div (Ideal.exp (l0 - max (max l0 l1) l2) * o0 + Ideal.exp (l1 - max (max l0 l1) l2) * o1
      + Ideal.exp (l2 - max (max l0 l1) l2) * o2)
    (Ideal.exp (l0 - max (max l0 l1) l2) + Ideal.exp (l1 - max (max l0 l1) l2) + Ideal.exp (l2 - max (max l0 l1) l2))

theorem fold_three (f : Fin 3 → EReal) : Finset.univ.fold max ⊥ f = max (max (f 0) (f 1)) (f 2) := by
  have e : Finset.univ.fold max ⊥ f = Finset.univ.sup f := rfl
  rw [e, (by decide : (Finset.univ : Finset (Fin 3)) = {0, 1, 2}), Finset.sup_insert, Finset.sup_insert,
    Finset.sup_singleton, ← sup_assoc]

/-- For real log sums it is the sum of the results weighted by the softmax of the log sums. -/
theorem mix_eq (l o : Fin 3 → EReal) (hl : ∀ j, IsReal (l j)) :
    ∑ k, Ideal.div (Ideal.exp (l k - Finset.univ.fold max ⊥ l)) (∑ j, Ideal.exp (l j - Finset.univ.fold max ⊥ l)) * o k
      = mix (l 0) (l 1) (l 2) (o 0) (o 1) (o 2) := by
  rw [← softmax_div (by norm_num) (fun j => Ideal.exp (l j - Finset.univ.fold max ⊥ l)) o
    fun j => ((hl j).sub (fold_max_real (by norm_num) l hl)).exp]
  simp only [Fin.sum_univ_three, fold_three, mix]

/-- An extended real whose absolute value is less than infinity is real. -/
theorem real_of_abs {x : EReal} (h : max x (-x) < ⊤) : IsReal x := by
  induction x using EReal.rec with
  | bot => simp at h
  | coe r => exact ⟨r, rfl⟩
  | top => simp at h

theorem real_of_cmp {x : EReal} (h : Ideal.cmp .olt (max x (-x)) (Ideal.ofBits .f32 0x7F800000#32) = 1) : IsReal x := by
  have := (Ideal.cmp_olt_eq_one _ _).1 h
  rw [pos_inf] at this
  exact real_of_abs this

theorem both : ∀ a b : BitVec 1, a &&& b = 1#1 → a = 1 ∧ b = 1 := by decide

/-- The sum of the values `v` weighted by the softmax of `l`, and the log of the sum of the exponentials of
    `l`, both as the kernel computes them, from the greatest of `l`. -/
def weigh {n : ℕ} (l v : Fin n → EReal) : EReal :=
  Ideal.div (∑ j, Ideal.exp (l j - Finset.univ.fold max ⊥ l) * v j) (∑ j, Ideal.exp (l j - Finset.univ.fold max ⊥ l))
def logSum {n : ℕ} (l : Fin n → EReal) : EReal :=
  Finset.univ.fold max ⊥ l + Ideal.log (∑ j, Ideal.exp (l j - Finset.univ.fold max ⊥ l))

theorem sum_coe {n : ℕ} (r : Fin n → ℝ) : ∑ i, ((r i : ℝ) : EReal) = ((∑ i, r i : ℝ) : EReal) :=
  (map_sum (⟨⟨Real.toEReal, EReal.coe_zero⟩, EReal.coe_add⟩ : ℝ →+ EReal) r Finset.univ).symm

theorem log_coe {r : ℝ} (h : 0 < r) : Ideal.log (r : EReal) = ((Real.log r : ℝ) : EReal) := if_neg (not_le.mpr h)

theorem exp_coe (r : ℝ) : Ideal.exp (r : EReal) = ((Real.exp r : ℝ) : EReal) := rfl

/-- For real `l` the greatest of them cancels. -/
theorem logSum_eq {n : ℕ} (hn : 0 < n) (l : Fin n → EReal) (hl : ∀ j, IsReal (l j)) : Ideal.log (∑ j, Ideal.exp (l j)) = logSum l := by
  obtain ⟨r, hr⟩ := fold_max_real hn l hl
  unfold logSum
  rw [hr]
  choose x hx using hl
  have p1 : 0 < ∑ j, Real.exp (x j) := Finset.sum_pos (fun j _ => Real.exp_pos _) ⟨⟨0, hn⟩, Finset.mem_univ _⟩
  have e : ∑ j, Real.exp (x j - r) = (∑ j, Real.exp (x j)) * Real.exp (-r) := by
    rw [Finset.sum_mul]
    exact Finset.sum_congr rfl fun j _ => by rw [sub_eq_add_neg, Real.exp_add]
  simp only [hx, ← EReal.coe_sub, exp_coe, sum_coe]
  rw [e, log_coe p1, log_coe (mul_pos p1 (Real.exp_pos _)), ← EReal.coe_add, Real.log_mul p1.ne' (Real.exp_pos _).ne',
    Real.log_exp, add_comm, neg_add_cancel_right]

/-- For real `l` the weights are the exponentials of `l` less the log of their sum. -/
theorem weigh_eq {n : ℕ} (hn : 0 < n) (l v : Fin n → EReal) (hl : ∀ j, IsReal (l j)) :
    ∑ j, Ideal.exp (l j - Ideal.log (∑ j, Ideal.exp (l j))) * v j = weigh l v := by
  rw [logSum_eq hn l hl]
  unfold logSum weigh
  obtain ⟨r, hr⟩ := fold_max_real hn l hl
  rw [softmax_div hn _ _ fun j => ((hl j).sub ⟨r, hr⟩).exp, hr]
  refine Finset.sum_congr rfl fun j _ => congrArg (· * v j) ?_
  choose x hx using hl
  have p1 : 0 < ∑ j, Real.exp (x j - r) := Finset.sum_pos (fun j _ => Real.exp_pos _) ⟨⟨0, hn⟩, Finset.mem_univ _⟩
  have hne : ((∑ j, Real.exp (x j - r) : ℝ) : EReal) ≠ 0 := by exact_mod_cast p1.ne'
  simp only [hx, ← EReal.coe_sub, exp_coe, sum_coe]
  rw [log_coe p1, ← EReal.coe_add, ← EReal.coe_sub, exp_coe, Ideal.div, if_neg hne, ← EReal.coe_inv, ← EReal.coe_mul,
    ← sub_sub, Real.exp_sub (x j - r), Real.exp_log p1, div_eq_mul_inv]

/-- The score of the query at `r` with the key at `j` in residue class `c` of 16 of batch `b`, head `h`, in the
    group of dilation 16: position `r` of the class is position `r * 16 + c` of the sequence. -/
def bandScore (X : Fin 4 → Fin 2048 → Fin 15872 → EReal) (T : Fin 4 → Fin 128 → Fin 128 → EReal) (gq gk : Fin 128 → EReal)
    (b : Fin 4) (c : Fin 16) (h : Fin 4) (r j : Fin 128) : EReal :=
  (∑ d, nrm (fun e => X b ⟨r.val * 16 + c.val, by omega⟩ ⟨4096 + h.val * 128 + e.val, by omega⟩) gq d
    * nrm (fun e => X b ⟨j.val * 16 + c.val, by omega⟩ ⟨5632 + h.val * 128 + e.val, by omega⟩) gk d)
    * Ideal.ofBits .f32 0x3DB504F3#32 + T h r j

theorem bandScore_real (X : Fin 4 → Fin 2048 → Fin 15872 → EReal) (T : Fin 4 → Fin 128 → Fin 128 → EReal) (gq gk : Fin 128 → EReal)
    (hT : ∀ h r j, IsReal (T h r j)) (hq : ∀ d, IsReal (gq d)) (hk : ∀ d, IsReal (gk d)) (b c h r j) :
    IsReal (bandScore X T gq gk b c h r j) :=
  ((IsReal.sum fun d => (nrm_real _ _ hq d).mul (nrm_real _ _ hk d)).mul pos_scale.isReal).add (hT h r j)

/-- The group's two results at batch `b`, position `r` of its class, column `n`: class `n / 512`, head
    `n / 128 % 4`. -/
def bandO (X : Fin 4 → Fin 2048 → Fin 15872 → EReal) (T : Fin 4 → Fin 128 → Fin 128 → EReal) (gq gk : Fin 128 → EReal)
    (b : Fin 4) (r : Fin 128) (n : Fin 8192) : EReal :=
  weigh (bandScore X T gq gk b ⟨n.val / 512, by omega⟩ ⟨n.val / 128 % 4, by omega⟩ r)
    (fun j => X b ⟨j.val * 16 + n.val / 512, by omega⟩ ⟨7168 + n.val % 512, by omega⟩)
def bandL (X : Fin 4 → Fin 2048 → Fin 15872 → EReal) (T : Fin 4 → Fin 128 → Fin 128 → EReal) (gq gk : Fin 128 → EReal)
    (b : Fin 4) (r : Fin 128) (n : Fin 8192) : EReal :=
  logSum (bandScore X T gq gk b ⟨n.val / 512, by omega⟩ ⟨n.val / 128 % 4, by omega⟩ r)

/-- The scores of one query with the keys `k`, with the bias `t`. -/
def nearScore {n : ℕ} (q : Fin 128 → EReal) (k : Fin n → Fin 128 → EReal) (t : Fin n → EReal) (gq gk : Fin 128 → EReal)
    (j : Fin n) : EReal :=
  (∑ d, nrm q gq d * nrm (k j) gk d) * Ideal.ofBits .f32 0x3DB504F3#32 + t j

theorem nearScore_real {n : ℕ} (q : Fin 128 → EReal) (k : Fin n → Fin 128 → EReal) (t : Fin n → EReal) (gq gk : Fin 128 → EReal)
    (ht : ∀ j, IsReal (t j)) (hq : ∀ d, IsReal (gq d)) (hk : ∀ d, IsReal (gk d)) (j) : IsReal (nearScore q k t gq gk j) :=
  ((IsReal.sum fun d => (nrm_real _ _ hq d).mul (nrm_real _ _ hk d)).mul pos_scale.isReal).add (ht j)

/-! ## The group of dilation 4 -/

/-- Which of the three bias tiles the tile `u` of queries takes: the first, an inner one, or the last. -/
def near4Tile (u : Fin 4) : Fin 3 := if u.val = 0 then 0 else if u.val = 3 then 2 else 1

/-- The scores of the query `r` of tile `u`, residue class `c` of 4, head `h`, with the 256 keys around the tile. -/
def near4Score (X : Fin 4 → Fin 2048 → Fin 15872 → EReal) (T : Fin 3 → Fin 4 → Fin 128 → Fin 256 → EReal) (gq gk : Fin 128 → EReal)
    (b : Fin 4) (c : Fin 4) (h : Fin 4) (u : Fin 4) (r : Fin 128) : Fin 256 → EReal :=
  nearScore (fun e => X b ⟨(u.val * 128 + r.val) * 4 + c.val, by omega⟩ ⟨3584 + h.val * 128 + e.val, by omega⟩)
    (fun j e => X b ⟨(min (u.val * 128 - 64) 256 + j.val) * 4 + c.val, by omega⟩ ⟨5120 + h.val * 128 + e.val, by omega⟩)
    (fun j => T (near4Tile u) h r j) gq gk

/-- The group's two results at batch `b`, position `i` of its class, column `n`. -/
def near4O (X : Fin 4 → Fin 2048 → Fin 15872 → EReal) (T : Fin 3 → Fin 4 → Fin 128 → Fin 256 → EReal) (gq gk : Fin 128 → EReal)
    (b : Fin 4) (i : Fin 512) (n : Fin 2048) : EReal :=
  weigh (near4Score X T gq gk b ⟨n.val / 512, by omega⟩ ⟨n.val / 128 % 4, by omega⟩ ⟨i.val / 128, by omega⟩ ⟨i.val % 128, by omega⟩)
    (fun j => X b ⟨(min (i.val / 128 * 128 - 64) 256 + j.val) * 4 + n.val / 512, by omega⟩ ⟨6656 + n.val % 512, by omega⟩)
def near4L (X : Fin 4 → Fin 2048 → Fin 15872 → EReal) (T : Fin 3 → Fin 4 → Fin 128 → Fin 256 → EReal) (gq gk : Fin 128 → EReal)
    (b : Fin 4) (i : Fin 512) (n : Fin 2048) : EReal :=
  logSum (near4Score X T gq gk b ⟨n.val / 512, by omega⟩ ⟨n.val / 128 % 4, by omega⟩ ⟨i.val / 128, by omega⟩ ⟨i.val % 128, by omega⟩)

/-! ## The group of dilation 1 -/

/-- Which of the three bias tiles the tile `u` of queries takes: the first, an inner one, or the last. -/
def near1Tile (u : Fin 16) : Fin 3 := if u.val = 0 then 0 else if u.val = 15 then 2 else 1

/-- The scores of the query `r` of tile `u`, head `h`, with the 256 keys around the tile. -/
def near1Score (X : Fin 4 → Fin 2048 → Fin 15872 → EReal) (T : Fin 3 → Fin 4 → Fin 128 → Fin 256 → EReal) (gq gk : Fin 128 → EReal)
    (b : Fin 4) (h : Fin 4) (u : Fin 16) (r : Fin 128) : Fin 256 → EReal :=
  nearScore (fun e => X b ⟨u.val * 128 + r.val, by omega⟩ ⟨3072 + h.val * 128 + e.val, by omega⟩)
    (fun j e => X b ⟨min (u.val * 128 - 64) 1792 + j.val, by omega⟩ ⟨4608 + h.val * 128 + e.val, by omega⟩)
    (fun j => T (near1Tile u) h r j) gq gk

/-- The group's two results at batch `b`, position `i` of its class, column `n`. -/
def near1O (X : Fin 4 → Fin 2048 → Fin 15872 → EReal) (T : Fin 3 → Fin 4 → Fin 128 → Fin 256 → EReal) (gq gk : Fin 128 → EReal)
    (b : Fin 4) (i : Fin 2048) (n : Fin 512) : EReal :=
  weigh (near1Score X T gq gk b ⟨n.val / 128 % 4, by omega⟩ ⟨i.val / 128, by omega⟩ ⟨i.val % 128, by omega⟩)
    (fun j => X b ⟨min (i.val / 128 * 128 - 64) 1792 + j.val, by omega⟩ ⟨6144 + n.val % 512, by omega⟩)
def near1L (X : Fin 4 → Fin 2048 → Fin 15872 → EReal) (T : Fin 3 → Fin 4 → Fin 128 → Fin 256 → EReal) (gq gk : Fin 128 → EReal)
    (b : Fin 4) (i : Fin 2048) (n : Fin 512) : EReal :=
  logSum (near1Score X T gq gk b ⟨n.val / 128 % 4, by omega⟩ ⟨i.val / 128, by omega⟩ ⟨i.val % 128, by omega⟩)

end Cert.Soft

end
-- ==== Proof.AttnTab.lean ====
/- The attention's tables of cosines and sines, and its blocks' elements in its arrays. -/
module

public import proofs.«01_k».proof.Proof.Gen.KernelIdeal.Value
public import proofs.«01_k».proof.Proof.Gen.KernelIdeal.Frame
public import proofs.«01_k».proof.Proof.Soft
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.AttnA

open Cert.KernelIdeal Cert.KernelIdeal.Gen

variable (m : (ℓ : Loc nD τ sig) → Buf (Elt Ideal) ℓ)

/-- The windows' block indices at a point: point `t` is batch `t / 32`, key and value head `t / 8 % 4`,
    query tile `t % 8`. -/
theorem idx : ∀ t : Fin cfg0.N, win0_0.index t = ![t.val / 32, t.val % 8, t.val / 8 % 4]
    ∧ win0_1.index t = ![t.val / 32, 0, 16 + t.val / 8 % 4] ∧ win0_2.index t = ![t.val / 32, 0, 20 + t.val / 8 % 4]
    ∧ win0_3.index t = ![t.val % 8, 0] ∧ win0_4.index t = ![t.val % 8, 0] ∧ win0_5.index t = ![0, 0]
    ∧ win0_6.index t = ![0, 0] ∧ win0_7.index t = ![0, 0] ∧ win0_8.index t = ![0, 0]
    ∧ win0_9.index t = ![t.val / 32, t.val % 8, t.val / 8 % 4] :=
  (by decide +kernel : ∀ t : Fin grid0.N, _)

/-! ## The tables of cosines and signed sines -/

/-- The frequencies. -/
def freq : FVec Ideal S32 .f32 :=
  Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))

/-- The row angles of the positions, and the column angles. -/
def rows : FVec Ideal S2048x32 .f32 :=
  mulf (broadcastInDim S2048x32 ![0, 1] bcast_S2048x1_S2048x32_0_1 (broadcastInDim S2048x1 ![0] bcast_S2048_S2048x1_0 (sitofp .f32 (shapeCast _ (broadcastInDim S32x64 ![0, 1] bcast_S32x1_S32x64_0_1 (broadcastInDim S32x1 ![0] bcast_S32_S32x1_0 (iotaInDim S32 32 0))) shapeCasts_S32x64_S2048)))) (broadcastInDim S2048x32 ![0, 1] bcast_S1x32_S2048x32_0_1 (broadcastInDim S1x32 ![1] bcast_S32_S1x32_1 freq))
def cols : FVec Ideal S2048x32 .f32 :=
  mulf (broadcastInDim S2048x32 ![0, 1] bcast_S2048x1_S2048x32_0_1 (broadcastInDim S2048x1 ![0] bcast_S2048_S2048x1_0 (sitofp .f32 (shapeCast _ (broadcastInDim S32x64 ![0, 1] bcast_S1x64_S32x64_0_1 (broadcastInDim S1x64 ![1] bcast_S64_S1x64_1 (iotaInDim S64 32 0))) shapeCasts_S32x64_S2048)))) (broadcastInDim S2048x32 ![0, 1] bcast_S1x32_S2048x32_0_1 (broadcastInDim S1x32 ![1] bcast_S32_S1x32_1 freq))

/-- Four arrays of 32 columns side by side. -/
def four (a b c d : FVec Ideal S2048x32 .f32) : FVec Ideal S2048x128 .f32 :=
  concatenate S2048x128 1 [⟨S2048x32, a⟩, ⟨S2048x32, b⟩, ⟨S2048x32, c⟩, ⟨S2048x32, d⟩] concatenates_S2048x32_S2048x32_S2048x32_S2048x32_S2048x128_d1

theorem V_cos (c : Dev nD) : V m c main_v34 = four (Host.cos rows) (Host.cos rows) (Host.cos cols) (Host.cos cols) := by
  unfold_abbrev_sides
  after_results_simp <;> rfl

theorem V_sin (c : Dev nD) : V m c main_v37
    = four (Host.negf (Host.sin rows)) (Host.sin rows) (Host.negf (Host.sin cols)) (Host.sin cols) := by
  unfold_abbrev_sides
  after_results_simp <;> rfl

theorem rows_eq (r : Fin 2048) (i : Fin 32) : rows (ix2 r i) = Soft.ang (r.val / 64) i.val := by
  pointwise [rows, freq, Soft.ang]
  rfl

theorem cols_eq (r : Fin 2048) (i : Fin 32) : cols (ix2 r i) = Soft.ang (r.val % 64) i.val := by
  pointwise [cols, freq, Soft.ang]
  rfl

theorem cos_table (c : Dev nD) (r : Fin 2048) (d : Fin 128) : V m c main_v34 (ix2 r d) = Soft.cosT r d := by
  rw [V_cos]
  pointwise [four]
  simp only [rows_eq, cols_eq, Soft.cosT, Soft.angle]
  have hd := d.isLt
  split_ifs <;> first
    | (exfalso; omega)
    | (congr 2; omega)

theorem sin_table (c : Dev nD) (r : Fin 2048) (d : Fin 128) : V m c main_v37 (ix2 r d) = Soft.sinT r d := by
  rw [V_sin]
  pointwise [four]
  simp only [rows_eq, cols_eq, Soft.sinT, Soft.angle]
  have hd := d.isLt
  split_ifs <;> first
    | (exfalso; omega)
    | (congr 2; omega)
    | (congr 3; omega)

/-! ## The blocks' elements in the arrays -/

theorem lt_t (t : Fin cfg0.N) : t.val < 128 := lt_of_lt_of_eq t.isLt N_0

theorem blk_q (c : Dev nD) (t : Fin cfg0.N) (r : Fin 256) (n : Fin 512) : iblk m c 0 t (ix3 0 r n)
    = m ((c : Thread nD τ).loc main_arg0) (ix3 (⟨t.val / 32, by have := lt_t t; omega⟩ : Fin 4)
        (⟨t.val % 8 * 256 + r.val, by omega⟩ : Fin 2048) (⟨t.val / 8 % 4 * 512 + n.val, by omega⟩ : Fin 15872)) := by
  rw [← V_main_arg0 m c]
  blk_point [iblk, idx t]

theorem blk_k (c : Dev nD) (t : Fin cfg0.N) (r : Fin 2048) (d : Fin 128) : iblk m c 1 t (ix3 0 r d)
    = m ((c : Thread nD τ).loc main_arg0) (ix3 (⟨t.val / 32, by have := lt_t t; omega⟩ : Fin 4)
        r (⟨2048 + t.val / 8 % 4 * 128 + d.val, by omega⟩ : Fin 15872)) := by
  rw [← V_main_arg0 m c]
  blk_point [iblk, idx t]

theorem blk_v (c : Dev nD) (t : Fin cfg0.N) (r : Fin 2048) (d : Fin 128) : iblk m c 2 t (ix3 0 r d)
    = m ((c : Thread nD τ).loc main_arg0) (ix3 (⟨t.val / 32, by have := lt_t t; omega⟩ : Fin 4)
        r (⟨2560 + t.val / 8 % 4 * 128 + d.val, by omega⟩ : Fin 15872)) := by
  rw [← V_main_arg0 m c]
  blk_point [iblk, idx t]

theorem blk_cos (c : Dev nD) (t : Fin cfg0.N) (r : Fin 256) (d : Fin 128) : iblk m c 3 t (ix2 r d)
    = Soft.cosT ⟨t.val % 8 * 256 + r.val, by omega⟩ d := by
  rw [← cos_table m c]
  blk_point [iblk, idx t]

theorem blk_sin (c : Dev nD) (t : Fin cfg0.N) (r : Fin 256) (d : Fin 128) : iblk m c 4 t (ix2 r d)
    = Soft.sinT ⟨t.val % 8 * 256 + r.val, by omega⟩ d := by
  rw [← sin_table m c]
  blk_point [iblk, idx t]

theorem blk_cosk (c : Dev nD) (t : Fin cfg0.N) (r : Fin 2048) (d : Fin 128) : iblk m c 5 t (ix2 r d) = Soft.cosT r d := by
  rw [← cos_table m c]
  blk_point [iblk, idx t]

theorem blk_sink (c : Dev nD) (t : Fin cfg0.N) (r : Fin 2048) (d : Fin 128) : iblk m c 6 t (ix2 r d) = Soft.sinT r d := by
  rw [← sin_table m c]
  blk_point [iblk, idx t]

theorem blk_gq (c : Dev nD) (t : Fin cfg0.N) (d : Fin 128) : iblk m c 7 t (ix2 0 d)
    = m ((c : Thread nD τ).loc main_arg1) (ix2 0 d) := by
  rw [← V_main_arg1 m c]
  blk_point [iblk, idx t]

theorem blk_gk (c : Dev nD) (t : Fin cfg0.N) (d : Fin 128) : iblk m c 8 t (ix2 0 d)
    = m ((c : Thread nD τ).loc main_arg2) (ix2 0 d) := by
  rw [← V_main_arg2 m c]
  blk_point [iblk, idx t]

end Cert.KernelIdeal.AttnA

end
-- ==== Proof.AttnHead.lean ====
/- The attention's stored values of a point, element by element. -/
module

public import proofs.«01_k».proof.Proof.Gen.KernelIdeal.Value
public import proofs.«01_k».proof.Proof.Gen.KernelIdeal.Frame
public import proofs.«01_k».proof.Proof.Soft
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.AttnA

open Cert.KernelIdeal Cert.KernelIdeal.Gen

variable (m : (ℓ : Loc nD τ sig) → Buf (Elt Ideal) ℓ)

/-! ## A point's values, element by element -/

theorem lanes (r : Fin 2048) (d : Fin 128) : k0_pay4 (ix2 r d) = if d.val % 64 < 32 then 1#1 else 0#1 := by
  pointwise [k0_pay4]
  revert d
  decide +kernel

theorem pick (d : Fin 128) (x y : EReal) :
    Scalar.select (if d.val % 64 < 32 then 1#1 else 0#1) x y = if d.val % 64 < 32 then x else y := by
  split <;> rfl

theorem keys_nrm (x : FVec Ideal S1x2048x128 .bf16) (w : FVec Ideal S1x128 .f32) (r : Fin 2048) (d : Fin 128) :
    k0_pay1 (F := Ideal) x w (ix2 r d) = Soft.nrm (fun e => x (ix3 0 r e)) (fun e => w (ix2 0 e)) d := by
  pointwise [k0_pay1, Soft.nrm]

theorem turn_eq (n c s : FVec Ideal S2048x128 .f32) (r : Fin 2048) (d : Fin 128) :
    k0_pay6 (F := Ideal) n (k0_pay2 c) (k0_pay3 s) k0_pay4 (dynamicRotate 1 96#32 none n rotates_S2048x128_d1) (ix2 r d)
      = Soft.rope (fun e => n (ix2 r e)) (fun e => c (ix2 r e)) (fun e => s (ix2 r e)) d := by
  pointwise [k0_pay6, k0_pay2, k0_pay3, lanes, pick, Soft.rope, Soft.part]
  split <;> rfl

/-- The normalized and turned keys that a point computes of its key block. -/
def keys (x : FVec Ideal S1x2048x128 .bf16) (w : FVec Ideal S1x128 .f32) (c s : FVec Ideal S2048x128 .f32) :
    FVec Ideal S2048x128 .bf16 :=
  k0_pay6 (k0_pay1 x w) (k0_pay2 c) (k0_pay3 s) k0_pay4 (k0_pay5 x w)

theorem keys_eq (x : FVec Ideal S1x2048x128 .bf16) (w : FVec Ideal S1x128 .f32) (c s : FVec Ideal S2048x128 .f32)
    (r : Fin 2048) (d : Fin 128) :
    keys x w c s (ix2 r d) = Soft.rope (Soft.nrm (fun e => x (ix3 0 r e)) (fun e => w (ix2 0 e)))
      (fun e => c (ix2 r e)) (fun e => s (ix2 r e)) d := by
  refine (turn_eq (k0_pay1 x w) c s r d).trans ?_
  simp only [keys_nrm]

/-- One head's result of a point, from its 128 query columns. -/
def head (q : FVec Ideal S1x256x128 .bf16) (w : FVec Ideal S1x128 .f32) (kn : FVec Ideal S2048x128 .bf16)
    (v : FVec Ideal S1x2048x128 .bf16) (c s : FVec Ideal S256x128 .f32) : FVec Ideal S1x256x128 .bf16 :=
  k0_pay13 kn (k0_pay7 v) (k0_pay8 c) (k0_pay9 s) (k0_pay10 w q)
    (Scalar.select (Scalar.cmpi .eq 64#32 0#32) 1#32 64#32) k0_pay11 k0_pay12

theorem lanes_q (r : Fin 256) (d : Fin 128) :
    IntOp.cmpi CmpIPredicate.slt
      (Scalar.select
        (IntOp.andi
          (IntOp.xori (IntOp.cmpi CmpIPredicate.slt (k0_pay11 (ix2 r d)) 0#32)
            (Scalar.cmpi CmpIPredicate.slt (Scalar.select (Scalar.cmpi CmpIPredicate.eq 64#32 0#32) 1#32 64#32) 0#32))
          (k0_pay12 (ix2 r d)))
        (IntOp.addi (k0_pay11 (ix2 r d)) (Scalar.select (Scalar.cmpi CmpIPredicate.eq 64#32 0#32) 1#32 64#32))
        (k0_pay11 (ix2 r d)))
      32#32 = if d.val % 64 < 32 then 1#1 else 0#1 := by
  pointwise [k0_pay11, k0_pay12]
  revert d
  decide +kernel

theorem queries_nrm (q : FVec Ideal S1x256x128 .bf16) (w : FVec Ideal S1x128 .f32) (r : Fin 256) (d : Fin 128) :
    k0_pay10 (F := Ideal) w q (ix2 r d) = Soft.nrm (fun e => q (ix3 0 r e)) (fun e => w (ix2 0 e)) d := by
  pointwise [k0_pay10, Soft.nrm]

theorem scores_eq (n c s : FVec Ideal S256x128 .f32) (kn v : FVec Ideal S2048x128 .bf16) (r : Fin 256) (d : Fin 128) :
    k0_pay13 (F := Ideal) kn v c s n (Scalar.select (Scalar.cmpi .eq 64#32 0#32) 1#32 64#32) k0_pay11 k0_pay12 (ix3 0 r d)
      = Soft.attend (fun j => ∑ e, Soft.rope (fun e => n (ix2 r e)) (fun e => c (ix2 r e)) (fun e => s (ix2 r e)) e
          * Ideal.ofBits .f32 0x3DB504F3#32 * kn (ix2 j e)) (fun j => v (ix2 j d)) := by
  have hr : ∀ e, Soft.rope (fun e => n (ix2 r e)) (fun e => c (ix2 r e)) (fun e => s (ix2 r e)) e
      = n (ix2 r e) * c (ix2 r e) + (if e.val % 64 < 32 then n (ix2 r ⟨(e.val + 128 - 96) % 128, Nat.mod_lt _ (by norm_num)⟩)
        else n (ix2 r ⟨(e.val + 128 - 32) % 128, Nat.mod_lt _ (by norm_num)⟩)) * s (ix2 r e) := by
    intro e
    unfold Soft.rope Soft.part
    split <;> rfl
  unfold Soft.attend
  simp only [hr]
  pointwise [k0_pay13]
  simp only [lanes_q, pick, Soft.neg_inf]

theorem head_eq (q : FVec Ideal S1x256x128 .bf16) (w : FVec Ideal S1x128 .f32) (kn : FVec Ideal S2048x128 .bf16)
    (v : FVec Ideal S1x2048x128 .bf16) (c s : FVec Ideal S256x128 .f32) (r : Fin 256) (d : Fin 128) :
    head q w kn v c s (ix3 0 r d)
      = Soft.attend (fun j => (∑ e, Soft.rope (Soft.nrm (fun e => q (ix3 0 r e)) (fun e => w (ix2 0 e)))
          (fun e => c (ix2 r e)) (fun e => s (ix2 r e)) e * kn (ix2 j e)) * Ideal.ofBits .f32 0x3DB504F3#32)
          (fun j => v (ix3 0 j d)) := by
  refine (scores_eq _ _ _ _ _ r d).trans ?_
  have h7 : ∀ j : Fin 2048, k0_pay7 v (ix2 j d) = v (ix3 0 j d) := fun j => by pointwise [k0_pay7]
  have h8 : ∀ e : Fin 128, k0_pay8 c (ix2 r e) = c (ix2 r e) := fun j => by pointwise [k0_pay8]
  have h9 : ∀ e : Fin 128, k0_pay9 s (ix2 r e) = s (ix2 r e) := fun j => by pointwise [k0_pay9]
  simp only [queries_nrm, h7, h8, h9, Soft.scale_out _ _ _ Soft.pos_scale]

/-- The other three heads' stored values are the same function of their columns. -/
theorem head1 (q : FVec Ideal S1x256x128 .bf16) (w : FVec Ideal S1x128 .f32) (kn : FVec Ideal S2048x128 .bf16)
    (v : FVec Ideal S1x2048x128 .bf16) (c s : FVec Ideal S256x128 .f32) :
    k0_pay18 (F := Ideal) (k0_pay7 v) (k0_pay16 kn (k0_pay8 c) (k0_pay9 s) w (k0_pay14 q) (k0_pay15 q))
      (k0_pay17 kn (k0_pay8 c) (k0_pay9 s) w (k0_pay14 q) (k0_pay15 q)) = head q w kn v c s := rfl

theorem head2 (q : FVec Ideal S1x256x128 .bf16) (w : FVec Ideal S1x128 .f32) (kn : FVec Ideal S2048x128 .bf16)
    (v : FVec Ideal S1x2048x128 .bf16) (c s : FVec Ideal S256x128 .f32) :
    k0_pay22 (F := Ideal) kn (k0_pay7 v) (k0_pay8 c) (k0_pay9 s) (k0_pay19 w q) k0_pay20 k0_pay21 = head q w kn v c s := rfl

theorem head3 (q : FVec Ideal S1x256x128 .bf16) (w : FVec Ideal S1x128 .f32) (kn : FVec Ideal S2048x128 .bf16)
    (v : FVec Ideal S1x2048x128 .bf16) (c s : FVec Ideal S256x128 .f32) :
    k0_pay24 (F := Ideal) kn (k0_pay7 v) (k0_pay8 c) (k0_pay9 s) (k0_pay23 w q)
      (iota Kind.tc S256x128 32 [1] iota_S256x128_d1_w32) 64#32 = head q w kn v c s := rfl

/-- The 128 columns of a block from a column on. -/
def part (q : FVec Ideal S1x256x512 .bf16) (o : ℕ) (h : ∀ a, (![0, 0, o] : Fin 3 → Nat) a + S1x256x128.size a ≤ S1x256x512.size a) :
    FVec Ideal S1x256x128 .bf16 :=
  View.ld (Val := Elt Ideal) (e' := .bf16) q (Rect.unit (s := S1x256x512) ![0, 0, o] S1x256x128.size h)

/-- The four heads' results of a point side by side, as its four stores leave them. -/
def tile (q : FVec Ideal S1x256x512 .bf16) (w : FVec Ideal S1x128 .f32) (kn : FVec Ideal S2048x128 .bf16)
    (v : FVec Ideal S1x2048x128 .bf16) (c s : FVec Ideal S256x128 .f32) : FVec Ideal S1x256x512 .bf16 :=
  View.canon
    [(⟨Rect.unit ![0, 0, 384] ![1, 256, 128] inb_S1x256x512_S1x256x128_0_0_384,
      head (part q 384 inb_S1x256x512_S1x256x128_0_0_384) w kn v c s⟩ : View.Piece (Elt Ideal) S1x256x512 .bf16),
     ⟨Rect.unit ![0, 0, 256] ![1, 256, 128] inb_S1x256x512_S1x256x128_0_0_256,
      head (part q 256 inb_S1x256x512_S1x256x128_0_0_256) w kn v c s⟩,
     ⟨Rect.unit ![0, 0, 128] ![1, 256, 128] inb_S1x256x512_S1x256x128_0_0_128,
      head (part q 128 inb_S1x256x512_S1x256x128_0_0_128) w kn v c s⟩,
     ⟨Rect.unit ![0, 0, 0] ![1, 256, 128] inb_S1x256x512_S1x256x128_0_0_0,
      head (part q 0 inb_S1x256x512_S1x256x128_0_0_0) w kn v c s⟩]

/-- A head's result, from the block's query columns. -/
theorem head_of (q : FVec Ideal S1x256x512 .bf16) (w : FVec Ideal S1x128 .f32) (kn : FVec Ideal S2048x128 .bf16)
    (v : FVec Ideal S1x2048x128 .bf16) (c s : FVec Ideal S256x128 .f32) (q' : FVec Ideal S1x256x128 .bf16)
    (o : ℕ) (ho : o % 128 = 0) (r : Fin 256) (n : Fin 512) (x : S1x256x128.Idx)
    (hq : ∀ (a : Fin 256) (e : Fin 128) (h : o + e.val < 512), q' (ix3 0 a e) = q (ix3 0 a ⟨o + e.val, h⟩))
    (h1 : r.val = (x 1).val) (h2 : n.val = o + (x 2).val) (h2l : (x 2).val < 128) :
    head q' w kn v c s x
      = Soft.attend (fun j => (∑ e, Soft.rope (Soft.nrm (fun e => q (ix3 0 r ⟨n.val / 128 * 128 + e.val, by omega⟩)) (fun e => w (ix2 0 e)))
          (fun e => c (ix2 r e)) (fun e => s (ix2 r e)) e * kn (ix2 j e)) * Ideal.ofBits .f32 0x3DB504F3#32)
          (fun j => v (ix3 0 j ⟨n.val % 128, by omega⟩)) := by
  obtain rfl : r = x 1 := Fin.ext h1
  have e2 : x 2 = (⟨n.val % 128, by omega⟩ : Fin 128) := Fin.ext (by show (x 2).val = n.val % 128; omega)
  have ex : x = ix3 (0 : Fin 1) (x 1) (⟨n.val % 128, by omega⟩ : Fin 128) := by
    rw [← e2]
    exact (eq_ix3 x).trans (congrArg (fun a => ix3 a (x 1) (x 2)) (Subsingleton.elim (α := Fin 1) _ _))
  have eo : o = n.val / 128 * 128 := by omega
  subst eo
  refine (congrArg (head q' w kn v c s) ex).trans ((head_eq q' w kn v c s _ _).trans ?_)
  simp only [fun e : Fin 128 => hq (x 1) e (by omega)]

theorem tile_eq (q : FVec Ideal S1x256x512 .bf16) (w : FVec Ideal S1x128 .f32) (kn : FVec Ideal S2048x128 .bf16)
    (v : FVec Ideal S1x2048x128 .bf16) (c s : FVec Ideal S256x128 .f32) (r : Fin 256) (n : Fin 512) :
    tile q w kn v c s (ix3 0 r n)
      = Soft.attend (fun j => (∑ e, Soft.rope (Soft.nrm (fun e => q (ix3 0 r ⟨n.val / 128 * 128 + e.val, by omega⟩)) (fun e => w (ix2 0 e)))
          (fun e => c (ix2 r e)) (fun e => s (ix2 r e)) e * kn (ix2 j e)) * Ideal.ofBits .f32 0x3DB504F3#32)
          (fun j => v (ix3 0 j ⟨n.val % 128, by omega⟩)) := by
  unfold tile
  canon_tiles x h
  · exact head_of q w kn v c s (part q 384 inb_S1x256x512_S1x256x128_0_0_384) 384 rfl r n x (fun a e h => by pointwise [part]) h1 h2 x2_lt
  · exact head_of q w kn v c s (part q 256 inb_S1x256x512_S1x256x128_0_0_256) 256 rfl r n x (fun a e h => by pointwise [part]) h1 h2 x2_lt
  · exact head_of q w kn v c s (part q 128 inb_S1x256x512_S1x256x128_0_0_128) 128 rfl r n x (fun a e h => by pointwise [part]) h1 h2 x2_lt
  · exact head_of q w kn v c s (part q 0 inb_S1x256x512_S1x256x128_0_0_0) 0 rfl r n x (fun a e h => by pointwise [part]) h1 (h2.trans (Nat.zero_add _).symm) x2_lt

end Cert.KernelIdeal.AttnA

end
-- ==== Proof.AttnRef.lean ====
/- The attention's reference, element by element. -/
module

public import proofs.«01_k».proof.Proof.Gen.ReferenceIdeal.Run
public import proofs.«01_k».proof.Proof.Soft
public import Idealize.ShloMosaic.Lib.Pointwise

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.ReferenceIdeal.Value

variable (V0 : Valuation τ sig (Elt Ideal))

/-- The row angles. -/
theorem v29 (r : Fin 2048) (i : Fin 32) : res_main_v29 (F := Ideal) V0 (ix2 r i) = Soft.ang (r.val / 64) i.val := by
  pointwise [res_main_v29, res_main_v24, Soft.ang]
  rfl

/-- The column angles. -/
theorem v34 (r : Fin 2048) (i : Fin 32) : res_main_v34 (F := Ideal) V0 (ix2 r i) = Soft.ang (r.val % 64) i.val := by
  pointwise [res_main_v34, res_main_v24, Soft.ang]
  rfl

/-- The queries' projection, the keys', the values', and the two norm weights. -/
def X (b : Fin 4) (r : Fin 2048) (n : Fin 15872) : EReal := V0 (Proc.tc.devRef main_arg0) (ix3 b r n)
def gq (d : Fin 128) : EReal := V0 (Proc.tc.devRef main_arg1) (ix2 0 d)
def gk (d : Fin 128) : EReal := V0 (Proc.tc.devRef main_arg2) (ix2 0 d)

/-- The normalized queries. -/
theorem v49 (b : Fin 4) (r : Fin 2048) (h : Fin 16) (d : Fin 128) : res_main_v49 (F := Ideal) V0 (ix4 b r h d)
    = Soft.nrm (fun e => X V0 b r ⟨h.val * 128 + e.val, by omega⟩) (gq V0) d := by
  pointwise [res_main_v49, res_main_v35, res_main_v1, Soft.nrm, X, gq]

/-- The normalized keys. -/
theorem v101 (b : Fin 4) (r : Fin 2048) (h : Fin 4) (d : Fin 128) : res_main_v101 (F := Ideal) V0 (ix4 b r h d)
    = Soft.nrm (fun e => X V0 b r ⟨2048 + (h.val * 128 + e.val), by omega⟩) (gk V0) d := by
  pointwise [res_main_v101, res_main_v87, res_main_v1, Soft.nrm, X, gk]

/-- The score of the query at `r` with the key at `j`. -/
def score (b kv g : Fin 4) (r j : Fin 2048) : EReal :=
  (∑ d, Soft.turned (fun e => X V0 b r ⟨(kv.val * 4 + g.val) * 128 + e.val, by omega⟩) (gq V0) r d
    * Soft.turned (fun e => X V0 b j ⟨2048 + (kv.val * 128 + e.val), by omega⟩) (gk V0) j d)
    * Ideal.ofBits .f32 0x3DB504F3#32

/-- The sum of the products of two vectors, each turned half by half. -/
theorem sum_halves (K Q : Fin 128 → EReal) (j r : Fin 2048) (K' Q' : Fin 128 → EReal) (s : EReal)
    (hK : ∀ d, K d = K' d) (hQ : ∀ d, Q d = Q' d) {f : Fin 128 → EReal}
    (hf : ∀ x : Fin 128, f x =
    (if h : x.val < 64 then
      if h1 : x.val < 32 then
        K x * Ideal.cos (Soft.ang (j.val / 64) x.val) - K ⟨32 + x.val, by omega⟩ * Ideal.sin (Soft.ang (j.val / 64) x.val)
      else
        K ⟨32 + (x.val - 32), by omega⟩ * Ideal.cos (Soft.ang (j.val / 64) (x.val - 32))
          + K ⟨x.val - 32, by omega⟩ * Ideal.sin (Soft.ang (j.val / 64) (x.val - 32))
    else
      if h1 : x.val - 64 < 32 then
        K ⟨64 + (x.val - 64), by omega⟩ * Ideal.cos (Soft.ang (j.val % 64) (x.val - 64))
          - K ⟨64 + (32 + (x.val - 64)), by omega⟩ * Ideal.sin (Soft.ang (j.val % 64) (x.val - 64))
      else
        K ⟨64 + (32 + (x.val - 64 - 32)), by omega⟩ * Ideal.cos (Soft.ang (j.val % 64) (x.val - 64 - 32))
          + K ⟨64 + (x.val - 64 - 32), by omega⟩ * Ideal.sin (Soft.ang (j.val % 64) (x.val - 64 - 32)))
    * (if h : x.val < 64 then
      if h1 : x.val < 32 then
        Q x * Ideal.cos (Soft.ang (r.val / 64) x.val) - Q ⟨32 + x.val, by omega⟩ * Ideal.sin (Soft.ang (r.val / 64) x.val)
      else
        Q ⟨32 + (x.val - 32), by omega⟩ * Ideal.cos (Soft.ang (r.val / 64) (x.val - 32))
          + Q ⟨x.val - 32, by omega⟩ * Ideal.sin (Soft.ang (r.val / 64) (x.val - 32))
    else
      if h1 : x.val - 64 < 32 then
        Q ⟨64 + (x.val - 64), by omega⟩ * Ideal.cos (Soft.ang (r.val % 64) (x.val - 64))
          - Q ⟨64 + (32 + (x.val - 64)), by omega⟩ * Ideal.sin (Soft.ang (r.val % 64) (x.val - 64))
      else
        Q ⟨64 + (32 + (x.val - 64 - 32)), by omega⟩ * Ideal.cos (Soft.ang (r.val % 64) (x.val - 64 - 32))
          + Q ⟨64 + (x.val - 64 - 32), by omega⟩ * Ideal.sin (Soft.ang (r.val % 64) (x.val - 64 - 32)))) :
    (∑ x, f x) * s = (∑ d, Soft.rope Q' (Soft.cosT r) (Soft.sinT r) d * Soft.rope K' (Soft.cosT j) (Soft.sinT j) d) * s := by
  obtain rfl : K = K' := funext hK
  obtain rfl : Q = Q' := funext hQ
  refine congrArg (· * s) (Finset.sum_congr rfl fun x _ => ?_)
  rw [hf, Soft.halves K j x, Soft.halves Q r x, mul_comm]

theorem v144 (b kv g : Fin 4) (r j : Fin 2048) : res_main_v144 (F := Ideal) V0 (ix5 b kv g r j) = score V0 b kv g r j := by
  pointwise [res_main_v144, res_main_v106, res_main_v103, res_main_v102, res_main_v104, res_main_v108, res_main_v120, res_main_v121, res_main_v122, res_main_v124, res_main_v126, res_main_v50, res_main_v51, res_main_v52, res_main_v54, res_main_v56, res_main_v68, res_main_v69, res_main_v70, res_main_v72, res_main_v74]
  simp only [v29, v34]
  exact sum_halves (fun d => res_main_v101 (F := Ideal) V0 (ix4 b j kv d))
    (fun d => res_main_v49 (F := Ideal) V0 (ix4 b r ⟨kv.val * 4 + g.val, by omega⟩ d)) j r _ _ _
    (v101 V0 b j kv) (v49 V0 b r ⟨kv.val * 4 + g.val, by omega⟩) (fun x => rfl)

/-- The greatest score of each row of `L`. -/
def top (L : FVec Ideal S4x4x4x2048x2048 .f32) : FVec Ideal S4x4x4x2048 .f32 :=
  Host.reduce FloatOps.maximumf L (constant S_ .f32 0xFF800000#32) reducesTo_S4x4x4x2048x2048_S4x4x4x2048_d4 h_S_

theorem top_eq (L : FVec Ideal S4x4x4x2048x2048 .f32) (b kv g : Fin 4) (r : Fin 2048) :
    top L (ix4 b kv g r) = Finset.univ.fold max (Ideal.ofBits .f32 0xFF800000#32) fun k => L (ix5 b kv g r k) := by
  pointwise [top]

/-- The exponentials of the scores `L` less the values `M` of their rows. -/
def expo (L : FVec Ideal S4x4x4x2048x2048 .f32) (M : FVec Ideal S4x4x4x2048 .f32) : FVec Ideal S4x4x4x2048x2048 .f32 :=
  Host.exp (subf L (broadcastInDim S4x4x4x2048x2048 ![0, 1, 2, 3, 4] bcast_S4x4x4x2048x1_S4x4x4x2048x2048_0_1_2_3_4 (broadcastInDim S4x4x4x2048x1 ![0, 1, 2, 3] bcast_S4x4x4x2048_S4x4x4x2048x1_0_1_2_3 (maximumf (broadcastInDim S4x4x4x2048 ![] bcast_S_S4x4x4x2048 (constant S_ .f32 0xFF800000#32)) M))))

theorem expo_eq (L : FVec Ideal S4x4x4x2048x2048 .f32) (M : FVec Ideal S4x4x4x2048 .f32) (b kv g : Fin 4) (r j : Fin 2048) :
    expo L M (ix5 b kv g r j) = Ideal.exp (L (ix5 b kv g r j) - max (Ideal.ofBits .f32 0xFF800000#32) (M (ix4 b kv g r))) := by
  pointwise [expo]

theorem v151 (b kv g : Fin 4) (r j : Fin 2048) : res_main_v151 (F := Ideal) V0 (ix5 b kv g r j)
    = Ideal.exp (score V0 b kv g r j - Finset.univ.fold max ⊥ fun k => score V0 b kv g r k) := by
  have e : res_main_v151 (F := Ideal) V0 = expo (res_main_v144 (F := Ideal) V0) (top (res_main_v144 (F := Ideal) V0)) := rfl
  rw [e, expo_eq, top_eq, Soft.neg_inf, max_bot_left]
  simp only [v144]

/-- The result with the exponentials `P` and the projections `A`. -/
def res (A : FVec Ideal S4x2048x3072 .f32) (P : FVec Ideal S4x4x4x2048x2048 .f32) : FVec Ideal S4x2048x2048 .bf16 :=
  truncf .bf16 (shapeCast _ (transpose S4x2048x4x4x128 [0, 4, 1, 3, 2] (Host.dotGeneral dot_S4x2048x4x128_S4x4x4x2048x2048_S4x4x128x4x2048_1_4_3_23_02_01 none (shapeCast _ (extractStridedSlice S4x2048x512 ![0, 0, 2560] A slices_S4x2048x3072_S4x2048x512_0_0_2560) shapeCasts_S4x2048x512_S4x2048x4x128) (Host.divf P (broadcastInDim S4x4x4x2048x2048 ![0, 1, 2, 3, 4] bcast_S4x4x4x2048x1_S4x4x4x2048x2048_0_1_2_3_4 (broadcastInDim S4x4x4x2048x1 ![0, 1, 2, 3] bcast_S4x4x4x2048_S4x4x4x2048x1_0_1_2_3 (Host.reduceAdd P (constant S_ .f32 0x00000000#32) reducesTo_S4x4x4x2048x2048_S4x4x4x2048_d4 h_S_))))) transposes_S4x4x128x4x2048_S4x2048x4x4x128_0_4_1_3_2) shapeCasts_S4x2048x4x4x128_S4x2048x2048) bitsLt_bf16_f32

theorem res_eq (A : FVec Ideal S4x2048x3072 .f32) (P : FVec Ideal S4x4x4x2048x2048 .f32) (b : Fin 4) (r n : Fin 2048) :
    res A P (ix3 b r n) = ∑ j, A (ix3 b j ⟨2560 + (n.val / 512 * 128 + n.val % 128), by omega⟩)
      * Ideal.div (P (ix5 b ⟨n.val / 512, by omega⟩ ⟨n.val / 128 % 4, by omega⟩ r j))
        (∑ k, P (ix5 b ⟨n.val / 512, by omega⟩ ⟨n.val / 128 % 4, by omega⟩ r k)) := by
  pointwise [res]

theorem v1 (b : Fin 4) (r : Fin 2048) (n : Fin 3072) : res_main_v1 (F := Ideal) V0 (ix3 b r n) = X V0 b r ⟨n.val, by omega⟩ := by
  pointwise [res_main_v1, X]

/-- The reference's result at an index: the plain attention there, for real weights. -/
theorem result (hq : ∀ d, Soft.IsReal (gq V0 d)) (hk : ∀ d, Soft.IsReal (gk V0 d)) (b : Fin 4) (r n : Fin 2048) :
    res (res_main_v1 (F := Ideal) V0) (res_main_v151 (F := Ideal) V0) (ix3 b r n)
      = Soft.G (X V0) (gq V0) (gk V0) b r n := by
  rw [res_eq]
  simp only [v151, v1]
  unfold Soft.G
  rw [Soft.attend_eq _ _ fun j => (Soft.IsReal.sum fun d => (Soft.turned_real _ _ hq _ _).mul
    (Soft.turned_real _ _ hk _ _)).mul Soft.pos_scale.isReal]
  have e : (fun k => score V0 b ⟨n.val / 512, by omega⟩ ⟨n.val / 128 % 4, by omega⟩ r k)
      = fun j => (∑ d, Soft.turned (fun e => X V0 b r ⟨n.val / 128 * 128 + e.val, by omega⟩) (gq V0) r d
        * Soft.turned (fun e => X V0 b j ⟨2048 + n.val / 512 * 128 + e.val, by omega⟩) (gk V0) j d)
        * Ideal.ofBits .f32 0x3DB504F3#32 := by
    funext j
    unfold score
    have h1 : n.val / 512 * 4 + n.val / 128 % 4 = n.val / 128 := by omega
    simp only [h1, ← Nat.add_assoc]
  refine Finset.sum_congr rfl fun j _ => ?_
  have e' := fun j => congrFun e j
  simp only [e', ← Nat.add_assoc]
  exact mul_comm _ _

end Cert.ReferenceIdeal.Attn

end
-- ==== Proof.Held.lean ====
/- A buffer that is filled at the first point of every run of grid points and kept until the next
   run holds, at every point, the filling made from that point's own block, because the block does
   not change within a run. -/
module

public import Mathlib.Data.Nat.Basic
public import Idealize.ShloMosaic.Lib.Pipeline.ValueKit

@[expose] public section

namespace Cert.Held

/-- If `f` is `fill` of the point's block at the first point of each run of `J` points, keeps its
    value at the other points, and `fill` does not change from one point of a run to the next, then
    `f` is `fill` at every point. -/
theorem filled {α : Type*} {N : ℕ} (J : ℕ) (f fill : (n : ℕ) → n < N → α)
    (first : ∀ n h, n % J = 0 → f n h = fill n h)
    (keep : ∀ n (h : n + 1 < N), ¬(n + 1) % J = 0 → f (n + 1) h = f n (Nat.lt_of_succ_lt h))
    (same : ∀ n (h : n + 1 < N), ¬(n + 1) % J = 0 → fill n (Nat.lt_of_succ_lt h) = fill (n + 1) h) :
    ∀ n h, f n h = fill n h
  | 0, h => first 0 h (Nat.zero_mod _)
  | n + 1, h => by
      by_cases hn : (n + 1) % J = 0
      · exact first _ h hn
      · rw [keep n h hn, filled J f fill first keep same n _, same n h hn]

end Cert.Held
-- ==== Proof.AttnA.lean ====
/- What the attention's call leaves in its result array: the plain attention. -/
module

public import proofs.«01_k».proof.Proof.AttnTab
public import proofs.«01_k».proof.Proof.AttnHead
public import proofs.«01_k».proof.Proof.AttnRef
public import proofs.«01_k».proof.Proof.Gen.Pre_finite_norm_weights
public import proofs.«01_k».proof.Proof.Held
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.AttnA

open Cert.KernelIdeal Cert.KernelIdeal.Gen

variable (m : (ℓ : Loc nD τ sig) → Buf (Elt Ideal) ℓ)

/-- The keys' blocks and tables do not change within a run of eight points. -/
theorem same (c : Dev nD) (n : ℕ) (h : n + 1 < cfg0.N) (hn : ¬(n + 1) % 8 = 0) :
    keys (iblk m c 1 ⟨n, Nat.lt_of_succ_lt h⟩) (iblk m c 8 ⟨n, Nat.lt_of_succ_lt h⟩) (iblk m c 5 ⟨n, Nat.lt_of_succ_lt h⟩)
        (iblk m c 6 ⟨n, Nat.lt_of_succ_lt h⟩)
      = keys (iblk m c 1 ⟨n + 1, h⟩) (iblk m c 8 ⟨n + 1, h⟩) (iblk m c 5 ⟨n + 1, h⟩) (iblk m c 6 ⟨n + 1, h⟩) := by
  have e : n / 8 = (n + 1) / 8 := by omega
  have e' : n / 32 = (n + 1) / 32 := by omega
  funext y
  obtain ⟨r, d, rfl⟩ : ∃ r d, y = ix2 r d := ⟨y 0, y 1, eq_ix2 y⟩
  simp only [keys_eq, blk_k, blk_cosk, blk_sink, blk_gk, e, e']

/-- The scratch holds the normalized and turned keys of the point's head. -/
theorem scratch (c : Dev nD) (t : Fin cfg0.N) :
    (outsAt0 m c t.val t.isLt).2 = keys (iblk m c 1 t) (iblk m c 8 t) (iblk m c 5 t) (iblk m c 6 t) := by
  refine Held.filled 8 (fun n h => (outsAt0 m c n h).2)
    (fun n h => keys (iblk m c 1 ⟨n, h⟩) (iblk m c 8 ⟨n, h⟩) (iblk m c 5 ⟨n, h⟩) (iblk m c 6 ⟨n, h⟩)) ?_ ?_ ?_ t.val t.isLt
  · intro n h hn
    rw [outsAt0_A m c ⟨n, h⟩ hn]
    frame_out
    rfl
  · intro n h hn
    rw [outsAt0_B m c ⟨n + 1, h⟩ hn]
    rfl
  · intro n h hn
    exact same m c n h hn

/-- What point `t` leaves in the output's buffer. -/
theorem left (c : Dev nD) (t : Fin cfg0.N) : (outsAt0 m c t.val t.isLt).1
    = tile (iblk m c 0 t) (iblk m c 7 t) (keys (iblk m c 1 t) (iblk m c 8 t) (iblk m c 5 t) (iblk m c 6 t))
        (iblk m c 2 t) (iblk m c 3 t) (iblk m c 4 t) := by
  by_cases h : t.val % 8 = 0
  · rw [outsAt0_A m c t h]; frame_out
    simp only [head1, head2, head3]
    rfl
  · have hs := scratch m c t
    rw [outsAt0_B m c t h] at hs ⊢
    replace hs : (outsAt0 m c (t.val - 1) (Nat.lt_of_le_of_lt (Nat.sub_le _ _) t.isLt)).2 = _ := hs
    dsimp only
    rw [hs]
    frame_out
    simp only [head1, head2, head3]
    exact congrArg (fun kn => tile (iblk m c 0 t) (iblk m c 7 t) kn (iblk m c 2 t) (iblk m c 3 t) (iblk m c 4 t))
      ((Memref.isWhole_whole _).read_unread _)

/-- The plain attention as an array, from the three argument arrays. -/
def REF (X : FVec Ideal S4x2048x15872 .bf16) (wq wk : FVec Ideal S1x128 .f32) : FVec Ideal S4x2048x2048 .bf16 :=
  fun i => Soft.G (fun b r n => X (ix3 b r n)) (fun d => wq (ix2 0 d)) (fun d => wk (ix2 0 d)) (i 0) (i 1) (i 2)

/-- One point's results are the attention's at the place of its block. -/
theorem point (c : Dev nD) (t : Fin cfg0.N) (r : Fin 256) (n : Fin 512) :
    tile (iblk m c 0 t) (iblk m c 7 t) (keys (iblk m c 1 t) (iblk m c 8 t) (iblk m c 5 t) (iblk m c 6 t))
        (iblk m c 2 t) (iblk m c 3 t) (iblk m c 4 t) (ix3 0 r n)
      = Soft.G (fun b r n => m ((c : Thread nD τ).loc main_arg0) (ix3 b r n)) (fun d => m ((c : Thread nD τ).loc main_arg1) (ix2 0 d))
          (fun d => m ((c : Thread nD τ).loc main_arg2) (ix2 0 d)) ⟨t.val / 32, by have := lt_t t; omega⟩
          ⟨t.val % 8 * 256 + r.val, by omega⟩ ⟨t.val / 8 % 4 * 512 + n.val, by omega⟩ := by
  rw [tile_eq]
  have a1 : (t.val / 8 % 4 * 512 + n.val) / 128 * 128 = t.val / 8 % 4 * 512 + n.val / 128 * 128 := by omega
  have a2 : (t.val / 8 % 4 * 512 + n.val) / 512 = t.val / 8 % 4 := by omega
  have a3 : (t.val / 8 % 4 * 512 + n.val) % 128 = n.val % 128 := by omega
  unfold Soft.G Soft.turned
  simp only [keys_eq, blk_q, blk_k, blk_v, blk_cos, blk_sin, blk_cosk, blk_sink, blk_gq, blk_gk, a1, a2, a3, Nat.add_assoc]

/-- Where an element of point `t`'s block lies in the result. -/
theorem place (t : Fin cfg0.N) (r : Fin 256) (n : Fin 512) : ((cfg0.win 9).blk t).view.emb (ix3 0 r n)
      = ix3 (⟨t.val / 32, by have := lt_t t; omega⟩ : Fin 4)
          (⟨t.val % 8 * 256 + r.val, by omega⟩ : Fin 2048) (⟨t.val / 8 % 4 * 512 + n.val, by omega⟩ : Fin 2048) := by
  blk_point [idx t]

/-- `REF` at three coordinates. -/
theorem REF_at (X : FVec Ideal S4x2048x15872 .bf16) (wq wk : FVec Ideal S1x128 .f32) (b : Fin 4) (r n : Fin 2048) :
    REF X wq wk (ix3 b r n) = Soft.G (fun b r n => X (ix3 b r n)) (fun d => wq (ix2 0 d)) (fun d => wk (ix2 0 d)) b r n := rfl

/-- An index of a block is three coordinates, the first of them zero. -/
theorem coords (y : S1x256x512.Idx) : ∃ (r : Fin 256) (n : Fin 512), y = ix3 0 r n := ⟨y 1, y 2, (eq_ix3 y).trans
    (congrArg (fun a => ix3 a (y 1) (y 2)) (Subsingleton.elim (α := Fin 1) _ _))⟩

/-- One point's results are `REF`'s. -/
theorem agrees (c : Dev nD) (t : Fin cfg0.N) (y : S1x256x512.Idx) :
    tile (iblk m c 0 t) (iblk m c 7 t) (keys (iblk m c 1 t) (iblk m c 8 t) (iblk m c 5 t) (iblk m c 6 t))
        (iblk m c 2 t) (iblk m c 3 t) (iblk m c 4 t) y
      = REF (m ((c : Thread nD τ).loc main_arg0)) (m ((c : Thread nD τ).loc main_arg1)) (m ((c : Thread nD τ).loc main_arg2))
          (((cfg0.win 9).blk t).view.emb y) := by
  obtain ⟨r, n, rfl⟩ := coords y
  exact (point m c t r n).trans ((REF_at _ _ _ _ _ _).symm.trans (congrArg (REF _ _ _) (place t r n).symm))

/-- The result array after the run is the plain attention. -/
theorem final (c : Dev nD) : (dats m 0 c).arrAt 9 (cfgs 0).N
    = REF (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9, left]
  exact agrees m c t y

/-! ## The two sides' weights -/

/-- The statement's condition at a device makes its two weights real. -/
theorem weights (X : FVec Ideal S4x2048x15872 .bf16) (wq wk : FVec Ideal S1x128 .f32)
    (h : Cert.Pre_finite_norm_weights.fn (F := Ideal) X wq wk = fun _ => 1#1) :
    (∀ d, Soft.IsReal (wq (ix2 0 d))) ∧ ∀ d, Soft.IsReal (wk (ix2 0 d)) := by
  have key : ∀ d : Fin 128, (Ideal.cmp .olt (max (wq (ix2 0 d)) (-wq (ix2 0 d))) (Ideal.ofBits .f32 0x7F800000#32))
      &&& (Ideal.cmp .olt (max (wk (ix2 0 d)) (-wk (ix2 0 d))) (Ideal.ofBits .f32 0x7F800000#32)) = 1#1 :=
    fun d => congrFun h (ix2 0 d)
  exact ⟨fun d => Soft.real_of_cmp (Soft.both _ _ (key d)).1, fun d => Soft.real_of_cmp (Soft.both _ _ (key d)).2⟩

/-- The reference's result from its argument arrays is the plain attention where the weights are real. -/
theorem reference (V0 : Valuation Cert.ReferenceIdeal.τ Cert.ReferenceIdeal.sig (Elt Ideal))
    (hq : ∀ d, Soft.IsReal (Cert.ReferenceIdeal.Attn.gq V0 d)) (hk : ∀ d, Soft.IsReal (Cert.ReferenceIdeal.Attn.gk V0 d)) :
    Cert.ReferenceIdeal.Attn.res (Cert.ReferenceIdeal.Value.res_main_v1 (F := Ideal) V0) (Cert.ReferenceIdeal.Value.res_main_v151 (F := Ideal) V0)
      = REF (V0 (Proc.tc.devRef Cert.ReferenceIdeal.main_arg0)) (V0 (Proc.tc.devRef Cert.ReferenceIdeal.main_arg1))
          (V0 (Proc.tc.devRef Cert.ReferenceIdeal.main_arg2)) := by
  funext i
  obtain ⟨b, r, n, rfl⟩ : ∃ (b : Fin 4) (r n : Fin 2048), i = ix3 b r n := ⟨i 0, i 1, i 2, eq_ix3 i⟩
  exact (Cert.ReferenceIdeal.Attn.result V0 hq hk b r n).trans (REF_at _ _ _ _ _ _).symm

end Cert.KernelIdeal.AttnA

end
-- ==== Proof.Up.lean ====
/- What the feed-forward block's first call leaves in its result array: the reference's gated product. -/
module

public import proofs.«01_k».proof.Proof.Gen.Kernel2Ideal.Value
public import proofs.«01_k».proof.Proof.Gen.Reference2Ideal.Run
public import proofs.«01_k».proof.Proof.Held
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Up

open Cert.Kernel2Ideal Cert.Kernel2Ideal.Gen

variable (m : (ℓ : Loc nD τ sig) → Buf (Elt Ideal) ℓ)

/-- The reference's result as a function of the three argument arrays. -/
def REF (X : FVec Ideal S8192x4096 .bf16) (G U : FVec Ideal S1x4096x11008 .f32) : FVec Ideal S8192x11008 .bf16 :=
  truncf .bf16 (mulf (mulf (Host.dotGeneral (F := Ideal) (φ₁ := .f32) (φ₂ := .f32) Cert.Reference2Ideal.dot_S8192x4096_S4096x11008_S8192x11008_1_0_0_1_n_n none (extf .f32 X Cert.Reference2Ideal.Gen.bitsLt_bf16_f32) (shapeCast _ G Cert.Reference2Ideal.Gen.shapeCasts_S1x4096x11008_S4096x11008)) (Host.divf (broadcastInDim Cert.Reference2Ideal.S8192x11008 ![] Cert.Reference2Ideal.Gen.bcast_S_S8192x11008 (constant Cert.Reference2Ideal.S_ .f32 0x3F800000#32)) (addf (broadcastInDim Cert.Reference2Ideal.S8192x11008 ![] Cert.Reference2Ideal.Gen.bcast_S_S8192x11008 (constant Cert.Reference2Ideal.S_ .f32 0x3F800000#32)) (Host.exp (Host.negf (Host.dotGeneral (F := Ideal) (φ₁ := .f32) (φ₂ := .f32) Cert.Reference2Ideal.dot_S8192x4096_S4096x11008_S8192x11008_1_0_0_1_n_n none (extf .f32 X Cert.Reference2Ideal.Gen.bitsLt_bf16_f32) (shapeCast _ G Cert.Reference2Ideal.Gen.shapeCasts_S1x4096x11008_S4096x11008))))))) (Host.dotGeneral (F := Ideal) (φ₁ := .f32) (φ₂ := .f32) Cert.Reference2Ideal.dot_S8192x4096_S4096x11008_S8192x11008_1_0_0_1_n_n none (extf .f32 X Cert.Reference2Ideal.Gen.bitsLt_bf16_f32) (shapeCast _ U Cert.Reference2Ideal.Gen.shapeCasts_S1x4096x11008_S4096x11008))) Cert.Reference2Ideal.Gen.bitsLt_bf16_f32

/-- The four windows' block indices at a point: point `t` is column block `t / 8`, row block `t % 8`. -/
theorem idx : ∀ t : Fin cfg0.N, win0_0.index t = ![t.val % 8, 0] ∧ win0_1.index t = ![0, t.val / 8]
    ∧ win0_2.index t = ![0, t.val / 8] ∧ win0_3.index t = ![t.val % 8, t.val / 8] :=
  (by decide +kernel : ∀ t : Fin grid0.N, _)

/-- Neither weight block changes within a run of eight points. -/
theorem same (c : Dev nD) (n : ℕ) (h : n + 1 < cfg0.N) (hn : ¬(n + 1) % 8 = 0) :
    iblk m c 1 ⟨n, Nat.lt_of_succ_lt h⟩ = iblk m c 1 ⟨n + 1, h⟩
      ∧ iblk m c 2 ⟨n, Nat.lt_of_succ_lt h⟩ = iblk m c 2 ⟨n + 1, h⟩ := by
  have e : n / 8 = (n + 1) / 8 := by omega
  constructor
  · funext y
    blk_ext [iblk, V, idx ⟨n, Nat.lt_of_succ_lt h⟩, idx ⟨n + 1, h⟩, e]
  · funext y
    blk_ext [iblk, V, idx ⟨n, Nat.lt_of_succ_lt h⟩, idx ⟨n + 1, h⟩, e]

/-- The two scratches hold the point's two weight blocks. -/
theorem scratch (c : Dev nD) (t : Fin cfg0.N) :
    (outsAt0 m c t.val t.isLt).2 = (k0_pay1 (iblk m c 1 t), k0_pay2 (iblk m c 2 t)) := by
  refine Held.filled 8 (fun n h => (outsAt0 m c n h).2)
    (fun n h => (k0_pay1 (iblk m c 1 ⟨n, h⟩), k0_pay2 (iblk m c 2 ⟨n, h⟩))) ?_ ?_ ?_ t.val t.isLt
  · intro n h hn
    rw [outsAt0_A m c ⟨n, h⟩ hn]
    refine Prod.ext ?_ ?_
    · frame_out
    · frame_out
  · intro n h hn
    rw [outsAt0_B m c ⟨n + 1, h⟩ hn]
    rfl
  · intro n h hn
    rw [(same m c n h hn).1, (same m c n h hn).2]

/-- One point's value is the reference's at the place of its block. -/
theorem point (c : Dev nD) (t : Fin cfg0.N) (y) :
    k0_pay3 (iblk m c 0 t) (k0_pay1 (iblk m c 1 t)) (k0_pay2 (iblk m c 2 t)) y
      = REF (m ((c : Thread nD τ).loc main_arg0)) (m ((c : Thread nD τ).loc main_arg1)) (m ((c : Thread nD τ).loc main_arg2)) (((cfg0.win 3).blk t).view.emb y) := by
  pointwise [k0_pay1, k0_pay2, k0_pay3, REF, Ideal.logistic]
  blk_point [iblk, V, idx t]

/-- What point `t` leaves in the output's buffer. -/
theorem left (c : Dev nD) (t : Fin cfg0.N) :
    (outsAt0 m c t.val t.isLt).1 = k0_pay3 (iblk m c 0 t) (k0_pay1 (iblk m c 1 t)) (k0_pay2 (iblk m c 2 t)) := by
  by_cases h : t.val % 8 = 0
  · rw [outsAt0_A m c t h]; frame_out
  · have hs := scratch m c t
    rw [outsAt0_B m c t h] at hs ⊢
    replace hs : (outsAt0 m c (t.val - 1) (Nat.lt_of_le_of_lt (Nat.sub_le _ _) t.isLt)).2 = _ := hs
    dsimp only
    rw [hs]
    frame_out
    congr 1
    · exact (Memref.isWhole_whole _).read_unread _
    · exact (Memref.isWhole_whole _).read_unread _

/-- The result array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, left]
  exact point m c t y

end Cert.Kernel2Ideal.Up

end
-- ==== Proof.InProj.lean ====
/- What the input projection's call leaves in its result array: the reference's product. -/
module

public import proofs.«01_k».proof.Proof.Gen.Kernel3Ideal.Value
public import proofs.«01_k».proof.Proof.Gen.Reference3Ideal.Run
public import proofs.«01_k».proof.Proof.Held
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.InProj

open Cert.Kernel3Ideal Cert.Kernel3Ideal.Gen

variable (m : (ℓ : Loc nD τ sig) → Buf (Elt Ideal) ℓ)

/-- The reference's result as a function of the two argument arrays. -/
def REF (X : FVec Ideal S8192x4096 .bf16) (Wt : FVec Ideal S1x4096x15872 .f32) : FVec Ideal S8192x15872 .bf16 :=
  truncf .bf16 (Host.dotGeneral (F := Ideal) (φ₁ := .f32) (φ₂ := .f32) Cert.Reference3Ideal.dot_S8192x4096_S4096x15872_S8192x15872_1_0_0_1_n_n none
    (extf .f32 X Cert.Reference3Ideal.Gen.bitsLt_bf16_f32)
    (shapeCast _ Wt Cert.Reference3Ideal.Gen.shapeCasts_S1x4096x15872_S4096x15872)) Cert.Reference3Ideal.Gen.bitsLt_bf16_f32

/-- The three windows' block indices at a point: point `t` is column block `t / 8`, row block `t % 8`. -/
theorem idx : ∀ t : Fin cfg0.N, win0_0.index t = ![t.val % 8, 0] ∧ win0_1.index t = ![0, t.val / 8]
    ∧ win0_2.index t = ![t.val % 8, t.val / 8] :=
  (by decide +kernel : ∀ t : Fin grid0.N, _)

/-- The weight block does not change within a run of eight points. -/
theorem same (c : Dev nD) (n : ℕ) (h : n + 1 < cfg0.N) (hn : ¬(n + 1) % 8 = 0) :
    iblk m c 1 ⟨n, Nat.lt_of_succ_lt h⟩ = iblk m c 1 ⟨n + 1, h⟩ := by
  have e : n / 8 = (n + 1) / 8 := by omega
  funext y
  blk_ext [iblk, V, idx ⟨n, Nat.lt_of_succ_lt h⟩, idx ⟨n + 1, h⟩, e]

/-- The scratch holds the point's weight block. -/
theorem scratch (c : Dev nD) (t : Fin cfg0.N) :
    (outsAt0 m c t.val t.isLt).2 = k0_pay1 (iblk m c 1 t) := by
  refine Held.filled 8 (fun n h => (outsAt0 m c n h).2) (fun n h => k0_pay1 (iblk m c 1 ⟨n, h⟩)) ?_ ?_ ?_ t.val t.isLt
  · intro n h hn
    rw [outsAt0_A m c ⟨n, h⟩ hn]
    frame_out
  · intro n h hn
    rw [outsAt0_B m c ⟨n + 1, h⟩ hn]
    rfl
  · intro n h hn
    rw [same m c n h hn]

/-- One point's product is the reference's at the place of its block. -/
theorem point (c : Dev nD) (t : Fin cfg0.N) (y) :
    k0_pay2 (iblk m c 0 t) (k0_pay1 (iblk m c 1 t)) y
      = REF (m ((c : Thread nD τ).loc main_arg0)) (m ((c : Thread nD τ).loc main_arg1)) (((cfg0.win 2).blk t).view.emb y) := by
  pointwise [k0_pay1, k0_pay2, REF]
  blk_point [iblk, V, idx t]

/-- What point `t` leaves in the output's buffer. -/
theorem left (c : Dev nD) (t : Fin cfg0.N) :
    (outsAt0 m c t.val t.isLt).1 = k0_pay2 (iblk m c 0 t) (k0_pay1 (iblk m c 1 t)) := by
  by_cases h : t.val % 8 = 0
  · rw [outsAt0_A m c t h]; frame_out
  · have hs := scratch m c t
    rw [outsAt0_B m c t h] at hs ⊢
    replace hs : (outsAt0 m c (t.val - 1) (Nat.lt_of_le_of_lt (Nat.sub_le _ _) t.isLt)).2 = _ := hs
    dsimp only
    rw [hs]
    frame_out
    exact congrArg (k0_pay2 _) ((Memref.isWhole_whole _).read_unread _)

/-- The result array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2, left]
  exact point m c t y

end Cert.Kernel3Ideal.InProj

end
-- ==== Proof.Down0.lean ====
/- What the first half of the down projection's call leaves in its result array: the reference's sum. -/
module

public import proofs.«01_k».proof.Proof.Gen.Kernel4Ideal.Value
public import proofs.«01_k».proof.Proof.Gen.Reference4Ideal.Run
public import proofs.«01_k».proof.Proof.Held
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Down0

open Cert.Kernel4Ideal Cert.Kernel4Ideal.Gen

variable (m : (ℓ : Loc nD τ sig) → Buf (Elt Ideal) ℓ)

/-- The reference's result as a function of the three argument arrays. -/
def REF (X : FVec Ideal S8192x11008 .bf16) (Wt : FVec Ideal S1x11008x4096 .f32) (R : FVec Ideal S8192x4096 .f32) : FVec Ideal S8192x4096 .f32 :=
  addf R (Host.dotGeneral (F := Ideal) (φ₁ := .f32) (φ₂ := .f32) Cert.Reference4Ideal.dot_S8192x5504_S5504x4096_S8192x4096_1_0_0_1_n_n none
    (extf .f32 (extractStridedSlice Cert.Reference4Ideal.S8192x5504 ![0, 0] X Cert.Reference4Ideal.Gen.slices_S8192x11008_S8192x5504_0_0) Cert.Reference4Ideal.Gen.bitsLt_bf16_f32)
    (shapeCast _ (extractStridedSlice Cert.Reference4Ideal.S1x5504x4096 ![0, 0, 0] Wt Cert.Reference4Ideal.Gen.slices_S1x11008x4096_S1x5504x4096_0_0_0) Cert.Reference4Ideal.Gen.shapeCasts_S1x5504x4096_S5504x4096))

/-- The four windows' block indices at a point: point `t` is column block `t / 16`, row block `t % 16`. -/
theorem idx : ∀ t : Fin cfg0.N, win0_0.index t = ![t.val % 16, 0] ∧ win0_1.index t = ![0, t.val / 16]
    ∧ win0_2.index t = ![t.val % 16, t.val / 16] ∧ win0_3.index t = ![t.val % 16, t.val / 16] :=
  (by decide +kernel : ∀ t : Fin grid0.N, _)

/-- The weight block does not change within a run of sixteen points. -/
theorem same (c : Dev nD) (n : ℕ) (h : n + 1 < cfg0.N) (hn : ¬(n + 1) % 16 = 0) :
    iblk m c 1 ⟨n, Nat.lt_of_succ_lt h⟩ = iblk m c 1 ⟨n + 1, h⟩ := by
  have e : n / 16 = (n + 1) / 16 := by omega
  funext y
  blk_ext [iblk, V, idx ⟨n, Nat.lt_of_succ_lt h⟩, idx ⟨n + 1, h⟩, e]

/-- The scratch holds the point's weight block. -/
theorem scratch (c : Dev nD) (t : Fin cfg0.N) :
    (outsAt0 m c t.val t.isLt).2 = k0_pay1 (iblk m c 1 t) := by
  refine Held.filled 16 (fun n h => (outsAt0 m c n h).2) (fun n h => k0_pay1 (iblk m c 1 ⟨n, h⟩)) ?_ ?_ ?_ t.val t.isLt
  · intro n h hn
    rw [outsAt0_A m c ⟨n, h⟩ hn]
    frame_out
  · intro n h hn
    rw [outsAt0_B m c ⟨n + 1, h⟩ hn]
    rfl
  · intro n h hn
    rw [same m c n h hn]

/-- One point's sum is the reference's at the place of its block. -/
theorem point (c : Dev nD) (t : Fin cfg0.N) (y) :
    k0_pay2 (iblk m c 2 t) (iblk m c 0 t) (k0_pay1 (iblk m c 1 t)) y
      = REF (m ((c : Thread nD τ).loc main_arg0)) (m ((c : Thread nD τ).loc main_arg1)) (m ((c : Thread nD τ).loc main_arg2)) (((cfg0.win 3).blk t).view.emb y) := by
  pointwise [k0_pay1, k0_pay2, REF]
  blk_point [iblk, V, idx t]

/-- What point `t` leaves in the output's buffer. -/
theorem left (c : Dev nD) (t : Fin cfg0.N) :
    (outsAt0 m c t.val t.isLt).1 = k0_pay2 (iblk m c 2 t) (iblk m c 0 t) (k0_pay1 (iblk m c 1 t)) := by
  by_cases h : t.val % 16 = 0
  · rw [outsAt0_A m c t h]; frame_out
  · have hs := scratch m c t
    rw [outsAt0_B m c t h] at hs ⊢
    replace hs : (outsAt0 m c (t.val - 1) (Nat.lt_of_le_of_lt (Nat.sub_le _ _) t.isLt)).2 = _ := hs
    dsimp only
    rw [hs]
    frame_out
    exact congrArg (k0_pay2 _ _) ((Memref.isWhole_whole _).read_unread _)

/-- The result array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, left]
  exact point m c t y

end Cert.Kernel4Ideal.Down0

end
-- ==== Proof.Down1.lean ====
/- What the second half of the down projection's call leaves in its result array: the reference's sum. -/
module

public import proofs.«01_k».proof.Proof.Gen.Kernel5Ideal.Value
public import proofs.«01_k».proof.Proof.Gen.Reference5Ideal.Run
public import proofs.«01_k».proof.Proof.Held
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel5Ideal.Down1

open Cert.Kernel5Ideal Cert.Kernel5Ideal.Gen

variable (m : (ℓ : Loc nD τ sig) → Buf (Elt Ideal) ℓ)

/-- The reference's result as a function of the three argument arrays. -/
def REF (X : FVec Ideal S8192x11008 .bf16) (Wt : FVec Ideal S1x11008x4096 .f32) (R : FVec Ideal S8192x4096 .f32) : FVec Ideal S8192x4096 .f32 :=
  addf R (Host.dotGeneral (F := Ideal) (φ₁ := .f32) (φ₂ := .f32) Cert.Reference5Ideal.dot_S8192x5504_S5504x4096_S8192x4096_1_0_0_1_n_n none
    (extf .f32 (extractStridedSlice Cert.Reference5Ideal.S8192x5504 ![0, 5504] X Cert.Reference5Ideal.Gen.slices_S8192x11008_S8192x5504_0_5504) Cert.Reference5Ideal.Gen.bitsLt_bf16_f32)
    (shapeCast _ (extractStridedSlice Cert.Reference5Ideal.S1x5504x4096 ![0, 5504, 0] Wt Cert.Reference5Ideal.Gen.slices_S1x11008x4096_S1x5504x4096_0_5504_0) Cert.Reference5Ideal.Gen.shapeCasts_S1x5504x4096_S5504x4096))

/-- The four windows' block indices at a point: point `t` is column block `t / 16`, row block `t % 16`. -/
theorem idx : ∀ t : Fin cfg0.N, win0_0.index t = ![t.val % 16, 1] ∧ win0_1.index t = ![1, t.val / 16]
    ∧ win0_2.index t = ![t.val % 16, t.val / 16] ∧ win0_3.index t = ![t.val % 16, t.val / 16] :=
  (by decide +kernel : ∀ t : Fin grid0.N, _)

/-- The weight block does not change within a run of sixteen points. -/
theorem same (c : Dev nD) (n : ℕ) (h : n + 1 < cfg0.N) (hn : ¬(n + 1) % 16 = 0) :
    iblk m c 1 ⟨n, Nat.lt_of_succ_lt h⟩ = iblk m c 1 ⟨n + 1, h⟩ := by
  have e : n / 16 = (n + 1) / 16 := by omega
  funext y
  blk_ext [iblk, V, idx ⟨n, Nat.lt_of_succ_lt h⟩, idx ⟨n + 1, h⟩, e]

/-- The scratch holds the point's weight block. -/
theorem scratch (c : Dev nD) (t : Fin cfg0.N) :
    (outsAt0 m c t.val t.isLt).2 = k0_pay1 (iblk m c 1 t) := by
  refine Held.filled 16 (fun n h => (outsAt0 m c n h).2) (fun n h => k0_pay1 (iblk m c 1 ⟨n, h⟩)) ?_ ?_ ?_ t.val t.isLt
  · intro n h hn
    rw [outsAt0_A m c ⟨n, h⟩ hn]
    frame_out
  · intro n h hn
    rw [outsAt0_B m c ⟨n + 1, h⟩ hn]
    rfl
  · intro n h hn
    rw [same m c n h hn]

/-- One point's sum is the reference's at the place of its block. -/
theorem point (c : Dev nD) (t : Fin cfg0.N) (y) :
    k0_pay2 (iblk m c 2 t) (iblk m c 0 t) (k0_pay1 (iblk m c 1 t)) y
      = REF (m ((c : Thread nD τ).loc main_arg0)) (m ((c : Thread nD τ).loc main_arg1)) (m ((c : Thread nD τ).loc main_arg2)) (((cfg0.win 3).blk t).view.emb y) := by
  pointwise [k0_pay1, k0_pay2, REF]
  blk_point [iblk, V, idx t]

/-- What point `t` leaves in the output's buffer. -/
theorem left (c : Dev nD) (t : Fin cfg0.N) :
    (outsAt0 m c t.val t.isLt).1 = k0_pay2 (iblk m c 2 t) (iblk m c 0 t) (k0_pay1 (iblk m c 1 t)) := by
  by_cases h : t.val % 16 = 0
  · rw [outsAt0_A m c t h]; frame_out
  · have hs := scratch m c t
    rw [outsAt0_B m c t h] at hs ⊢
    replace hs : (outsAt0 m c (t.val - 1) (Nat.lt_of_le_of_lt (Nat.sub_le _ _) t.isLt)).2 = _ := hs
    dsimp only
    rw [hs]
    frame_out
    exact congrArg (k0_pay2 _ _) ((Memref.isWhole_whole _).read_unread _)

/-- The result array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, left]
  exact point m c t y

end Cert.Kernel5Ideal.Down1

end
-- ==== Proof.OutProj.lean ====
/- What the output projection's call leaves in its result array: the reference's sum. -/
module

public import proofs.«01_k».proof.Proof.Gen.Kernel6Ideal.Value
public import proofs.«01_k».proof.Proof.Gen.Reference6Ideal.Run
public import proofs.«01_k».proof.Proof.Held
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel6Ideal.OutProj

open Cert.Kernel6Ideal Cert.Kernel6Ideal.Gen

variable (m : (ℓ : Loc nD τ sig) → Buf (Elt Ideal) ℓ)

/-- The reference's result as a function of the three argument arrays. -/
def REF (X : FVec Ideal S8192x4096 .bf16) (Wt : FVec Ideal S1x4096x4096 .f32) (R : FVec Ideal S8192x4096 .f32) : FVec Ideal S8192x4096 .f32 :=
  addf R (Host.dotGeneral (F := Ideal) (φ₁ := .f32) (φ₂ := .f32) Cert.Reference6Ideal.dot_S8192x4096_S4096x4096_S8192x4096_1_0_0_1_n_n none
    (extf .f32 X Cert.Reference6Ideal.Gen.bitsLt_bf16_f32)
    (shapeCast _ Wt Cert.Reference6Ideal.Gen.shapeCasts_S1x4096x4096_S4096x4096))

/-- The four windows' block indices at a point: point `t` is column block `t / 8`, row block `t % 8`. -/
theorem idx : ∀ t : Fin cfg0.N, win0_0.index t = ![t.val % 8, 0] ∧ win0_1.index t = ![0, t.val / 8]
    ∧ win0_2.index t = ![t.val % 8, t.val / 8] ∧ win0_3.index t = ![t.val % 8, t.val / 8] :=
  (by decide +kernel : ∀ t : Fin grid0.N, _)

/-- The weight block does not change within a run of eight points. -/
theorem same (c : Dev nD) (n : ℕ) (h : n + 1 < cfg0.N) (hn : ¬(n + 1) % 8 = 0) :
    iblk m c 1 ⟨n, Nat.lt_of_succ_lt h⟩ = iblk m c 1 ⟨n + 1, h⟩ := by
  have e : n / 8 = (n + 1) / 8 := by omega
  funext y
  blk_ext [iblk, V, idx ⟨n, Nat.lt_of_succ_lt h⟩, idx ⟨n + 1, h⟩, e]

/-- The scratch holds the point's weight block. -/
theorem scratch (c : Dev nD) (t : Fin cfg0.N) :
    (outsAt0 m c t.val t.isLt).2 = k0_pay1 (iblk m c 1 t) := by
  refine Held.filled 8 (fun n h => (outsAt0 m c n h).2) (fun n h => k0_pay1 (iblk m c 1 ⟨n, h⟩)) ?_ ?_ ?_ t.val t.isLt
  · intro n h hn
    rw [outsAt0_A m c ⟨n, h⟩ hn]
    frame_out
  · intro n h hn
    rw [outsAt0_B m c ⟨n + 1, h⟩ hn]
    rfl
  · intro n h hn
    rw [same m c n h hn]

/-- One point's sum is the reference's at the place of its block. -/
theorem point (c : Dev nD) (t : Fin cfg0.N) (y) :
    k0_pay2 (iblk m c 2 t) (iblk m c 0 t) (k0_pay1 (iblk m c 1 t)) y
      = REF (m ((c : Thread nD τ).loc main_arg0)) (m ((c : Thread nD τ).loc main_arg1)) (m ((c : Thread nD τ).loc main_arg2)) (((cfg0.win 3).blk t).view.emb y) := by
  pointwise [k0_pay1, k0_pay2, REF]
  blk_point [iblk, V, idx t]

/-- What point `t` leaves in the output's buffer. -/
theorem left (c : Dev nD) (t : Fin cfg0.N) :
    (outsAt0 m c t.val t.isLt).1 = k0_pay2 (iblk m c 2 t) (iblk m c 0 t) (k0_pay1 (iblk m c 1 t)) := by
  by_cases h : t.val % 8 = 0
  · rw [outsAt0_A m c t h]; frame_out
  · have hs := scratch m c t
    rw [outsAt0_B m c t h] at hs ⊢
    replace hs : (outsAt0 m c (t.val - 1) (Nat.lt_of_le_of_lt (Nat.sub_le _ _) t.isLt)).2 = _ := hs
    dsimp only
    rw [hs]
    frame_out
    exact congrArg (k0_pay2 _ _) ((Memref.isWhole_whole _).read_unread _)

/-- The result array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, left]
  exact point m c t y

end Cert.Kernel6Ideal.OutProj

end
-- ==== Proof.Merge.lean ====
/- What the gated merge's call leaves in its result array: the reference's weighted sum of the two projections. -/
module

public import proofs.«01_k».proof.Proof.Gen.Kernel7Ideal.Value
public import proofs.«01_k».proof.Proof.Gen.Reference7Ideal.Run
public import proofs.«01_k».proof.Proof.Held
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel7Ideal.Merge

open Cert.Kernel7Ideal Cert.Kernel7Ideal.Gen

variable (m : (ℓ : Loc nD τ sig) → Buf (Elt Ideal) ℓ)

/-- The reference's result as a function of the six argument arrays. -/
def REF (A : FVec Ideal S8192x2048 .bf16) (B : FVec Ideal S8192x512 .bf16) (P : FVec Ideal S8192x15872 .bf16)
    (bg : FVec Ideal S1x2x4096 .f32) (WA : FVec Ideal S1x2048x4096 .f32) (WB : FVec Ideal S1x512x4096 .f32) : FVec Ideal S8192x4096 .bf16 :=
  truncf .bf16 (addf (mulf (Host.divf (broadcastInDim Cert.Reference7Ideal.S8192x4096 ![] Cert.Reference7Ideal.Gen.bcast_S_S8192x4096 (constant Cert.Reference7Ideal.S_ .f32 0x3F800000#32)) (addf (broadcastInDim Cert.Reference7Ideal.S8192x4096 ![] Cert.Reference7Ideal.Gen.bcast_S_S8192x4096 (constant Cert.Reference7Ideal.S_ .f32 0x3F800000#32)) (Host.exp (Host.negf (addf (extf .f32 (extractStridedSlice Cert.Reference7Ideal.S8192x4096 ![0, 7680] P Cert.Reference7Ideal.Gen.slices_S8192x15872_S8192x4096_0_7680) Cert.Reference7Ideal.Gen.bitsLt_bf16_f32) (broadcastInDim Cert.Reference7Ideal.S8192x4096 ![0, 1] Cert.Reference7Ideal.Gen.bcast_S1x4096_S8192x4096_0_1 (broadcastInDim Cert.Reference7Ideal.S1x4096 ![1] Cert.Reference7Ideal.Gen.bcast_S4096_S1x4096_1 (shapeCast _ (extractStridedSlice Cert.Reference7Ideal.S1x1x4096 ![0, 0, 0] bg Cert.Reference7Ideal.Gen.slices_S1x2x4096_S1x1x4096_0_0_0) Cert.Reference7Ideal.Gen.shapeCasts_S1x1x4096_S4096)))))))) (Host.dotGeneral (F := Ideal) (φ₁ := .f32) (φ₂ := .f32) Cert.Reference7Ideal.dot_S8192x2048_S2048x4096_S8192x4096_1_0_0_1_n_n none (extf .f32 A Cert.Reference7Ideal.Gen.bitsLt_bf16_f32) (shapeCast _ WA Cert.Reference7Ideal.Gen.shapeCasts_S1x2048x4096_S2048x4096))) (mulf (Host.divf (broadcastInDim Cert.Reference7Ideal.S8192x4096 ![] Cert.Reference7Ideal.Gen.bcast_S_S8192x4096 (constant Cert.Reference7Ideal.S_ .f32 0x3F800000#32)) (addf (broadcastInDim Cert.Reference7Ideal.S8192x4096 ![] Cert.Reference7Ideal.Gen.bcast_S_S8192x4096 (constant Cert.Reference7Ideal.S_ .f32 0x3F800000#32)) (Host.exp (Host.negf (addf (extf .f32 (extractStridedSlice Cert.Reference7Ideal.S8192x4096 ![0, 11776] P Cert.Reference7Ideal.Gen.slices_S8192x15872_S8192x4096_0_11776) Cert.Reference7Ideal.Gen.bitsLt_bf16_f32) (broadcastInDim Cert.Reference7Ideal.S8192x4096 ![0, 1] Cert.Reference7Ideal.Gen.bcast_S1x4096_S8192x4096_0_1 (broadcastInDim Cert.Reference7Ideal.S1x4096 ![1] Cert.Reference7Ideal.Gen.bcast_S4096_S1x4096_1 (shapeCast _ (extractStridedSlice Cert.Reference7Ideal.S1x1x4096 ![0, 1, 0] bg Cert.Reference7Ideal.Gen.slices_S1x2x4096_S1x1x4096_0_1_0) Cert.Reference7Ideal.Gen.shapeCasts_S1x1x4096_S4096)))))))) (Host.dotGeneral (F := Ideal) (φ₁ := .f32) (φ₂ := .f32) Cert.Reference7Ideal.dot_S8192x512_S512x4096_S8192x4096_1_0_0_1_n_n none (extf .f32 B Cert.Reference7Ideal.Gen.bitsLt_bf16_f32) (shapeCast _ WB Cert.Reference7Ideal.Gen.shapeCasts_S1x512x4096_S512x4096)))) Cert.Reference7Ideal.Gen.bitsLt_bf16_f32

/-- The eight windows' block indices at a point: point `t` is column block `t / 8`, row block `t % 8`. -/
theorem idx : ∀ t : Fin cfg0.N, win0_0.index t = ![t.val % 8, 0] ∧ win0_1.index t = ![t.val % 8, 0]
    ∧ win0_2.index t = ![t.val % 8, 15 + t.val / 8] ∧ win0_3.index t = ![t.val % 8, 23 + t.val / 8]
    ∧ win0_4.index t = ![0, t.val / 8] ∧ win0_5.index t = ![0, t.val / 8] ∧ win0_6.index t = ![0, t.val / 8]
    ∧ win0_7.index t = ![t.val % 8, t.val / 8] :=
  (by decide +kernel : ∀ t : Fin grid0.N, _)

/-- Row `r` of a block of two rows. -/
def row (X : Vec Ideal S2x512 .f32) (r : Fin 2) : Vec Ideal S1x512 .f32 := fun y => X (ix2 r (y 1))

theorem ld_row0 (X : Vec Ideal S2x512 .f32) :
    View.ld X (Rect.unit ![0, 0] ![1, 512] inb_S2x512_S1x512_0_0) = row X 0 := by
  funext y
  unfold row
  pointwise

theorem ld_row1 (X : Vec Ideal S2x512 .f32) :
    View.ld X (Rect.unit ![1, 0] ![1, 512] inb_S2x512_S1x512_1_0) = row X 1 := by
  funext y
  unfold row
  pointwise

/-- Neither weight block changes within a run of eight points. -/
theorem same (c : Dev nD) (n : ℕ) (h : n + 1 < cfg0.N) (hn : ¬(n + 1) % 8 = 0) :
    iblk m c 5 ⟨n, Nat.lt_of_succ_lt h⟩ = iblk m c 5 ⟨n + 1, h⟩
      ∧ iblk m c 6 ⟨n, Nat.lt_of_succ_lt h⟩ = iblk m c 6 ⟨n + 1, h⟩ := by
  have e : n / 8 = (n + 1) / 8 := by omega
  constructor
  · funext y
    blk_ext [iblk, V, idx ⟨n, Nat.lt_of_succ_lt h⟩, idx ⟨n + 1, h⟩, e]
  · funext y
    blk_ext [iblk, V, idx ⟨n, Nat.lt_of_succ_lt h⟩, idx ⟨n + 1, h⟩, e]

/-- The two scratches hold the point's two weight blocks. -/
theorem scratch (c : Dev nD) (t : Fin cfg0.N) :
    (outsAt0 m c t.val t.isLt).2 = (k0_pay1 (iblk m c 5 t), k0_pay2 (iblk m c 6 t)) := by
  refine Held.filled 8 (fun n h => (outsAt0 m c n h).2)
    (fun n h => (k0_pay1 (iblk m c 5 ⟨n, h⟩), k0_pay2 (iblk m c 6 ⟨n, h⟩))) ?_ ?_ ?_ t.val t.isLt
  · intro n h hn
    rw [outsAt0_A m c ⟨n, h⟩ hn]
    refine Prod.ext ?_ ?_
    · frame_out
    · frame_out
  · intro n h hn
    rw [outsAt0_B m c ⟨n + 1, h⟩ hn]
    rfl
  · intro n h hn
    rw [(same m c n h hn).1, (same m c n h hn).2]

/-- One point's value is the reference's at the place of its block. -/
theorem point (c : Dev nD) (t : Fin cfg0.N) (y) :
    k0_pay3 (iblk m c 0 t) (k0_pay1 (iblk m c 5 t)) (iblk m c 1 t) (k0_pay2 (iblk m c 6 t))
        (iblk m c 2 t) (row (iblk m c 4 t) 0) (iblk m c 3 t) (row (iblk m c 4 t) 1) y
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 7).blk t).view.emb y) := by
  pointwise [k0_pay1, k0_pay2, k0_pay3, row, REF, Ideal.logistic]
  blk_point [iblk, V, idx t]

/-- What point `t` leaves in the output's buffer. -/
theorem left (c : Dev nD) (t : Fin cfg0.N) :
    (outsAt0 m c t.val t.isLt).1 = k0_pay3 (iblk m c 0 t) (k0_pay1 (iblk m c 5 t)) (iblk m c 1 t) (k0_pay2 (iblk m c 6 t))
        (iblk m c 2 t) (row (iblk m c 4 t) 0) (iblk m c 3 t) (row (iblk m c 4 t) 1) := by
  by_cases h : t.val % 8 = 0
  · rw [outsAt0_A m c t h]; frame_out; rw [ld_row0, ld_row1]
  · have hs := scratch m c t
    rw [outsAt0_B m c t h] at hs ⊢
    replace hs : (outsAt0 m c (t.val - 1) (Nat.lt_of_le_of_lt (Nat.sub_le _ _) t.isLt)).2 = _ := hs
    dsimp only
    rw [hs]
    frame_out
    rw [ld_row0, ld_row1]
    exact congrArg₂ (fun a b => k0_pay3 (iblk m c 0 t) a (iblk m c 1 t) b
        (iblk m c 2 t) (row (iblk m c 4 t) 0) (iblk m c 3 t) (row (iblk m c 4 t) 1))
      ((Memref.isWhole_whole _).read_unread _) ((Memref.isWhole_whole _).read_unread _)

/-- The result array after the run is the reference's. -/
theorem final (c : Dev nD) : (dats m 0 c).arrAt 7 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7, left]
  exact point m c t y

end Cert.Kernel7Ideal.Merge

end
-- ==== Proof.RmsNorm.lean ====
/- What the root-mean-square normalization's call leaves in its result array: the reference's rows. -/
module

public import proofs.«01_k».proof.Proof.Gen.Kernel8Ideal.Value
public import proofs.«01_k».proof.Proof.Gen.Reference8Ideal.Run
public import proofs.«01_k».proof.Proof.Held
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel8Ideal.RmsNorm

open Cert.Kernel8Ideal Cert.Kernel8Ideal.Gen

variable (m : (ℓ : Loc nD τ sig) → Buf (Elt Ideal) ℓ)

/-- The reference's result as a function of the two argument arrays. -/
def REF (X : FVec Ideal S8192x4096 .f32) (S : FVec Ideal S1x4096 .f32) : FVec Ideal S8192x4096 .bf16 :=
  truncf .bf16 (mulf (mulf X (broadcastInDim Cert.Reference8Ideal.S8192x4096 ![0, 1] Cert.Reference8Ideal.Gen.bcast_S8192x1_S8192x4096_0_1 (Host.rsqrt (addf (Host.divf (broadcastInDim Cert.Reference8Ideal.S8192x1 ![0] Cert.Reference8Ideal.Gen.bcast_S8192_S8192x1_0 (Host.reduceAdd (mulf X X) (constant Cert.Reference8Ideal.S_ .f32 0x00000000#32) Cert.Reference8Ideal.Gen.reducesTo_S8192x4096_S8192_d1 Cert.Reference8Ideal.Gen.h_S_)) (broadcastInDim Cert.Reference8Ideal.S8192x1 ![] Cert.Reference8Ideal.Gen.bcast_S_S8192x1 (constant Cert.Reference8Ideal.S_ .f32 0x45800000#32))) (broadcastInDim Cert.Reference8Ideal.S8192x1 ![] Cert.Reference8Ideal.Gen.bcast_S_S8192x1 (constant Cert.Reference8Ideal.S_ .f32 0x358637BD#32)))))) (broadcastInDim Cert.Reference8Ideal.S8192x4096 ![0, 1] Cert.Reference8Ideal.Gen.bcast_S1x4096_S8192x4096_0_1 (broadcastInDim Cert.Reference8Ideal.S1x4096 ![1] Cert.Reference8Ideal.Gen.bcast_S4096_S1x4096_1 (shapeCast _ S Cert.Reference8Ideal.Gen.shapeCasts_S1x4096_S4096)))) Cert.Reference8Ideal.Gen.bitsLt_bf16_f32

/-- The three windows' block indices at a point: point `t` is row block `t`. -/
theorem idx : ∀ t : Fin cfg0.N, win0_0.index t = ![t.val, 0] ∧ win0_1.index t = ![0, 0]
    ∧ win0_2.index t = ![t.val, 0] :=
  (by decide +kernel : ∀ t : Fin grid0.N, _)

/-- One point's rows are the reference's at the place of its block. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF]
  blk_point [iblk, V, idx t]

/-- The result array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel8Ideal.RmsNorm

end
-- ==== Proof.Combine.lean ====
/- What the call combining the groups leaves in its result array: the reference's weighted sum. -/
module

public import proofs.«01_k».proof.Proof.Gen.Kernel9Ideal.Value
public import proofs.«01_k».proof.Proof.Gen.Kernel9Ideal.Frame
public import proofs.«01_k».proof.Proof.Gen.Reference9Ideal.Run
public import proofs.«01_k».proof.Proof.Gen.Pre_finite_log_sums
public import proofs.«01_k».proof.Proof.Soft
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference9Ideal.Comb

open Cert.Reference9Ideal Cert.Reference9Ideal.Gen

/-- Three arrays one above the other. -/
def stack (a b c : FVec Ideal S8192x512 .f32) : FVec Ideal S3x8192x512 .f32 :=
  concatenate S3x8192x512 0 [⟨S1x8192x512, broadcastInDim S1x8192x512 ![1, 2] bcast_S8192x512_S1x8192x512_1_2 a⟩,
    ⟨S1x8192x512, broadcastInDim S1x8192x512 ![1, 2] bcast_S8192x512_S1x8192x512_1_2 b⟩,
    ⟨S1x8192x512, broadcastInDim S1x8192x512 ![1, 2] bcast_S8192x512_S1x8192x512_1_2 c⟩] concatenates_S1x8192x512_S1x8192x512_S1x8192x512_S3x8192x512_d0

/-- The greatest of the three at each place. -/
def top (L : FVec Ideal S3x8192x512 .f32) : FVec Ideal S8192x512 .f32 :=
  Host.reduce FloatOps.maximumf L (constant S_ .f32 0xFF800000#32) reducesTo_S3x8192x512_S8192x512_d0 h_S_

/-- The exponentials of `L` less `M`. -/
def expo (L : FVec Ideal S3x8192x512 .f32) (M : FVec Ideal S8192x512 .f32) : FVec Ideal S3x8192x512 .f32 :=
  Host.exp (subf L (broadcastInDim S3x8192x512 ![0, 1, 2] bcast_S1x8192x512_S3x8192x512_0_1_2 (broadcastInDim S1x8192x512 ![1, 2] bcast_S8192x512_S1x8192x512_1_2 (maximumf (broadcastInDim S8192x512 ![] bcast_S_S8192x512 (constant S_ .f32 0xFF800000#32)) M))))

/-- The result with the exponentials `P` and the groups' results `O`. -/
def res (P O : FVec Ideal S3x8192x512 .f32) : FVec Ideal S8192x512 .bf16 :=
  truncf .bf16 (Host.reduceAdd (mulf (Host.divf P (broadcastInDim S3x8192x512 ![0, 1, 2] bcast_S1x8192x512_S3x8192x512_0_1_2 (broadcastInDim S1x8192x512 ![1, 2] bcast_S8192x512_S1x8192x512_1_2 (Host.reduceAdd P (constant S_ .f32 0x00000000#32) reducesTo_S3x8192x512_S8192x512_d0 h_S_)))) O) (constant S_ .f32 0x00000000#32) reducesTo_S3x8192x512_S8192x512_d0 h_S_) bitsLt_bf16_f32

theorem stack_eq (a b c : FVec Ideal S8192x512 .f32) (k : Fin 3) (r : Fin 8192) (d : Fin 512) :
    stack a b c (ix3 k r d) = (![a (ix2 r d), b (ix2 r d), c (ix2 r d)] : Fin 3 → EReal) k := by
  fin_cases k
  · pointwise [stack]
  · pointwise [stack]
  · pointwise [stack]

theorem top_eq (L : FVec Ideal S3x8192x512 .f32) (r : Fin 8192) (d : Fin 512) :
    top L (ix2 r d) = Finset.univ.fold max (Ideal.ofBits .f32 0xFF800000#32) fun k => L (ix3 k r d) := by
  pointwise [top]

theorem expo_eq (L : FVec Ideal S3x8192x512 .f32) (M : FVec Ideal S8192x512 .f32) (k : Fin 3) (r : Fin 8192) (d : Fin 512) :
    expo L M (ix3 k r d) = Ideal.exp (L (ix3 k r d) - max (Ideal.ofBits .f32 0xFF800000#32) (M (ix2 r d))) := by
  pointwise [expo]

theorem res_eq (P O : FVec Ideal S3x8192x512 .f32) (r : Fin 8192) (d : Fin 512) :
    res P O (ix2 r d) = ∑ k, Ideal.div (P (ix3 k r d)) (∑ j, P (ix3 j r d)) * O (ix3 k r d) := by
  pointwise [res]

/-- The reference's result at a place, for real log sums there. -/
theorem result (o0 o1 o2 l0 l1 l2 : FVec Ideal S8192x512 .f32) (r : Fin 8192) (d : Fin 512)
    (h0 : Soft.IsReal (l0 (ix2 r d))) (h1 : Soft.IsReal (l1 (ix2 r d))) (h2 : Soft.IsReal (l2 (ix2 r d))) :
    res (expo (stack l0 l1 l2) (top (stack l0 l1 l2))) (stack o0 o1 o2) (ix2 r d)
      = Soft.mix (l0 (ix2 r d)) (l1 (ix2 r d)) (l2 (ix2 r d)) (o0 (ix2 r d)) (o1 (ix2 r d)) (o2 (ix2 r d)) := by
  rw [res_eq]
  simp only [expo_eq, top_eq, stack_eq, Soft.neg_inf, max_bot_left]
  refine Soft.mix_eq _ ![o0 (ix2 r d), o1 (ix2 r d), o2 (ix2 r d)] fun j => ?_
  fin_cases j
  · exact h0
  · exact h1
  · exact h2

end Cert.Reference9Ideal.Comb

namespace Cert.Kernel9Ideal.Combine

open Cert.Kernel9Ideal Cert.Kernel9Ideal.Gen

variable (m : (ℓ : Loc nD τ sig) → Buf (Elt Ideal) ℓ)

/-- The result as an array, from the six argument arrays. -/
def REF (o0 o1 o2 l0 l1 l2 : FVec Ideal S8192x512 .f32) : FVec Ideal S8192x512 .bf16 :=
  fun i => Soft.mix (l0 i) (l1 i) (l2 i) (o0 i) (o1 i) (o2 i)

/-- The windows' block indices at a point: point `t` is row block `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- One point's rows are the result's at the place of its block. -/
theorem point (c : Dev nD) (t : Fin cfg0.N) (y) :
    k0_pay1 (iblk m c 3 t) (iblk m c 4 t) (iblk m c 5 t) (iblk m c 0 t) (iblk m c 1 t) (iblk m c 2 t) y
      = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (((cfg0.win 6).blk t).view.emb y) := by
  pointwise [k0_pay1, REF, Soft.mix]
  blk_point [iblk, V, idx t]

/-- The result array after the run. -/
theorem final (c : Dev nD) : (dats m 0 c).arrAt 6 (cfgs 0).N
    = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  frame_out
  exact point m c t y

/-- The statement's condition makes the log sums real. -/
theorem reals (o0 o1 o2 l0 l1 l2 : FVec Ideal S8192x512 .f32)
    (h : Cert.Pre_finite_log_sums.fn (F := Ideal) o0 o1 o2 l0 l1 l2 = fun _ => 1#1) (i : S8192x512.Idx) :
    Soft.IsReal (l0 i) ∧ Soft.IsReal (l1 i) ∧ Soft.IsReal (l2 i) := by
  have key : ((Ideal.cmp .olt (max (l0 i) (-l0 i)) (Ideal.ofBits .f32 0x7F800000#32))
      &&& (Ideal.cmp .olt (max (l1 i) (-l1 i)) (Ideal.ofBits .f32 0x7F800000#32)))
      &&& (Ideal.cmp .olt (max (l2 i) (-l2 i)) (Ideal.ofBits .f32 0x7F800000#32)) = 1#1 := congrFun h i
  obtain ⟨h01, h2⟩ := Soft.both _ _ key
  obtain ⟨h0, h1⟩ := Soft.both _ _ h01
  exact ⟨Soft.real_of_cmp h0, Soft.real_of_cmp h1, Soft.real_of_cmp h2⟩

/-- The reference's result from its argument arrays, for real log sums. -/
theorem reference (o0 o1 o2 l0 l1 l2 : FVec Ideal S8192x512 .f32)
    (hl : ∀ i, Soft.IsReal (l0 i) ∧ Soft.IsReal (l1 i) ∧ Soft.IsReal (l2 i)) :
    Cert.Reference9Ideal.Comb.res (Cert.Reference9Ideal.Comb.expo (Cert.Reference9Ideal.Comb.stack l0 l1 l2)
      (Cert.Reference9Ideal.Comb.top (Cert.Reference9Ideal.Comb.stack l0 l1 l2))) (Cert.Reference9Ideal.Comb.stack o0 o1 o2)
      = REF o0 o1 o2 l0 l1 l2 := by
  funext i
  obtain ⟨r, d, rfl⟩ : ∃ (r : Fin 8192) (d : Fin 512), i = ix2 r d := ⟨i 0, i 1, eq_ix2 i⟩
  exact Cert.Reference9Ideal.Comb.result o0 o1 o2 l0 l1 l2 r d (hl _).1 (hl _).2.1 (hl _).2.2

end Cert.Kernel9Ideal.Combine

end
-- ==== Proof.BandHead.lean ====
/- One point of the call of the group of dilation 16, element by element. -/
module

public import proofs.«01_k».proof.Proof.Gen.Kernel10Ideal.Value
public import proofs.«01_k».proof.Proof.Gen.Kernel10Ideal.Frame
public import proofs.«01_k».proof.Proof.Soft
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel10Ideal.Band

open Cert.Kernel10Ideal Cert.Kernel10Ideal.Gen

/-! ## One head of a point -/

theorem queries_eq (q : FVec Ideal S1x128x128 .bf16) (w : FVec Ideal S1x128 .f32) (r d : Fin 128) :
    k0_pay3 (F := Ideal) w q (ix2 r d) = Soft.nrm (fun e => q (ix3 0 r e)) (fun e => w (ix2 0 e)) d * Ideal.ofBits .f32 0x3DB504F3#32 := by
  pointwise [k0_pay3, Soft.nrm]

theorem keys_eq (k : FVec Ideal S1x128x128 .bf16) (w : FVec Ideal S1x128 .f32) (r d : Fin 128) :
    k0_pay4 (F := Ideal) w k (ix2 r d) = Soft.nrm (fun e => k (ix3 0 r e)) (fun e => w (ix2 0 e)) d := by
  pointwise [k0_pay4, Soft.nrm]

/-- One head's two results of a point, from its columns. -/
def headO (q : FVec Ideal S1x128x128 .bf16) (k : FVec Ideal S1x128x128 .bf16) (v : FVec Ideal S1x128x128 .bf16) (t : FVec Ideal S1x1x128x128 .f32) (wq wk : FVec Ideal S1x128 .f32) : FVec Ideal S1x128x128 .f32 :=
  k0_pay9 (k0_pay3 wq q) (k0_pay4 wk k) v t
def headL (q k : FVec Ideal S1x128x128 .bf16) (t : FVec Ideal S1x1x128x128 .f32) (wq wk : FVec Ideal S1x128 .f32) : FVec Ideal S1x128x128 .f32 :=
  k0_pay10 (k0_pay3 wq q) (k0_pay4 wk k) t

theorem scores_eq (a b : FVec Ideal S128x128 .bf16) (t : FVec Ideal S1x1x128x128 .f32) (r j : Fin 128) :
    k0_pay5 (F := Ideal) a b t (ix2 r j) = (∑ e, a (ix2 r e) * b (ix2 j e)) + t (ix4 0 0 r j) := by
  pointwise [k0_pay5]

theorem weights_eq (a b : FVec Ideal S128x128 .bf16) (v : FVec Ideal S1x128x128 .bf16) (t : FVec Ideal S1x1x128x128 .f32) (r d : Fin 128) :
    k0_pay9 (F := Ideal) a b v t (ix3 0 r d) = Soft.weigh (fun j => (∑ e, a (ix2 r e) * b (ix2 j e)) + t (ix4 0 0 r j)) (fun j => v (ix3 0 j d)) := by
  unfold Soft.weigh
  simp only [← scores_eq]
  pointwise [k0_pay9, k0_pay8, k0_pay7, k0_pay6]
  simp only [Soft.neg_inf]

theorem logs_eq (a b : FVec Ideal S128x128 .bf16) (t : FVec Ideal S1x1x128x128 .f32) (r d : Fin 128) :
    k0_pay10 (F := Ideal) a b t (ix3 0 r d) = Soft.logSum (fun j => (∑ e, a (ix2 r e) * b (ix2 j e)) + t (ix4 0 0 r j)) := by
  unfold Soft.logSum
  simp only [← scores_eq]
  pointwise [k0_pay10, k0_pay8, k0_pay7, k0_pay6]
  simp only [Soft.neg_inf]

theorem headO_eq (q : FVec Ideal S1x128x128 .bf16) (k : FVec Ideal S1x128x128 .bf16) (v : FVec Ideal S1x128x128 .bf16) (t : FVec Ideal S1x1x128x128 .f32) (wq wk : FVec Ideal S1x128 .f32) (r d : Fin 128) :
    headO q k v t wq wk (ix3 0 r d) = Soft.weigh (fun j => (∑ e, Soft.nrm (fun e => q (ix3 0 r e)) (fun e => wq (ix2 0 e)) e
          * Soft.nrm (fun e => k (ix3 0 j e)) (fun e => wk (ix2 0 e)) e) * Ideal.ofBits .f32 0x3DB504F3#32 + t (ix4 0 0 r j)) (fun j => v (ix3 0 j d)) := by
  refine (weights_eq _ _ _ _ r d).trans ?_
  simp only [queries_eq, keys_eq, Soft.scale_out _ _ _ Soft.pos_scale]

theorem headL_eq (q k : FVec Ideal S1x128x128 .bf16) (t : FVec Ideal S1x1x128x128 .f32) (wq wk : FVec Ideal S1x128 .f32) (r d : Fin 128) :
    headL q k t wq wk (ix3 0 r d) = Soft.logSum (fun j => (∑ e, Soft.nrm (fun e => q (ix3 0 r e)) (fun e => wq (ix2 0 e)) e
          * Soft.nrm (fun e => k (ix3 0 j e)) (fun e => wk (ix2 0 e)) e) * Ideal.ofBits .f32 0x3DB504F3#32 + t (ix4 0 0 r j)) := by
  refine (logs_eq _ _ _ r d).trans ?_
  simp only [queries_eq, keys_eq, Soft.scale_out _ _ _ Soft.pos_scale]

/-! ## The other three heads' stored values are the same functions of their columns -/

theorem head1O (q : FVec Ideal S1x128x128 .bf16) (k : FVec Ideal S1x128x128 .bf16) (v : FVec Ideal S1x128x128 .bf16) (t : FVec Ideal S1x1x128x128 .f32) (wq wk : FVec Ideal S1x128 .f32) :
    k0_pay18 (F := Ideal) (k0_pay17 wq wk (k0_pay11 q) (k0_pay12 q) k v t) = headO q k v t wq wk := rfl
theorem head1L (q k : FVec Ideal S1x128x128 .bf16) (t : FVec Ideal S1x1x128x128 .f32) (wq wk : FVec Ideal S1x128 .f32) :
    k0_pay19 (F := Ideal) (k0_pay14 wq wk (k0_pay11 q) (k0_pay12 q) k t) (k0_pay16 wq wk (k0_pay11 q) (k0_pay12 q) k t)
      = headL q k t wq wk := rfl
theorem head2O (q : FVec Ideal S1x128x128 .bf16) (k : FVec Ideal S1x128x128 .bf16) (v : FVec Ideal S1x128x128 .bf16) (t : FVec Ideal S1x1x128x128 .f32) (wq wk : FVec Ideal S1x128 .f32) :
    k0_pay27 (F := Ideal) (k0_pay20 wq q) (k0_pay21 k) (k0_pay22 wk) v t = headO q k v t wq wk := rfl
theorem head2L (q k : FVec Ideal S1x128x128 .bf16) (t : FVec Ideal S1x1x128x128 .f32) (wq wk : FVec Ideal S1x128 .f32) :
    k0_pay28 (F := Ideal) (k0_pay20 wq q) (k0_pay21 k) (k0_pay22 wk) t = headL q k t wq wk := rfl
theorem head3O (q : FVec Ideal S1x128x128 .bf16) (k : FVec Ideal S1x128x128 .bf16) (v : FVec Ideal S1x128x128 .bf16) (t : FVec Ideal S1x1x128x128 .f32) (wq wk : FVec Ideal S1x128 .f32) :
    k0_pay1 (F := Ideal) (k0_pay32 v) (k0_pay36 wq wk (k0_pay29 q) (k0_pay30 q) k0_pay31 k t)
      (k0_pay37 wq wk (k0_pay29 q) (k0_pay30 q) k0_pay31 k t) (constant S128x128 .f32 0x00000000#32) = headO q k v t wq wk := rfl
theorem head3L (q k : FVec Ideal S1x128x128 .bf16) (t : FVec Ideal S1x1x128x128 .f32) (wq wk : FVec Ideal S1x128 .f32) :
    k0_pay2 (F := Ideal) (k0_pay34 wq wk (k0_pay29 q) (k0_pay30 q) k0_pay31 k t) (k0_pay36 wq wk (k0_pay29 q) (k0_pay30 q) k0_pay31 k t)
      = headL q k t wq wk := rfl

/-! ## The four heads side by side -/

/-- The 128 columns of a block from a column on, and one head's bias. -/
def part (q : FVec Ideal S1x128x512 .bf16) (o : ℕ) (h : ∀ a, (![0, 0, o] : Fin 3 → Nat) a + S1x128x128.size a ≤ S1x128x512.size a) : FVec Ideal S1x128x128 .bf16 :=
  View.ld (Val := Elt Ideal) (e' := .bf16) q (Rect.unit (s := S1x128x512) ![0, 0, o] S1x128x128.size h)
def tab (t : FVec Ideal S1x4x128x128 .f32) (o : ℕ) (h : ∀ a, (![0, o, 0, 0] : Fin 4 → Nat) a + S1x1x128x128.size a ≤ S1x4x128x128.size a) : FVec Ideal S1x1x128x128 .f32 :=
  View.ld (Val := Elt Ideal) (e' := .f32) t (Rect.unit (s := S1x4x128x128) ![0, o, 0, 0] S1x1x128x128.size h)

/-- The two results of a point, as its four stores leave each. -/
def tileO (q : FVec Ideal S1x128x512 .bf16) (k : FVec Ideal S1x128x512 .bf16) (v : FVec Ideal S1x128x512 .bf16) (t : FVec Ideal S1x4x128x128 .f32) (wq wk : FVec Ideal S1x128 .f32) : FVec Ideal S1x128x512 .f32 :=
  View.canon
    [(⟨Rect.unit ![0, 0, 384] ![1, 128, 128] inb_S1x128x512_S1x128x128_0_0_384, headO (part q 384 inb_S1x128x512_S1x128x128_0_0_384) (part k 384 inb_S1x128x512_S1x128x128_0_0_384) (part v 384 inb_S1x128x512_S1x128x128_0_0_384) (tab t 3 inb_S1x4x128x128_S1x1x128x128_0_3_0_0) wq wk⟩ : View.Piece (Elt Ideal) S1x128x512 .f32),
     ⟨Rect.unit ![0, 0, 256] ![1, 128, 128] inb_S1x128x512_S1x128x128_0_0_256, headO (part q 256 inb_S1x128x512_S1x128x128_0_0_256) (part k 256 inb_S1x128x512_S1x128x128_0_0_256) (part v 256 inb_S1x128x512_S1x128x128_0_0_256) (tab t 2 inb_S1x4x128x128_S1x1x128x128_0_2_0_0) wq wk⟩,
     ⟨Rect.unit ![0, 0, 128] ![1, 128, 128] inb_S1x128x512_S1x128x128_0_0_128, headO (part q 128 inb_S1x128x512_S1x128x128_0_0_128) (part k 128 inb_S1x128x512_S1x128x128_0_0_128) (part v 128 inb_S1x128x512_S1x128x128_0_0_128) (tab t 1 inb_S1x4x128x128_S1x1x128x128_0_1_0_0) wq wk⟩,
     ⟨Rect.unit ![0, 0, 0] ![1, 128, 128] inb_S1x128x512_S1x128x128_0_0_0, headO (part q 0 inb_S1x128x512_S1x128x128_0_0_0) (part k 0 inb_S1x128x512_S1x128x128_0_0_0) (part v 0 inb_S1x128x512_S1x128x128_0_0_0) (tab t 0 inb_S1x4x128x128_S1x1x128x128_0_0_0_0) wq wk⟩]
def tileL (q k : FVec Ideal S1x128x512 .bf16) (t : FVec Ideal S1x4x128x128 .f32) (wq wk : FVec Ideal S1x128 .f32) : FVec Ideal S1x128x512 .f32 :=
  View.canon
    [(⟨Rect.unit ![0, 0, 384] ![1, 128, 128] inb_S1x128x512_S1x128x128_0_0_384, headL (part q 384 inb_S1x128x512_S1x128x128_0_0_384) (part k 384 inb_S1x128x512_S1x128x128_0_0_384) (tab t 3 inb_S1x4x128x128_S1x1x128x128_0_3_0_0) wq wk⟩ : View.Piece (Elt Ideal) S1x128x512 .f32),
     ⟨Rect.unit ![0, 0, 256] ![1, 128, 128] inb_S1x128x512_S1x128x128_0_0_256, headL (part q 256 inb_S1x128x512_S1x128x128_0_0_256) (part k 256 inb_S1x128x512_S1x128x128_0_0_256) (tab t 2 inb_S1x4x128x128_S1x1x128x128_0_2_0_0) wq wk⟩,
     ⟨Rect.unit ![0, 0, 128] ![1, 128, 128] inb_S1x128x512_S1x128x128_0_0_128, headL (part q 128 inb_S1x128x512_S1x128x128_0_0_128) (part k 128 inb_S1x128x512_S1x128x128_0_0_128) (tab t 1 inb_S1x4x128x128_S1x1x128x128_0_1_0_0) wq wk⟩,
     ⟨Rect.unit ![0, 0, 0] ![1, 128, 128] inb_S1x128x512_S1x128x128_0_0_0, headL (part q 0 inb_S1x128x512_S1x128x128_0_0_0) (part k 0 inb_S1x128x512_S1x128x128_0_0_0) (tab t 0 inb_S1x4x128x128_S1x1x128x128_0_0_0_0) wq wk⟩]

/-- An index of a head's columns, from the column in the block. -/
theorem place_in (o : ℕ) (ho : o % 128 = 0) (r : Fin 128) (n : Fin 512) (x : S1x128x128.Idx)
    (h1 : r.val = (x 1).val) (h2 : n.val = o + (x 2).val) (h2l : (x 2).val < 128) :
    o = n.val / 128 * 128 ∧ x = ix3 (0 : Fin 1) r (⟨n.val % 128, by omega⟩ : Fin 128) := by
  obtain rfl : r = x 1 := Fin.ext h1
  have e2 : x 2 = (⟨n.val % 128, by omega⟩ : Fin 128) := Fin.ext (by show (x 2).val = n.val % 128; omega)
  refine ⟨by omega, ?_⟩
  rw [← e2]
  exact (eq_ix3 x).trans (congrArg (fun a => ix3 a (x 1) (x 2)) (Subsingleton.elim (α := Fin 1) _ _))

theorem headO_of (q : FVec Ideal S1x128x512 .bf16) (k : FVec Ideal S1x128x512 .bf16) (v : FVec Ideal S1x128x512 .bf16) (t : FVec Ideal S1x4x128x128 .f32) (wq wk : FVec Ideal S1x128 .f32) (q' k' v' : FVec Ideal S1x128x128 .bf16) (t' : FVec Ideal S1x1x128x128 .f32) (h : Fin 4) (r : Fin 128) (n : Fin 512) (x : S1x128x128.Idx)
    (hq : ∀ (a e : Fin 128), q' (ix3 0 a e) = q (ix3 0 a ⟨h.val * 128 + e.val, by omega⟩))
    (hk : ∀ (a e : Fin 128), k' (ix3 0 a e) = k (ix3 0 a ⟨h.val * 128 + e.val, by omega⟩))
    (hv : ∀ (a e : Fin 128), v' (ix3 0 a e) = v (ix3 0 a ⟨h.val * 128 + e.val, by omega⟩))
    (ht : ∀ (a e : Fin 128), t' (ix4 0 0 a e) = t (ix4 0 h a e))
    (h1 : r.val = (x 1).val) (h2 : n.val = h.val * 128 + (x 2).val) (h2l : (x 2).val < 128) :
    headO q' k' v' t' wq wk x = Soft.weigh (fun j => (∑ e, Soft.nrm (fun e => q (ix3 0 r ⟨n.val / 128 * 128 + e.val, by omega⟩)) (fun e => wq (ix2 0 e)) e
          * Soft.nrm (fun e => k (ix3 0 j ⟨n.val / 128 * 128 + e.val, by omega⟩)) (fun e => wk (ix2 0 e)) e) * Ideal.ofBits .f32 0x3DB504F3#32
          + t (ix4 0 ⟨n.val / 128, by omega⟩ r j)) (fun j => v (ix3 0 j n)) := by
  obtain ⟨eo, ex⟩ := place_in (h.val * 128) (by omega) r n x h1 h2 h2l
  have eh : h = ⟨n.val / 128, by omega⟩ := Fin.ext (by show h.val = n.val / 128; omega)
  have et : ∀ a e, t (ix4 0 h a e) = t (ix4 0 ⟨n.val / 128, by omega⟩ a e) := fun a e => congrArg (fun h => t (ix4 0 h a e)) eh
  refine (congrArg (headO q' k' v' t' wq wk) ex).trans ((headO_eq q' k' v' t' wq wk _ _).trans ?_)
  have en : (⟨n.val / 128 * 128 + n.val % 128, by omega⟩ : Fin 512) = n := Fin.ext (by show n.val / 128 * 128 + n.val % 128 = n.val; omega)
  simp only [hq, hk, hv, ht, eo, en, et]

theorem headL_of (q k : FVec Ideal S1x128x512 .bf16) (t : FVec Ideal S1x4x128x128 .f32) (wq wk : FVec Ideal S1x128 .f32) (q' k' : FVec Ideal S1x128x128 .bf16) (t' : FVec Ideal S1x1x128x128 .f32) (h : Fin 4) (r : Fin 128) (n : Fin 512) (x : S1x128x128.Idx)
    (hq : ∀ (a e : Fin 128), q' (ix3 0 a e) = q (ix3 0 a ⟨h.val * 128 + e.val, by omega⟩))
    (hk : ∀ (a e : Fin 128), k' (ix3 0 a e) = k (ix3 0 a ⟨h.val * 128 + e.val, by omega⟩))
    (ht : ∀ (a e : Fin 128), t' (ix4 0 0 a e) = t (ix4 0 h a e))
    (h1 : r.val = (x 1).val) (h2 : n.val = h.val * 128 + (x 2).val) (h2l : (x 2).val < 128) :
    headL q' k' t' wq wk x = Soft.logSum (fun j => (∑ e, Soft.nrm (fun e => q (ix3 0 r ⟨n.val / 128 * 128 + e.val, by omega⟩)) (fun e => wq (ix2 0 e)) e
          * Soft.nrm (fun e => k (ix3 0 j ⟨n.val / 128 * 128 + e.val, by omega⟩)) (fun e => wk (ix2 0 e)) e) * Ideal.ofBits .f32 0x3DB504F3#32
          + t (ix4 0 ⟨n.val / 128, by omega⟩ r j)) := by
  obtain ⟨eo, ex⟩ := place_in (h.val * 128) (by omega) r n x h1 h2 h2l
  have eh : h = ⟨n.val / 128, by omega⟩ := Fin.ext (by show h.val = n.val / 128; omega)
  have et : ∀ a e, t (ix4 0 h a e) = t (ix4 0 ⟨n.val / 128, by omega⟩ a e) := fun a e => congrArg (fun h => t (ix4 0 h a e)) eh
  refine (congrArg (headL q' k' t' wq wk) ex).trans ((headL_eq q' k' t' wq wk _ _).trans ?_)
  simp only [hq, hk, ht, eo, et]

theorem tileO_eq (q : FVec Ideal S1x128x512 .bf16) (k : FVec Ideal S1x128x512 .bf16) (v : FVec Ideal S1x128x512 .bf16) (t : FVec Ideal S1x4x128x128 .f32) (wq wk : FVec Ideal S1x128 .f32) (r : Fin 128) (n : Fin 512) :
    tileO q k v t wq wk (ix3 0 r n) = Soft.weigh (fun j => (∑ e, Soft.nrm (fun e => q (ix3 0 r ⟨n.val / 128 * 128 + e.val, by omega⟩)) (fun e => wq (ix2 0 e)) e
          * Soft.nrm (fun e => k (ix3 0 j ⟨n.val / 128 * 128 + e.val, by omega⟩)) (fun e => wk (ix2 0 e)) e) * Ideal.ofBits .f32 0x3DB504F3#32
          + t (ix4 0 ⟨n.val / 128, by omega⟩ r j)) (fun j => v (ix3 0 j n)) := by
  unfold tileO
  canon_tiles x h
  · exact headO_of q k v t wq wk (part q 384 inb_S1x128x512_S1x128x128_0_0_384) (part k 384 inb_S1x128x512_S1x128x128_0_0_384) (part v 384 inb_S1x128x512_S1x128x128_0_0_384) (tab t 3 inb_S1x4x128x128_S1x1x128x128_0_3_0_0) 3 r n x (fun a e => by pointwise [part])
      (fun a e => by pointwise [part]) (fun a e => by pointwise [part]) (fun a e => by pointwise [tab]) h1 h2 x2_lt
  · exact headO_of q k v t wq wk (part q 256 inb_S1x128x512_S1x128x128_0_0_256) (part k 256 inb_S1x128x512_S1x128x128_0_0_256) (part v 256 inb_S1x128x512_S1x128x128_0_0_256) (tab t 2 inb_S1x4x128x128_S1x1x128x128_0_2_0_0) 2 r n x (fun a e => by pointwise [part])
      (fun a e => by pointwise [part]) (fun a e => by pointwise [part]) (fun a e => by pointwise [tab]) h1 h2 x2_lt
  · exact headO_of q k v t wq wk (part q 128 inb_S1x128x512_S1x128x128_0_0_128) (part k 128 inb_S1x128x512_S1x128x128_0_0_128) (part v 128 inb_S1x128x512_S1x128x128_0_0_128) (tab t 1 inb_S1x4x128x128_S1x1x128x128_0_1_0_0) 1 r n x (fun a e => by pointwise [part])
      (fun a e => by pointwise [part]) (fun a e => by pointwise [part]) (fun a e => by pointwise [tab]) h1 h2 x2_lt
  · exact headO_of q k v t wq wk (part q 0 inb_S1x128x512_S1x128x128_0_0_0) (part k 0 inb_S1x128x512_S1x128x128_0_0_0) (part v 0 inb_S1x128x512_S1x128x128_0_0_0) (tab t 0 inb_S1x4x128x128_S1x1x128x128_0_0_0_0) 0 r n x (fun a e => by pointwise [part])
      (fun a e => by pointwise [part]) (fun a e => by pointwise [part]) (fun a e => by pointwise [tab]) h1 (h2.trans (Nat.zero_add _).symm) x2_lt

theorem tileL_eq (q k : FVec Ideal S1x128x512 .bf16) (t : FVec Ideal S1x4x128x128 .f32) (wq wk : FVec Ideal S1x128 .f32) (r : Fin 128) (n : Fin 512) :
    tileL q k t wq wk (ix3 0 r n) = Soft.logSum (fun j => (∑ e, Soft.nrm (fun e => q (ix3 0 r ⟨n.val / 128 * 128 + e.val, by omega⟩)) (fun e => wq (ix2 0 e)) e
          * Soft.nrm (fun e => k (ix3 0 j ⟨n.val / 128 * 128 + e.val, by omega⟩)) (fun e => wk (ix2 0 e)) e) * Ideal.ofBits .f32 0x3DB504F3#32
          + t (ix4 0 ⟨n.val / 128, by omega⟩ r j)) := by
  unfold tileL
  canon_tiles x h
  · exact headL_of q k t wq wk (part q 384 inb_S1x128x512_S1x128x128_0_0_384) (part k 384 inb_S1x128x512_S1x128x128_0_0_384) (tab t 3 inb_S1x4x128x128_S1x1x128x128_0_3_0_0) 3 r n x (fun a e => by pointwise [part])
      (fun a e => by pointwise [part]) (fun a e => by pointwise [tab]) h1 h2 x2_lt
  · exact headL_of q k t wq wk (part q 256 inb_S1x128x512_S1x128x128_0_0_256) (part k 256 inb_S1x128x512_S1x128x128_0_0_256) (tab t 2 inb_S1x4x128x128_S1x1x128x128_0_2_0_0) 2 r n x (fun a e => by pointwise [part])
      (fun a e => by pointwise [part]) (fun a e => by pointwise [tab]) h1 h2 x2_lt
  · exact headL_of q k t wq wk (part q 128 inb_S1x128x512_S1x128x128_0_0_128) (part k 128 inb_S1x128x512_S1x128x128_0_0_128) (tab t 1 inb_S1x4x128x128_S1x1x128x128_0_1_0_0) 1 r n x (fun a e => by pointwise [part])
      (fun a e => by pointwise [part]) (fun a e => by pointwise [tab]) h1 h2 x2_lt
  · exact headL_of q k t wq wk (part q 0 inb_S1x128x512_S1x128x128_0_0_0) (part k 0 inb_S1x128x512_S1x128x128_0_0_0) (tab t 0 inb_S1x4x128x128_S1x1x128x128_0_0_0_0) 0 r n x (fun a e => by pointwise [part])
      (fun a e => by pointwise [part]) (fun a e => by pointwise [tab]) h1 (h2.trans (Nat.zero_add _).symm) x2_lt

end Cert.Kernel10Ideal.Band

end
-- ==== Proof.BandRef.lean ====
/- The reference of the group of dilation 16, element by element. -/
module

public import proofs.«01_k».proof.Proof.Gen.Reference10Ideal.Run
public import proofs.«01_k».proof.Proof.Soft
public import Idealize.ShloMosaic.Lib.Pointwise

@[expose] public section

set_option maxRecDepth 16384

noncomputable section

open Idealize.ShloMosaic Idealize.ShloMosaic.TcCoe Idealize.SL.Sem

namespace Cert.Reference10Ideal.Band

open Cert.Reference10Ideal Cert.Reference10Ideal.Gen

/-- The group's columns of the queries, of the keys and of the values. -/
def colsQ (A : FVec Ideal S4x2048x15872 .bf16) : FVec Ideal S4x2048x4x128 .f32 :=
  shapeCast _ (extractStridedSlice S4x2048x1x4x128 ![0, 0, 2, 0, 0] (shapeCast _ (extractStridedSlice S4x2048x1536 ![0, 0, 0] (extractStridedSlice S4x2048x4608 ![0, 0, 3072] (extf .f32 A bitsLt_bf16_f32) slices_S4x2048x15872_S4x2048x4608_0_0_3072) slices_S4x2048x4608_S4x2048x1536_0_0_0) shapeCasts_S4x2048x1536_S4x2048x3x4x128) slices_S4x2048x3x4x128_S4x2048x1x4x128_0_0_2_0_0) shapeCasts_S4x2048x1x4x128_S4x2048x4x128
def colsK (A : FVec Ideal S4x2048x15872 .bf16) : FVec Ideal S4x2048x4x128 .f32 :=
  shapeCast _ (extractStridedSlice S4x2048x1x4x128 ![0, 0, 2, 0, 0] (shapeCast _ (extractStridedSlice S4x2048x1536 ![0, 0, 1536] (extractStridedSlice S4x2048x4608 ![0, 0, 3072] (extf .f32 A bitsLt_bf16_f32) slices_S4x2048x15872_S4x2048x4608_0_0_3072) slices_S4x2048x4608_S4x2048x1536_0_0_1536) shapeCasts_S4x2048x1536_S4x2048x3x4x128) slices_S4x2048x3x4x128_S4x2048x1x4x128_0_0_2_0_0) shapeCasts_S4x2048x1x4x128_S4x2048x4x128
def colsV (A : FVec Ideal S4x2048x15872 .bf16) : FVec Ideal S4x2048x4x128 .f32 :=
  shapeCast _ (extractStridedSlice S4x2048x1x4x128 ![0, 0, 2, 0, 0] (shapeCast _ (extractStridedSlice S4x2048x1536 ![0, 0, 3072] (extractStridedSlice S4x2048x4608 ![0, 0, 3072] (extf .f32 A bitsLt_bf16_f32) slices_S4x2048x15872_S4x2048x4608_0_0_3072) slices_S4x2048x4608_S4x2048x1536_0_0_3072) shapeCasts_S4x2048x1536_S4x2048x3x4x128) slices_S4x2048x3x4x128_S4x2048x1x4x128_0_0_2_0_0) shapeCasts_S4x2048x1x4x128_S4x2048x4x128

/-- The columns normalized with the weights `w`, and set out by residue class. -/
def normed (Y : FVec Ideal S4x2048x4x128 .f32) (w : FVec Ideal S1x128 .f32) : FVec Ideal S4x2048x4x128 .f32 :=
  mulf (mulf Y (broadcastInDim S4x2048x4x128 ![0, 1, 2, 3] bcast_S4x2048x4x1_S4x2048x4x128_0_1_2_3 (Host.rsqrt (addf (Host.divf (broadcastInDim S4x2048x4x1 ![0, 1, 2] bcast_S4x2048x4_S4x2048x4x1_0_1_2 (Host.reduceAdd (mulf Y Y) (constant S_ .f32 0x00000000#32) reducesTo_S4x2048x4x128_S4x2048x4_d3 h_S_)) (broadcastInDim S4x2048x4x1 ![] bcast_S_S4x2048x4x1 (constant S_ .f32 0x43000000#32))) (broadcastInDim S4x2048x4x1 ![] bcast_S_S4x2048x4x1 (constant S_ .f32 0x358637BD#32)))))) (broadcastInDim S4x2048x4x128 ![0, 1, 2, 3] bcast_S1x1x1x128_S4x2048x4x128_0_1_2_3 (broadcastInDim S1x1x1x128 ![3] bcast_S128_S1x1x1x128_3 (shapeCast _ w shapeCasts_S1x128_S128)))
def classes (Y : FVec Ideal S4x2048x4x128 .f32) : FVec Ideal S4x128x16x4x128 .f32 :=
  shapeCast _ Y shapeCasts_S4x2048x4x128_S4x128x16x4x128

/-- The scores with the bias `T`. -/
def scores (Q K : FVec Ideal S4x128x16x4x128 .f32) (T : FVec Ideal S1x4x128x128 .f32) : FVec Ideal S4x16x4x128x128 .f32 :=
  addf (mulf (Host.dotGeneral dot_S4x128x16x4x128_S4x128x16x4x128_S4x16x4x128x128_4_4_1_1_023_023 none Q K) (broadcastInDim S4x16x4x128x128 ![] bcast_S_S4x16x4x128x128 (constant S_ .f32 0x3DB504F3#32))) (broadcastInDim S4x16x4x128x128 ![0, 1, 2, 3, 4] bcast_S1x1x4x128x128_S4x16x4x128x128_0_1_2_3_4 (broadcastInDim S1x1x4x128x128 ![1, 2, 3, 4] bcast_S1x4x128x128_S1x1x4x128x128_1_2_3_4 T))

/-- The log of the sum of each row's exponentials. -/
def logs (L : FVec Ideal S4x16x4x128x128 .f32) : FVec Ideal S4x16x4x128 .f32 :=
  Host.log (Host.reduceAdd (Host.exp L) (constant S_ .f32 0x00000000#32) reducesTo_S4x16x4x128x128_S4x16x4x128_d4 h_S_)

/-- The two results from the scores, their logs and the values. -/
def resO (V : FVec Ideal S4x128x16x4x128 .f32) (L : FVec Ideal S4x16x4x128x128 .f32) (Z : FVec Ideal S4x16x4x128 .f32) : FVec Ideal S4x128x8192 .f32 :=
  shapeCast _ (transpose S4x128x16x4x128 [0, 4, 1, 2, 3] (Host.dotGeneral dot_S4x128x16x4x128_S4x16x4x128x128_S4x16x4x128x128_1_4_4_3_023_012 none V (Host.exp (subf L (broadcastInDim S4x16x4x128x128 ![0, 1, 2, 3, 4] bcast_S4x16x4x128x1_S4x16x4x128x128_0_1_2_3_4 (broadcastInDim S4x16x4x128x1 ![0, 1, 2, 3] bcast_S4x16x4x128_S4x16x4x128x1_0_1_2_3 Z))))) transposes_S4x16x4x128x128_S4x128x16x4x128_0_4_1_2_3) shapeCasts_S4x128x16x4x128_S4x128x8192
def resL (Z : FVec Ideal S4x16x4x128 .f32) : FVec Ideal S4x128x8192 .f32 :=
  shapeCast _ (broadcastInDim S4x128x16x4x128 ![0, 1, 2, 3, 4] bcast_S4x128x16x4x1_S4x128x16x4x128_0_1_2_3_4 (broadcastInDim S4x128x16x4x1 ![0, 1, 2, 3] bcast_S4x128x16x4_S4x128x16x4x1_0_1_2_3 (transpose S4x128x16x4 [0, 3, 1, 2] Z transposes_S4x16x4x128_S4x128x16x4_0_3_1_2))) shapeCasts_S4x128x16x4x128_S4x128x8192

theorem colsQ_eq (A : FVec Ideal S4x2048x15872 .bf16) (b : Fin 4) (s : Fin 2048) (h : Fin 4) (d : Fin 128) :
    colsQ A (ix4 b s h d) = A (ix3 b s ⟨4096 + h.val * 128 + d.val, by omega⟩) := by
  pointwise [colsQ]
  simp only [← Nat.add_assoc, Nat.reduceAdd]

theorem colsK_eq (A : FVec Ideal S4x2048x15872 .bf16) (b : Fin 4) (s : Fin 2048) (h : Fin 4) (d : Fin 128) :
    colsK A (ix4 b s h d) = A (ix3 b s ⟨5632 + h.val * 128 + d.val, by omega⟩) := by
  pointwise [colsK]
  simp only [← Nat.add_assoc, Nat.reduceAdd]

theorem colsV_eq (A : FVec Ideal S4x2048x15872 .bf16) (b : Fin 4) (s : Fin 2048) (h : Fin 4) (d : Fin 128) :
    colsV A (ix4 b s h d) = A (ix3 b s ⟨7168 + h.val * 128 + d.val, by omega⟩) := by
  pointwise [colsV]
  simp only [← Nat.add_assoc, Nat.reduceAdd]

theorem normed_eq (Y : FVec Ideal S4x2048x4x128 .f32) (w : FVec Ideal S1x128 .f32) (b : Fin 4) (s : Fin 2048) (h : Fin 4) (d : Fin 128) :
    normed Y w (ix4 b s h d) = Soft.nrm (fun e => Y (ix4 b s h e)) (fun e => w (ix2 0 e)) d := by
  pointwise [normed, Soft.nrm]

theorem classes_eq (Y : FVec Ideal S4x2048x4x128 .f32) (b : Fin 4) (r : Fin 128) (c : Fin 16) (h : Fin 4) (d : Fin 128) :
    classes Y (ix5 b r c h d) = Y (ix4 b ⟨r.val * 16 + c.val, by omega⟩ h d) := by
  pointwise [classes]

theorem scores_eq (Q K : FVec Ideal S4x128x16x4x128 .f32) (T : FVec Ideal S1x4x128x128 .f32) (b : Fin 4) (c : Fin 16) (h : Fin 4) (r j : Fin 128) :
    scores Q K T (ix5 b c h r j)
      = (∑ e, Q (ix5 b r c h e) * K (ix5 b j c h e)) * Ideal.ofBits .f32 0x3DB504F3#32 + T (ix4 0 h r j) := by
  pointwise [scores]

theorem logs_eq (L : FVec Ideal S4x16x4x128x128 .f32) (b : Fin 4) (c : Fin 16) (h : Fin 4) (r : Fin 128) :
    logs L (ix4 b c h r) = Ideal.log (∑ j, Ideal.exp (L (ix5 b c h r j))) := by
  pointwise [logs]

theorem resO_eq (V : FVec Ideal S4x128x16x4x128 .f32) (L : FVec Ideal S4x16x4x128x128 .f32) (Z : FVec Ideal S4x16x4x128 .f32)
    (b : Fin 4) (r : Fin 128) (n : Fin 8192) :
    resO V L Z (ix3 b r n) = ∑ j, V (ix5 b j ⟨n.val / 512, by omega⟩ ⟨n.val / 128 % 4, by omega⟩ ⟨n.val % 128, by omega⟩)
      * Ideal.exp (L (ix5 b ⟨n.val / 512, by omega⟩ ⟨n.val / 128 % 4, by omega⟩ r j)
        - Z (ix4 b ⟨n.val / 512, by omega⟩ ⟨n.val / 128 % 4, by omega⟩ r)) := by
  pointwise [resO]

theorem resL_eq (Z : FVec Ideal S4x16x4x128 .f32) (b : Fin 4) (r : Fin 128) (n : Fin 8192) :
    resL Z (ix3 b r n) = Z (ix4 b ⟨n.val / 512, by omega⟩ ⟨n.val / 128 % 4, by omega⟩ r) := by
  pointwise [resL]

/-- The scores of the argument arrays. -/
def all (A : FVec Ideal S4x2048x15872 .bf16) (T : FVec Ideal S1x4x128x128 .f32) (wq wk : FVec Ideal S1x128 .f32) : FVec Ideal S4x16x4x128x128 .f32 :=
  scores (classes (normed (colsQ A) wq)) (classes (normed (colsK A) wk)) T

theorem all_eq (A : FVec Ideal S4x2048x15872 .bf16) (T : FVec Ideal S1x4x128x128 .f32) (wq wk : FVec Ideal S1x128 .f32)
    (b : Fin 4) (c : Fin 16) (h : Fin 4) (r j : Fin 128) :
    all A T wq wk (ix5 b c h r j) = Soft.bandScore (fun b r n => A (ix3 b r n)) (fun h r j => T (ix4 0 h r j)) (fun d => wq (ix2 0 d))
      (fun d => wk (ix2 0 d)) b c h r j := by
  unfold all Soft.bandScore
  rw [scores_eq]
  simp only [classes_eq, normed_eq, colsQ_eq, colsK_eq]

/-- The reference's first result at an index, for real bias and weights. -/
theorem resultO (A : FVec Ideal S4x2048x15872 .bf16) (T : FVec Ideal S1x4x128x128 .f32) (wq wk : FVec Ideal S1x128 .f32)
    (hT : ∀ h r j, Soft.IsReal (T (ix4 0 h r j))) (hq : ∀ d, Soft.IsReal (wq (ix2 0 d))) (hk : ∀ d, Soft.IsReal (wk (ix2 0 d)))
    (b : Fin 4) (r : Fin 128) (n : Fin 8192) :
    resO (classes (colsV A)) (all A T wq wk) (logs (all A T wq wk)) (ix3 b r n)
      = Soft.bandO (fun b r n => A (ix3 b r n)) (fun h r j => T (ix4 0 h r j)) (fun d => wq (ix2 0 d)) (fun d => wk (ix2 0 d)) b r n := by
  rw [resO_eq]
  unfold Soft.bandO
  rw [← Soft.weigh_eq (by norm_num) _ _ fun j => Soft.bandScore_real _ _ _ _ hT hq hk _ _ _ _ _]
  simp only [logs_eq, all_eq, classes_eq, colsV_eq]
  refine Finset.sum_congr rfl fun j _ => (mul_comm _ _).trans ?_
  have e : 7168 + n.val / 128 % 4 * 128 + n.val % 128 = 7168 + n.val % 512 := by omega
  simp only [e]

/-- The reference's second result at an index, for real bias and weights. -/
theorem resultL (A : FVec Ideal S4x2048x15872 .bf16) (T : FVec Ideal S1x4x128x128 .f32) (wq wk : FVec Ideal S1x128 .f32)
    (hT : ∀ h r j, Soft.IsReal (T (ix4 0 h r j))) (hq : ∀ d, Soft.IsReal (wq (ix2 0 d))) (hk : ∀ d, Soft.IsReal (wk (ix2 0 d)))
    (b : Fin 4) (r : Fin 128) (n : Fin 8192) :
    resL (logs (all A T wq wk)) (ix3 b r n)
      = Soft.bandL (fun b r n => A (ix3 b r n)) (fun h r j => T (ix4 0 h r j)) (fun d => wq (ix2 0 d)) (fun d => wk (ix2 0 d)) b r n := by
  rw [resL_eq]
  unfold Soft.bandL
  rw [← Soft.logSum_eq (by norm_num) _ fun j => Soft.bandScore_real _ _ _ _ hT hq hk _ _ _ _ _, logs_eq]
  simp only [all_eq]

variable (m : (ℓ : Loc nD τ sig) → Buf (Elt Ideal) ℓ)

/-- The two results are these. -/
theorem first (c : Dev nD) : Value.res_main_v63 (F := Ideal) m c
    = resO (classes (colsV (m ((c.tc : Thread nD τ).loc main_arg0))))
        (all (m ((c.tc : Thread nD τ).loc main_arg0)) (m ((c.tc : Thread nD τ).loc main_arg1)) (m ((c.tc : Thread nD τ).loc main_arg2)) (m ((c.tc : Thread nD τ).loc main_arg3)))
        (logs (all (m ((c.tc : Thread nD τ).loc main_arg0)) (m ((c.tc : Thread nD τ).loc main_arg1)) (m ((c.tc : Thread nD τ).loc main_arg2)) (m ((c.tc : Thread nD τ).loc main_arg3)))) := rfl

theorem second (c : Dev nD) : Value.res_main_v64 (F := Ideal) m c
    = resL (logs (all (m ((c.tc : Thread nD τ).loc main_arg0)) (m ((c.tc : Thread nD τ).loc main_arg1)) (m ((c.tc : Thread nD τ).loc main_arg2)) (m ((c.tc : Thread nD τ).loc main_arg3)))) := rfl

end Cert.Reference10Ideal.Band

end
-- ==== Proof.Band.lean ====
/- What the call of the group of dilation 16 leaves in its two result arrays: the reference's. -/
module

public import proofs.«01_k».proof.Proof.BandHead
public import proofs.«01_k».proof.Proof.BandRef
public import proofs.«01_k».proof.Proof.Gen.Pre_finite_bias10
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel10Ideal.Band

open Cert.Kernel10Ideal Cert.Kernel10Ideal.Gen

variable (m : (ℓ : Loc nD τ sig) → Buf (Elt Ideal) ℓ)

/-- The whole weights are read at every point. -/
theorem weight_ld (w : FVec Ideal S1x128 .f32) : View.ld (Val := Elt Ideal) (e' := .f32) w r0_0 = w :=
  View.ld_unit_lit _ _ fun a => by fin_cases a <;> rfl

theorem stored3O (x0 x1 x2 : FVec Ideal S1x128x512 .bf16) (x3 : FVec Ideal S1x4x128x128 .f32) (x4 x5 : FVec Ideal S1x128 .f32) :
    k0_pay1 (k0_pay32 (View.ld x2 r0_7)) (k0_pay48 x0 x1 x2 x3 x4 x5) (k0_pay37 (View.ld x4 r0_0) (View.ld x5 r0_0) (k0_pay45 x0 x1 x2 x3 x4 x5) (k0_pay46 x0 x1 x2 x3 x4 x5) (k0_pay47 x0 x1 x2 x3 x4 x5) (View.ld x1 r0_7) (View.ld x3 r0_8)) (constant S128x128 .f32 0x00000000#32)
      = headO (part x0 384 inb_S1x128x512_S1x128x128_0_0_384) (part x1 384 inb_S1x128x512_S1x128x128_0_0_384) (part x2 384 inb_S1x128x512_S1x128x128_0_0_384) (tab x3 3 inb_S1x4x128x128_S1x1x128x128_0_3_0_0) x4 x5 := by
  simp only [k0_pay48, k0_pay47, k0_pay46, k0_pay45, weight_ld]
  exact head3O _ _ _ _ _ _

theorem stored2O (x0 x1 x2 : FVec Ideal S1x128x512 .bf16) (x3 : FVec Ideal S1x4x128x128 .f32) (x4 x5 : FVec Ideal S1x128 .f32) :
    k0_pay27 (k0_pay42 x0 x1 x2 x3 x4 x5) (k0_pay43 x0 x1 x2 x3 x4 x5) (k0_pay44 x0 x1 x2 x3 x4 x5) (View.ld x2 r0_5) (View.ld x3 r0_6)
      = headO (part x0 256 inb_S1x128x512_S1x128x128_0_0_256) (part x1 256 inb_S1x128x512_S1x128x128_0_0_256) (part x2 256 inb_S1x128x512_S1x128x128_0_0_256) (tab x3 2 inb_S1x4x128x128_S1x1x128x128_0_2_0_0) x4 x5 := by
  simp only [k0_pay44, k0_pay43, k0_pay42, weight_ld]
  exact head2O _ _ _ _ _ _

theorem stored1O (x0 x1 x2 : FVec Ideal S1x128x512 .bf16) (x3 : FVec Ideal S1x4x128x128 .f32) (x4 x5 : FVec Ideal S1x128 .f32) :
    k0_pay18 (k0_pay17 (View.ld x4 r0_0) (View.ld x5 r0_0) (k0_pay40 x0 x1 x2 x3 x4 x5) (k0_pay41 x0 x1 x2 x3 x4 x5) (View.ld x1 r0_3) (View.ld x2 r0_3) (View.ld x3 r0_4))
      = headO (part x0 128 inb_S1x128x512_S1x128x128_0_0_128) (part x1 128 inb_S1x128x512_S1x128x128_0_0_128) (part x2 128 inb_S1x128x512_S1x128x128_0_0_128) (tab x3 1 inb_S1x4x128x128_S1x1x128x128_0_1_0_0) x4 x5 := by
  simp only [k0_pay41, k0_pay40, weight_ld]
  exact head1O _ _ _ _ _ _

theorem stored0O (x0 x1 x2 : FVec Ideal S1x128x512 .bf16) (x3 : FVec Ideal S1x4x128x128 .f32) (x4 x5 : FVec Ideal S1x128 .f32) :
    k0_pay9 (k0_pay38 x0 x1 x2 x3 x4 x5) (k0_pay39 x0 x1 x2 x3 x4 x5) (View.ld x2 r0_1) (View.ld x3 r0_2)
      = headO (part x0 0 inb_S1x128x512_S1x128x128_0_0_0) (part x1 0 inb_S1x128x512_S1x128x128_0_0_0) (part x2 0 inb_S1x128x512_S1x128x128_0_0_0) (tab x3 0 inb_S1x4x128x128_S1x1x128x128_0_0_0_0) x4 x5 := by
  simp only [k0_pay39, k0_pay38, weight_ld]
  exact rfl

/-- What a point leaves in the first result's buffer, from the blocks it reads. -/
theorem leftO (x0 x1 x2 : FVec Ideal S1x128x512 .bf16) (x3 : FVec Ideal S1x4x128x128 .f32) (x4 x5 : FVec Ideal S1x128 .f32) :
    out0_6 (F := Ideal) x0 x1 x2 x3 x4 x5 = tileO x0 x1 x2 x3 x4 x5 := by
  unfold out0_6 tileO
  rw [stored3O, stored2O, stored1O, stored0O]

theorem stored3L (x0 x1 x2 : FVec Ideal S1x128x512 .bf16) (x3 : FVec Ideal S1x4x128x128 .f32) (x4 x5 : FVec Ideal S1x128 .f32) :
    k0_pay2 (k0_pay34 (View.ld x4 r0_0) (View.ld x5 r0_0) (k0_pay45 x0 x1 x2 x3 x4 x5) (k0_pay46 x0 x1 x2 x3 x4 x5) (k0_pay47 x0 x1 x2 x3 x4 x5) (View.ld x1 r0_7) (View.ld x3 r0_8)) (k0_pay48 x0 x1 x2 x3 x4 x5)
      = headL (part x0 384 inb_S1x128x512_S1x128x128_0_0_384) (part x1 384 inb_S1x128x512_S1x128x128_0_0_384) (tab x3 3 inb_S1x4x128x128_S1x1x128x128_0_3_0_0) x4 x5 := by
  simp only [k0_pay48, k0_pay47, k0_pay46, k0_pay45, weight_ld]
  exact head3L _ _ _ _ _

theorem stored2L (x0 x1 x2 : FVec Ideal S1x128x512 .bf16) (x3 : FVec Ideal S1x4x128x128 .f32) (x4 x5 : FVec Ideal S1x128 .f32) :
    k0_pay28 (k0_pay42 x0 x1 x2 x3 x4 x5) (k0_pay43 x0 x1 x2 x3 x4 x5) (k0_pay44 x0 x1 x2 x3 x4 x5) (View.ld x3 r0_6)
      = headL (part x0 256 inb_S1x128x512_S1x128x128_0_0_256) (part x1 256 inb_S1x128x512_S1x128x128_0_0_256) (tab x3 2 inb_S1x4x128x128_S1x1x128x128_0_2_0_0) x4 x5 := by
  simp only [k0_pay44, k0_pay43, k0_pay42, weight_ld]
  exact head2L _ _ _ _ _

theorem stored1L (x0 x1 x2 : FVec Ideal S1x128x512 .bf16) (x3 : FVec Ideal S1x4x128x128 .f32) (x4 x5 : FVec Ideal S1x128 .f32) :
    k0_pay19 (k0_pay14 (View.ld x4 r0_0) (View.ld x5 r0_0) (k0_pay40 x0 x1 x2 x3 x4 x5) (k0_pay41 x0 x1 x2 x3 x4 x5) (View.ld x1 r0_3) (View.ld x3 r0_4)) (k0_pay16 (View.ld x4 r0_0) (View.ld x5 r0_0) (k0_pay40 x0 x1 x2 x3 x4 x5) (k0_pay41 x0 x1 x2 x3 x4 x5) (View.ld x1 r0_3) (View.ld x3 r0_4))
      = headL (part x0 128 inb_S1x128x512_S1x128x128_0_0_128) (part x1 128 inb_S1x128x512_S1x128x128_0_0_128) (tab x3 1 inb_S1x4x128x128_S1x1x128x128_0_1_0_0) x4 x5 := by
  simp only [k0_pay41, k0_pay40, weight_ld]
  exact head1L _ _ _ _ _

theorem stored0L (x0 x1 x2 : FVec Ideal S1x128x512 .bf16) (x3 : FVec Ideal S1x4x128x128 .f32) (x4 x5 : FVec Ideal S1x128 .f32) :
    k0_pay10 (k0_pay38 x0 x1 x2 x3 x4 x5) (k0_pay39 x0 x1 x2 x3 x4 x5) (View.ld x3 r0_2)
      = headL (part x0 0 inb_S1x128x512_S1x128x128_0_0_0) (part x1 0 inb_S1x128x512_S1x128x128_0_0_0) (tab x3 0 inb_S1x4x128x128_S1x1x128x128_0_0_0_0) x4 x5 := by
  simp only [k0_pay39, k0_pay38, weight_ld]
  exact rfl

/-- What a point leaves in the second result's buffer, from the blocks it reads. -/
theorem leftL (x0 x1 x2 : FVec Ideal S1x128x512 .bf16) (x3 : FVec Ideal S1x4x128x128 .f32) (x4 x5 : FVec Ideal S1x128 .f32) :
    out0_7 (F := Ideal) x0 x1 x2 x3 x4 x5 = tileL x0 x1 x3 x4 x5 := by
  unfold out0_7 tileL
  rw [stored3L, stored2L, stored1L, stored0L]

/-- The windows' block indices at a point: point `t` is batch `t / 16`, residue class `t % 16`. -/
theorem idx : ∀ t : Fin cfg0.N, win0_0.index t = ![t.val / 16, 0, t.val % 16 * 31 + 8]
    ∧ win0_1.index t = ![t.val / 16, 0, t.val % 16 * 31 + 11] ∧ win0_2.index t = ![t.val / 16, 0, t.val % 16 * 31 + 14]
    ∧ win0_3.index t = ![0, 0, 0, 0] ∧ win0_4.index t = ![0, 0] ∧ win0_5.index t = ![0, 0]
    ∧ win0_6.index t = ![t.val / 16, 0, t.val % 16] ∧ win0_7.index t = ![t.val / 16, 0, t.val % 16] :=
  (by decide +kernel : ∀ t : Fin grid0.N, _)

theorem lt_t (t : Fin cfg0.N) : t.val < 64 := lt_of_lt_of_eq t.isLt N_0

/-- The projection with each residue class's positions side by side. -/
theorem V_cls (c : Dev nD) : V m c main_v0
    = (shapeCast S4x128x253952 (m ((c : Thread nD τ).loc main_arg0) : FVec Ideal S4x2048x15872 .bf16) shapeCasts_S4x2048x15872_S4x128x253952) := by
  unfold_abbrev_sides
  after_results_simp <;> rfl

theorem cls_eq (A : FVec Ideal S4x2048x15872 .bf16) (b : Fin 4) (r : Fin 128) (c : Fin 16) (n : Fin 15872) :
    shapeCast S4x128x253952 A shapeCasts_S4x2048x15872_S4x128x253952 (ix3 b r ⟨c.val * 15872 + n.val, by omega⟩)
      = A (ix3 b ⟨r.val * 16 + c.val, by omega⟩ n) := by
  pointwise []
  have e : (c.val * 15872 + n.val) / 15872 = c.val := by omega
  simp only [e]

theorem blk_q (c : Dev nD) (t : Fin cfg0.N) (r : Fin 128) (n : Fin 512) : iblk m c 0 t (ix3 0 r n)
    = m ((c : Thread nD τ).loc main_arg0) (ix3 (⟨t.val / 16, by have := lt_t t; omega⟩ : Fin 4)
        (⟨r.val * 16 + t.val % 16, by omega⟩ : Fin 2048) (⟨4096 + n.val, by omega⟩ : Fin 15872)) := by
  refine Eq.trans ?_ (cls_eq _ ⟨t.val / 16, by have := lt_t t; omega⟩ r ⟨t.val % 16, by omega⟩ ⟨4096 + n.val, by omega⟩)
  rw [← V_cls m c]
  blk_point [iblk, idx t]

theorem blk_k (c : Dev nD) (t : Fin cfg0.N) (r : Fin 128) (n : Fin 512) : iblk m c 1 t (ix3 0 r n)
    = m ((c : Thread nD τ).loc main_arg0) (ix3 (⟨t.val / 16, by have := lt_t t; omega⟩ : Fin 4)
        (⟨r.val * 16 + t.val % 16, by omega⟩ : Fin 2048) (⟨5632 + n.val, by omega⟩ : Fin 15872)) := by
  refine Eq.trans ?_ (cls_eq _ ⟨t.val / 16, by have := lt_t t; omega⟩ r ⟨t.val % 16, by omega⟩ ⟨5632 + n.val, by omega⟩)
  rw [← V_cls m c]
  blk_point [iblk, idx t]

theorem blk_v (c : Dev nD) (t : Fin cfg0.N) (r : Fin 128) (n : Fin 512) : iblk m c 2 t (ix3 0 r n)
    = m ((c : Thread nD τ).loc main_arg0) (ix3 (⟨t.val / 16, by have := lt_t t; omega⟩ : Fin 4)
        (⟨r.val * 16 + t.val % 16, by omega⟩ : Fin 2048) (⟨7168 + n.val, by omega⟩ : Fin 15872)) := by
  refine Eq.trans ?_ (cls_eq _ ⟨t.val / 16, by have := lt_t t; omega⟩ r ⟨t.val % 16, by omega⟩ ⟨7168 + n.val, by omega⟩)
  rw [← V_cls m c]
  blk_point [iblk, idx t]

theorem blk_t (c : Dev nD) (t : Fin cfg0.N) (h : Fin 4) (r j : Fin 128) : iblk m c 3 t (ix4 0 h r j)
    = m ((c : Thread nD τ).loc main_arg1) (ix4 (0 : Fin 1) h r j) := by
  rw [← V_main_arg1 m c]
  blk_point [iblk, idx t]

theorem blk_wq (c : Dev nD) (t : Fin cfg0.N) (d : Fin 128) : iblk m c 4 t (ix2 0 d)
    = m ((c : Thread nD τ).loc main_arg2) (ix2 (0 : Fin 1) d) := by
  rw [← V_main_arg2 m c]
  blk_point [iblk, idx t]

theorem blk_wk (c : Dev nD) (t : Fin cfg0.N) (d : Fin 128) : iblk m c 5 t (ix2 0 d)
    = m ((c : Thread nD τ).loc main_arg3) (ix2 (0 : Fin 1) d) := by
  rw [← V_main_arg3 m c]
  blk_point [iblk, idx t]

/-- An index of a block is three coordinates, the first of them zero. -/
theorem coords (y : S1x128x512.Idx) : ∃ (r : Fin 128) (n : Fin 512), y = ix3 0 r n := ⟨y 1, y 2, (eq_ix3 y).trans
    (congrArg (fun a => ix3 a (y 1) (y 2)) (Subsingleton.elim (α := Fin 1) _ _))⟩

/-- The first result as an array, from the four argument arrays. -/
def REFO (A : FVec Ideal S4x2048x15872 .bf16) (T : FVec Ideal S1x4x128x128 .f32) (wq wk : FVec Ideal S1x128 .f32) : FVec Ideal S4x128x8192 .f32 :=
  fun i => Soft.bandO (fun b r n => A (ix3 b r n)) (fun h r j => T (ix4 0 h r j)) (fun d => wq (ix2 0 d)) (fun d => wk (ix2 0 d)) (i 0) (i 1) (i 2)

theorem REFO_at (A : FVec Ideal S4x2048x15872 .bf16) (T : FVec Ideal S1x4x128x128 .f32) (wq wk : FVec Ideal S1x128 .f32)
    (b : Fin 4) (r : Fin 128) (n : Fin 8192) : REFO A T wq wk (ix3 b r n)
      = Soft.bandO (fun b r n => A (ix3 b r n)) (fun h r j => T (ix4 0 h r j)) (fun d => wq (ix2 0 d)) (fun d => wk (ix2 0 d)) b r n := rfl

/-- One point's values are the result's at the place of its block. -/
theorem pointO (c : Dev nD) (t : Fin cfg0.N) (r : Fin 128) (n : Fin 512) :
    tileO (iblk m c 0 t) (iblk m c 1 t) (iblk m c 2 t) (iblk m c 3 t) (iblk m c 4 t) (iblk m c 5 t) (ix3 0 r n)
      = Soft.bandO (fun b r n => m ((c : Thread nD τ).loc main_arg0) (ix3 b r n)) (fun h r j => m ((c : Thread nD τ).loc main_arg1) (ix4 0 h r j))
          (fun d => m ((c : Thread nD τ).loc main_arg2) (ix2 0 d)) (fun d => m ((c : Thread nD τ).loc main_arg3) (ix2 0 d)) ⟨t.val / 16, by have := lt_t t; omega⟩ r ⟨t.val % 16 * 512 + n.val, by omega⟩ := by
  rw [tileO_eq]
  have a1 : (t.val % 16 * 512 + n.val) / 512 = t.val % 16 := by omega
  have a2 : (t.val % 16 * 512 + n.val) / 128 % 4 = n.val / 128 := by omega
  have a3 : (t.val % 16 * 512 + n.val) % 512 = n.val := by omega
  unfold Soft.bandO Soft.bandScore
  simp only [blk_q, blk_k, blk_v, blk_t, blk_wq, blk_wk, a1, a2, a3, Nat.add_assoc]

theorem placeO (t : Fin cfg0.N) (r : Fin 128) (n : Fin 512) : ((cfg0.win 6).blk t).view.emb (ix3 0 r n)
      = ix3 (⟨t.val / 16, by have := lt_t t; omega⟩ : Fin 4) r (⟨t.val % 16 * 512 + n.val, by omega⟩ : Fin 8192) := by
  blk_point [idx t]

theorem agreesO (c : Dev nD) (t : Fin cfg0.N) (y : S1x128x512.Idx) :
    tileO (iblk m c 0 t) (iblk m c 1 t) (iblk m c 2 t) (iblk m c 3 t) (iblk m c 4 t) (iblk m c 5 t) y
      = REFO (m ((c : Thread nD τ).loc main_arg0)) (m ((c : Thread nD τ).loc main_arg1)) (m ((c : Thread nD τ).loc main_arg2)) (m ((c : Thread nD τ).loc main_arg3))
          (((cfg0.win 6).blk t).view.emb y) := by
  obtain ⟨r, n, rfl⟩ := coords y
  exact (pointO m c t r n).trans ((REFO_at _ _ _ _ _ _ _).symm.trans (congrArg (REFO _ _ _ _) (placeO t r n).symm))

/-- The first result array after the run. -/
theorem finalO (c : Dev nD) : (dats m 0 c).arrAt 6 (cfgs 0).N
    = REFO (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6, leftO]
  exact agreesO m c t y

/-- The second result as an array, from the four argument arrays. -/
def REFL (A : FVec Ideal S4x2048x15872 .bf16) (T : FVec Ideal S1x4x128x128 .f32) (wq wk : FVec Ideal S1x128 .f32) : FVec Ideal S4x128x8192 .f32 :=
  fun i => Soft.bandL (fun b r n => A (ix3 b r n)) (fun h r j => T (ix4 0 h r j)) (fun d => wq (ix2 0 d)) (fun d => wk (ix2 0 d)) (i 0) (i 1) (i 2)

theorem REFL_at (A : FVec Ideal S4x2048x15872 .bf16) (T : FVec Ideal S1x4x128x128 .f32) (wq wk : FVec Ideal S1x128 .f32)
    (b : Fin 4) (r : Fin 128) (n : Fin 8192) : REFL A T wq wk (ix3 b r n)
      = Soft.bandL (fun b r n => A (ix3 b r n)) (fun h r j => T (ix4 0 h r j)) (fun d => wq (ix2 0 d)) (fun d => wk (ix2 0 d)) b r n := rfl

/-- One point's values are the result's at the place of its block. -/
theorem pointL (c : Dev nD) (t : Fin cfg0.N) (r : Fin 128) (n : Fin 512) :
    tileL (iblk m c 0 t) (iblk m c 1 t) (iblk m c 3 t) (iblk m c 4 t) (iblk m c 5 t) (ix3 0 r n)
      = Soft.bandL (fun b r n => m ((c : Thread nD τ).loc main_arg0) (ix3 b r n)) (fun h r j => m ((c : Thread nD τ).loc main_arg1) (ix4 0 h r j))
          (fun d => m ((c : Thread nD τ).loc main_arg2) (ix2 0 d)) (fun d => m ((c : Thread nD τ).loc main_arg3) (ix2 0 d)) ⟨t.val / 16, by have := lt_t t; omega⟩ r ⟨t.val % 16 * 512 + n.val, by omega⟩ := by
  rw [tileL_eq]
  have a1 : (t.val % 16 * 512 + n.val) / 512 = t.val % 16 := by omega
  have a2 : (t.val % 16 * 512 + n.val) / 128 % 4 = n.val / 128 := by omega
  have a3 : (t.val % 16 * 512 + n.val) % 512 = n.val := by omega
  unfold Soft.bandL Soft.bandScore
  simp only [blk_q, blk_k, blk_t, blk_wq, blk_wk, a1, a2, Nat.add_assoc]

theorem placeL (t : Fin cfg0.N) (r : Fin 128) (n : Fin 512) : ((cfg0.win 7).blk t).view.emb (ix3 0 r n)
      = ix3 (⟨t.val / 16, by have := lt_t t; omega⟩ : Fin 4) r (⟨t.val % 16 * 512 + n.val, by omega⟩ : Fin 8192) := by
  blk_point [idx t]

theorem agreesL (c : Dev nD) (t : Fin cfg0.N) (y : S1x128x512.Idx) :
    tileL (iblk m c 0 t) (iblk m c 1 t) (iblk m c 3 t) (iblk m c 4 t) (iblk m c 5 t) y
      = REFL (m ((c : Thread nD τ).loc main_arg0)) (m ((c : Thread nD τ).loc main_arg1)) (m ((c : Thread nD τ).loc main_arg2)) (m ((c : Thread nD τ).loc main_arg3))
          (((cfg0.win 7).blk t).view.emb y) := by
  obtain ⟨r, n, rfl⟩ := coords y
  exact (pointL m c t r n).trans ((REFL_at _ _ _ _ _ _ _).symm.trans (congrArg (REFL _ _ _ _) (placeL t r n).symm))

/-- The second result array after the run. -/
theorem finalL (c : Dev nD) : (dats m 0 c).arrAt 7 (cfgs 0).N
    = REFL (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7, leftL]
  exact agreesL m c t y

/-- The statement's condition makes the bias and the two weights real. -/
theorem reals (A : FVec Ideal S4x2048x15872 .bf16) (T : FVec Ideal S1x4x128x128 .f32) (wq wk : FVec Ideal S1x128 .f32)
    (h : Cert.Pre_finite_bias10.fn (F := Ideal) A T wq wk = fun _ => 1#1) :
    (∀ h r j, Soft.IsReal (T (ix4 0 h r j))) ∧ (∀ d, Soft.IsReal (wq (ix2 0 d))) ∧ ∀ d, Soft.IsReal (wk (ix2 0 d)) := by
  have key : ∀ (h : Fin 4) (r j : Fin 128),
      ((Ideal.cmp .olt (max (T (ix4 0 h r j)) (-T (ix4 0 h r j))) (Ideal.ofBits .f32 0x7F800000#32))
        &&& (Ideal.cmp .olt (max (wq (ix2 0 r)) (-wq (ix2 0 r))) (Ideal.ofBits .f32 0x7F800000#32)))
      &&& (Ideal.cmp .olt (max (wk (ix2 0 r)) (-wk (ix2 0 r))) (Ideal.ofBits .f32 0x7F800000#32)) = 1#1 := by
    intro h' r j
    have e := congrFun h (ix4 0 h' r j)
    rw [← e]
    pointwise [Cert.Pre_finite_bias10.fn]
    rfl
  refine ⟨fun h r j => ?_, fun d => ?_, fun d => ?_⟩
  · exact Soft.real_of_cmp (Soft.both _ _ (Soft.both _ _ (key h r j)).1).1
  · exact Soft.real_of_cmp (Soft.both _ _ (Soft.both _ _ (key 0 d 0)).1).2
  · exact Soft.real_of_cmp (Soft.both _ _ (key 0 d 0)).2

/-- The reference's first result from its argument arrays, for real bias and weights. -/
theorem referenceO (A : FVec Ideal S4x2048x15872 .bf16) (T : FVec Ideal S1x4x128x128 .f32) (wq wk : FVec Ideal S1x128 .f32)
    (hT : ∀ h r j, Soft.IsReal (T (ix4 0 h r j))) (hq : ∀ d, Soft.IsReal (wq (ix2 0 d))) (hk : ∀ d, Soft.IsReal (wk (ix2 0 d))) :
    Cert.Reference10Ideal.Band.resO (Cert.Reference10Ideal.Band.classes (Cert.Reference10Ideal.Band.colsV A)) (Cert.Reference10Ideal.Band.all A T wq wk) (Cert.Reference10Ideal.Band.logs (Cert.Reference10Ideal.Band.all A T wq wk)) = REFO A T wq wk := by
  funext i
  obtain ⟨b, r, n, rfl⟩ : ∃ (b : Fin 4) (r : Fin 128) (n : Fin 8192), i = ix3 b r n := ⟨i 0, i 1, i 2, eq_ix3 i⟩
  exact (Cert.Reference10Ideal.Band.resultO A T wq wk hT hq hk b r n).trans (REFO_at _ _ _ _ _ _ _).symm

/-- The reference's second result from its argument arrays, for real bias and weights. -/
theorem referenceL (A : FVec Ideal S4x2048x15872 .bf16) (T : FVec Ideal S1x4x128x128 .f32) (wq wk : FVec Ideal S1x128 .f32)
    (hT : ∀ h r j, Soft.IsReal (T (ix4 0 h r j))) (hq : ∀ d, Soft.IsReal (wq (ix2 0 d))) (hk : ∀ d, Soft.IsReal (wk (ix2 0 d))) :
    Cert.Reference10Ideal.Band.resL (Cert.Reference10Ideal.Band.logs (Cert.Reference10Ideal.Band.all A T wq wk)) = REFL A T wq wk := by
  funext i
  obtain ⟨b, r, n, rfl⟩ : ∃ (b : Fin 4) (r : Fin 128) (n : Fin 8192), i = ix3 b r n := ⟨i 0, i 1, i 2, eq_ix3 i⟩
  exact (Cert.Reference10Ideal.Band.resultL A T wq wk hT hq hk b r n).trans (REFL_at _ _ _ _ _ _ _).symm

end Cert.Kernel10Ideal.Band

end
-- ==== Proof.Near4Ref.lean ====
/- The reference of the group of dilation 4, element by element. -/
module

public import proofs.«01_k».proof.Proof.Gen.Reference11Ideal.Run
public import proofs.«01_k».proof.Proof.Soft
public import Idealize.ShloMosaic.Lib.Pointwise

@[expose] public section

set_option maxRecDepth 16384

noncomputable section

open Idealize.ShloMosaic Idealize.ShloMosaic.TcCoe Idealize.SL.Sem

namespace Cert.Reference11Ideal.Near

open Cert.Reference11Ideal Cert.Reference11Ideal.Gen

/-- The group's columns of the queries, of the keys and of the values. -/
def colsQ (A : FVec Ideal S4x2048x15872 .bf16) : FVec Ideal S4x2048x4x128 .f32 :=
  shapeCast _ (extractStridedSlice S4x2048x1x4x128 ![0, 0, 1, 0, 0] (shapeCast _ (extractStridedSlice S4x2048x1536 ![0, 0, 0] (extractStridedSlice S4x2048x4608 ![0, 0, 3072] (extf .f32 A bitsLt_bf16_f32) slices_S4x2048x15872_S4x2048x4608_0_0_3072) slices_S4x2048x4608_S4x2048x1536_0_0_0) shapeCasts_S4x2048x1536_S4x2048x3x4x128) slices_S4x2048x3x4x128_S4x2048x1x4x128_0_0_1_0_0) shapeCasts_S4x2048x1x4x128_S4x2048x4x128
def colsK (A : FVec Ideal S4x2048x15872 .bf16) : FVec Ideal S4x2048x4x128 .f32 :=
  shapeCast _ (extractStridedSlice S4x2048x1x4x128 ![0, 0, 1, 0, 0] (shapeCast _ (extractStridedSlice S4x2048x1536 ![0, 0, 1536] (extractStridedSlice S4x2048x4608 ![0, 0, 3072] (extf .f32 A bitsLt_bf16_f32) slices_S4x2048x15872_S4x2048x4608_0_0_3072) slices_S4x2048x4608_S4x2048x1536_0_0_1536) shapeCasts_S4x2048x1536_S4x2048x3x4x128) slices_S4x2048x3x4x128_S4x2048x1x4x128_0_0_1_0_0) shapeCasts_S4x2048x1x4x128_S4x2048x4x128
def colsV (A : FVec Ideal S4x2048x15872 .bf16) : FVec Ideal S4x2048x4x128 .f32 :=
  shapeCast _ (extractStridedSlice S4x2048x1x4x128 ![0, 0, 1, 0, 0] (shapeCast _ (extractStridedSlice S4x2048x1536 ![0, 0, 3072] (extractStridedSlice S4x2048x4608 ![0, 0, 3072] (extf .f32 A bitsLt_bf16_f32) slices_S4x2048x15872_S4x2048x4608_0_0_3072) slices_S4x2048x4608_S4x2048x1536_0_0_3072) shapeCasts_S4x2048x1536_S4x2048x3x4x128) slices_S4x2048x3x4x128_S4x2048x1x4x128_0_0_1_0_0) shapeCasts_S4x2048x1x4x128_S4x2048x4x128

/-- The columns normalized with the weights `w`, set out by residue class, and set out by tile and class. -/
def normed (Y : FVec Ideal S4x2048x4x128 .f32) (w : FVec Ideal S1x128 .f32) : FVec Ideal S4x2048x4x128 .f32 :=
  mulf (mulf Y (broadcastInDim S4x2048x4x128 ![0, 1, 2, 3] bcast_S4x2048x4x1_S4x2048x4x128_0_1_2_3 (Host.rsqrt (addf (Host.divf (broadcastInDim S4x2048x4x1 ![0, 1, 2] bcast_S4x2048x4_S4x2048x4x1_0_1_2 (Host.reduceAdd (mulf Y Y) (constant S_ .f32 0x00000000#32) reducesTo_S4x2048x4x128_S4x2048x4_d3 h_S_)) (broadcastInDim S4x2048x4x1 ![] bcast_S_S4x2048x4x1 (constant S_ .f32 0x43000000#32))) (broadcastInDim S4x2048x4x1 ![] bcast_S_S4x2048x4x1 (constant S_ .f32 0x358637BD#32)))))) (broadcastInDim S4x2048x4x128 ![0, 1, 2, 3] bcast_S1x1x1x128_S4x2048x4x128_0_1_2_3 (broadcastInDim S1x1x1x128 ![3] bcast_S128_S1x1x1x128_3 (shapeCast _ w shapeCasts_S1x128_S128)))
def classes (Y : FVec Ideal S4x2048x4x128 .f32) : FVec Ideal S4x512x4x4x128 .f32 :=
  shapeCast _ Y shapeCasts_S4x2048x4x128_S4x512x4x4x128
def tiles (Y : FVec Ideal S4x2048x4x128 .f32) : FVec Ideal S4x4x128x4x4x128 .f32 :=
  shapeCast _ Y shapeCasts_S4x2048x4x128_S4x4x128x4x4x128

/-- The 256 positions around each tile, and the tiles' biases. -/
def mid (Y : FVec Ideal S4x512x4x4x128 .f32) : FVec Ideal S4x3x128x4x4x128 .f32 :=
  shapeCast _ (extractStridedSlice S4x384x4x4x128 ![0, 64, 0, 0, 0] Y slices_S4x512x4x4x128_S4x384x4x4x128_0_64_0_0_0) shapeCasts_S4x384x4x4x128_S4x3x128x4x4x128
def inner (Y : FVec Ideal S4x512x4x4x128 .f32) : FVec Ideal S4x2x256x4x4x128 .f32 :=
  concatenate S4x2x256x4x4x128 2 [⟨S4x2x128x4x4x128, extractStridedSlice S4x2x128x4x4x128 ![0, 0, 0, 0, 0, 0] (mid Y) slices_S4x3x128x4x4x128_S4x2x128x4x4x128_0_0_0_0_0_0⟩, ⟨S4x2x128x4x4x128, extractStridedSlice S4x2x128x4x4x128 ![0, 1, 0, 0, 0, 0] (mid Y) slices_S4x3x128x4x4x128_S4x2x128x4x4x128_0_1_0_0_0_0⟩] concatenates_S4x2x128x4x4x128_S4x2x128x4x4x128_S4x2x256x4x4x128_d2
def stack (Y : FVec Ideal S4x512x4x4x128 .f32) : FVec Ideal S4x4x256x4x4x128 .f32 :=
  (concatenate S4x4x256x4x4x128 1 [⟨S4x1x256x4x4x128, ((broadcastInDim S4x1x256x4x4x128 ![0, 2, 3, 4, 5] bcast_S4x256x4x4x128_S4x1x256x4x4x128_0_2_3_4_5 (extractStridedSlice S4x256x4x4x128 ![0, 0, 0, 0, 0] Y slices_S4x512x4x4x128_S4x256x4x4x128_0_0_0_0_0)) : (⟨S4x1x256x4x4x128, .f32⟩ : BufTy).Contents (Elt Ideal))⟩, ⟨S4x2x256x4x4x128, (inner Y : (⟨S4x2x256x4x4x128, .f32⟩ : BufTy).Contents (Elt Ideal))⟩, ⟨S4x1x256x4x4x128, ((broadcastInDim S4x1x256x4x4x128 ![0, 2, 3, 4, 5] bcast_S4x256x4x4x128_S4x1x256x4x4x128_0_2_3_4_5 (extractStridedSlice S4x256x4x4x128 ![0, 256, 0, 0, 0] Y slices_S4x512x4x4x128_S4x256x4x4x128_0_256_0_0_0)) : (⟨S4x1x256x4x4x128, .f32⟩ : BufTy).Contents (Elt Ideal))⟩] concatenates_S4x1x256x4x4x128_S4x2x256x4x4x128_S4x1x256x4x4x128_S4x4x256x4x4x128_d1 : (⟨S4x4x256x4x4x128, .f32⟩ : BufTy).Contents (Elt Ideal))
def tabs (T : FVec Ideal S3x4x128x256 .f32) : FVec Ideal S4x4x128x256 .f32 :=
  (concatenate S4x4x128x256 0 [⟨S1x4x128x256, (extractStridedSlice S1x4x128x256 ![0, 0, 0, 0] T slices_S3x4x128x256_S1x4x128x256_0_0_0_0 : (⟨S1x4x128x256, .f32⟩ : BufTy).Contents (Elt Ideal))⟩, ⟨S2x4x128x256, (broadcastInDim S2x4x128x256 ![0, 1, 2, 3] bcast_S1x4x128x256_S2x4x128x256_0_1_2_3 (extractStridedSlice S1x4x128x256 ![1, 0, 0, 0] T slices_S3x4x128x256_S1x4x128x256_1_0_0_0) : (⟨S2x4x128x256, .f32⟩ : BufTy).Contents (Elt Ideal))⟩, ⟨S1x4x128x256, (extractStridedSlice S1x4x128x256 ![2, 0, 0, 0] T slices_S3x4x128x256_S1x4x128x256_2_0_0_0 : (⟨S1x4x128x256, .f32⟩ : BufTy).Contents (Elt Ideal))⟩] concatenates_S1x4x128x256_S2x4x128x256_S1x4x128x256_S4x4x128x256_d0 : (⟨S4x4x128x256, .f32⟩ : BufTy).Contents (Elt Ideal))

/-- The scores with the tiles' biases `T`. -/
def scores (Q : FVec Ideal S4x4x128x4x4x128 .f32) (K : FVec Ideal S4x4x256x4x4x128 .f32) (T : FVec Ideal S4x4x128x256 .f32) : FVec Ideal S4x4x4x4x128x256 .f32 :=
  addf (mulf (Host.dotGeneral dot_S4x4x128x4x4x128_S4x4x256x4x4x128_S4x4x4x4x128x256_5_5_2_2_0134_0134 none Q K) (broadcastInDim S4x4x4x4x128x256 ![] bcast_S_S4x4x4x4x128x256 (constant S_ .f32 0x3DB504F3#32))) (broadcastInDim S4x4x4x4x128x256 ![0, 1, 2, 3, 4, 5] bcast_S1x4x1x4x128x256_S4x4x4x4x128x256_0_1_2_3_4_5 (broadcastInDim S1x4x1x4x128x256 ![1, 3, 4, 5] bcast_S4x4x128x256_S1x4x1x4x128x256_1_3_4_5 T))

/-- The log of the sum of each row's exponentials. -/
def logs (L : FVec Ideal S4x4x4x4x128x256 .f32) : FVec Ideal S4x4x4x4x128 .f32 :=
  Host.log (Host.reduceAdd (Host.exp L) (constant S_ .f32 0x00000000#32) reducesTo_S4x4x4x4x128x256_S4x4x4x4x128_d5 h_S_)

/-- The two results from the scores, their logs and the values. -/
def resO (V : FVec Ideal S4x4x256x4x4x128 .f32) (L : FVec Ideal S4x4x4x4x128x256 .f32) (Z : FVec Ideal S4x4x4x4x128 .f32) : FVec Ideal S4x512x2048 .f32 :=
  shapeCast _ (transpose S4x4x128x4x4x128 [0, 1, 5, 2, 3, 4] (Host.dotGeneral dot_S4x4x256x4x4x128_S4x4x4x4x128x256_S4x4x4x4x128x128_2_5_5_4_0134_0123 none V (Host.exp (subf L (broadcastInDim S4x4x4x4x128x256 ![0, 1, 2, 3, 4, 5] bcast_S4x4x4x4x128x1_S4x4x4x4x128x256_0_1_2_3_4_5 (broadcastInDim S4x4x4x4x128x1 ![0, 1, 2, 3, 4] bcast_S4x4x4x4x128_S4x4x4x4x128x1_0_1_2_3_4 Z))))) transposes_S4x4x4x4x128x128_S4x4x128x4x4x128_0_1_5_2_3_4) shapeCasts_S4x4x128x4x4x128_S4x512x2048
def resL (Z : FVec Ideal S4x4x4x4x128 .f32) : FVec Ideal S4x512x2048 .f32 :=
  shapeCast _ (broadcastInDim S4x4x128x4x4x128 ![0, 1, 2, 3, 4, 5] bcast_S4x4x128x4x4x1_S4x4x128x4x4x128_0_1_2_3_4_5 (broadcastInDim S4x4x128x4x4x1 ![0, 1, 2, 3, 4] bcast_S4x4x128x4x4_S4x4x128x4x4x1_0_1_2_3_4 (transpose S4x4x128x4x4 [0, 1, 4, 2, 3] Z transposes_S4x4x4x4x128_S4x4x128x4x4_0_1_4_2_3))) shapeCasts_S4x4x128x4x4x128_S4x512x2048

theorem colsQ_eq (A : FVec Ideal S4x2048x15872 .bf16) (b : Fin 4) (s : Fin 2048) (h : Fin 4) (d : Fin 128) :
    colsQ A (ix4 b s h d) = A (ix3 b s ⟨3584 + h.val * 128 + d.val, by omega⟩) := by
  pointwise [colsQ]
  simp only [← Nat.add_assoc, Nat.reduceAdd]

theorem colsK_eq (A : FVec Ideal S4x2048x15872 .bf16) (b : Fin 4) (s : Fin 2048) (h : Fin 4) (d : Fin 128) :
    colsK A (ix4 b s h d) = A (ix3 b s ⟨5120 + h.val * 128 + d.val, by omega⟩) := by
  pointwise [colsK]
  simp only [← Nat.add_assoc, Nat.reduceAdd]

theorem colsV_eq (A : FVec Ideal S4x2048x15872 .bf16) (b : Fin 4) (s : Fin 2048) (h : Fin 4) (d : Fin 128) :
    colsV A (ix4 b s h d) = A (ix3 b s ⟨6656 + h.val * 128 + d.val, by omega⟩) := by
  pointwise [colsV]
  simp only [← Nat.add_assoc, Nat.reduceAdd]

theorem normed_eq (Y : FVec Ideal S4x2048x4x128 .f32) (w : FVec Ideal S1x128 .f32) (b : Fin 4) (s : Fin 2048) (h : Fin 4) (d : Fin 128) :
    normed Y w (ix4 b s h d) = Soft.nrm (fun e => Y (ix4 b s h e)) (fun e => w (ix2 0 e)) d := by
  pointwise [normed, Soft.nrm]

theorem classes_eq (Y : FVec Ideal S4x2048x4x128 .f32) (b : Fin 4) (r : Fin 512) (c : Fin 4) (h : Fin 4) (d : Fin 128) :
    classes Y (ix5 b r c h d) = Y (ix4 b ⟨(r.val) * 4 + c.val, by omega⟩ h d) := by
  pointwise [classes]

theorem tiles_eq (Y : FVec Ideal S4x2048x4x128 .f32) (b : Fin 4) (u : Fin 4) (r : Fin 128) (c : Fin 4) (h : Fin 4) (d : Fin 128) :
    tiles Y (ix6 b u r c h d) = Y (ix4 b ⟨(u.val * 128 + r.val) * 4 + c.val, by omega⟩ h d) := by
  pointwise [tiles]
  have e : (u.val * 128 + r.val) * 4 + c.val = u.val * 512 + r.val * 4 + c.val := by omega
  simp only [e]

theorem mid_eq (Y : FVec Ideal S4x512x4x4x128 .f32) (b : Fin 4) (u : Fin 3) (r : Fin 128) (c : Fin 4) (h : Fin 4) (d : Fin 128) :
    mid Y (ix6 b u r c h d) = Y (ix5 b ⟨64 + (u.val * 128 + r.val), by omega⟩ c h d) := by
  pointwise [mid]

theorem inner_eq (Y : FVec Ideal S4x512x4x4x128 .f32) (b : Fin 4) (u : Fin 2) (j : Fin 256) (c : Fin 4) (h : Fin 4) (d : Fin 128) :
    inner Y (ix6 b u j c h d) = Y (ix5 b ⟨64 + (u.val * 128 + j.val), by omega⟩ c h d) := by
  pointwise [inner, mid_eq]
  split_ifs <;> exact congrArg (fun s => Y (ix5 b s c h d)) (Fin.ext (by (try simp only []) <;> omega))

theorem stack_eq (Y : FVec Ideal S4x512x4x4x128 .f32) (b : Fin 4) (u : Fin 4) (j : Fin 256) (c : Fin 4) (h : Fin 4) (d : Fin 128) :
    stack Y (ix6 b u j c h d) = Y (ix5 b ⟨min (u.val * 128 - 64) 256 + j.val, by omega⟩ c h d) := by
  pointwise [stack, inner_eq]
  split_ifs <;> exact congrArg (fun s => Y (ix5 b s c h d)) (Fin.ext (by (try simp only []) <;> omega))

theorem tabs_eq (T : FVec Ideal S3x4x128x256 .f32) (u : Fin 4) (h : Fin 4) (r : Fin 128) (j : Fin 256) :
    tabs T (ix4 u h r j) = T (ix4 (Soft.near4Tile u) h r j) := by
  have e0 : u.val < 1 → Soft.near4Tile u = 0 := fun a => if_pos (by omega)
  have e1 : ¬ u.val < 1 → u.val - 1 < 2 → Soft.near4Tile u = 1 := fun a b => (if_neg (by omega)).trans (if_neg (by omega))
  have e2 : ¬ u.val < 1 → ¬ u.val - 1 < 2 → Soft.near4Tile u = 2 := fun a b => (if_neg (by omega)).trans (if_pos (by omega))
  pointwise [tabs]
  split_ifs <;> first
    | (rw [e0 (by omega)]
       exact congrArg (fun a => T (ix4 a h r j)) (Fin.ext (by show u.val = 0; omega)))
    | (rw [e1 (by omega) (by omega)]; done)
    | (rw [e1 (by omega) (by omega)]; rfl)
    | (rw [e2 (by omega) (by omega)]
       exact congrArg (fun a => T (ix4 a h r j)) (Fin.ext (by show 2 + (u.val - 1 - 2) = 2; omega)))
    | (exfalso; simp_all; done)

theorem scores_eq (Q : FVec Ideal S4x4x128x4x4x128 .f32) (K : FVec Ideal S4x4x256x4x4x128 .f32) (T : FVec Ideal S4x4x128x256 .f32) (b : Fin 4) (u : Fin 4) (c : Fin 4) (h : Fin 4) (r : Fin 128) (j : Fin 256) :
    scores Q K T (ix6 b u c h r j)
      = (∑ e, Q (ix6 b u r c h e) * K (ix6 b u j c h e)) * Ideal.ofBits .f32 0x3DB504F3#32 + T (ix4 u h r j) := by
  pointwise [scores]

theorem logs_eq (L : FVec Ideal S4x4x4x4x128x256 .f32) (b : Fin 4) (u : Fin 4) (c : Fin 4) (h : Fin 4) (r : Fin 128) :
    logs L (ix5 b u c h r) = Ideal.log (∑ j, Ideal.exp (L (ix6 b u c h r j))) := by
  have hr : Shape.Reduces S4x4x4x4x128x256 [5] S4x4x4x4x128 := by decide
  pointwise [logs]
  rw [Ideal.hostReduceAdd_single _ hr, zero_add]
  refine congrArg Ideal.log (Finset.sum_congr rfl fun k _ => ?_)
  exact congrArg (fun i => Ideal.exp (L i)) (funext fun a => Fin.ext (by fin_cases a <;> rfl))

theorem resO_eq (V : FVec Ideal S4x4x256x4x4x128 .f32) (L : FVec Ideal S4x4x4x4x128x256 .f32) (Z : FVec Ideal S4x4x4x4x128 .f32)
    (b : Fin 4) (i : Fin 512) (n : Fin 2048) :
    resO V L Z (ix3 b i n) = ∑ j, V (ix6 b ⟨i.val / 128, by omega⟩ j ⟨n.val / 512, by omega⟩ ⟨n.val / 128 % 4, by omega⟩ ⟨n.val % 128, by omega⟩)
      * Ideal.exp (L (ix6 b ⟨i.val / 128, by omega⟩ ⟨n.val / 512, by omega⟩ ⟨n.val / 128 % 4, by omega⟩ ⟨i.val % 128, by omega⟩ j)
        - Z (ix5 b ⟨i.val / 128, by omega⟩ ⟨n.val / 512, by omega⟩ ⟨n.val / 128 % 4, by omega⟩ ⟨i.val % 128, by omega⟩)) := by
  pointwise [resO]

theorem resL_eq (Z : FVec Ideal S4x4x4x4x128 .f32) (b : Fin 4) (i : Fin 512) (n : Fin 2048) :
    resL Z (ix3 b i n) = Z (ix5 b ⟨i.val / 128, by omega⟩ ⟨n.val / 512, by omega⟩ ⟨n.val / 128 % 4, by omega⟩ ⟨i.val % 128, by omega⟩) := by
  pointwise [resL]

/-- The scores of the argument arrays. -/
def all (A : FVec Ideal S4x2048x15872 .bf16) (T : FVec Ideal S3x4x128x256 .f32) (wq wk : FVec Ideal S1x128 .f32) : FVec Ideal S4x4x4x4x128x256 .f32 :=
  scores (tiles (normed (colsQ A) wq)) (stack (classes (normed (colsK A) wk))) (tabs T)

theorem all_eq (A : FVec Ideal S4x2048x15872 .bf16) (T : FVec Ideal S3x4x128x256 .f32) (wq wk : FVec Ideal S1x128 .f32)
    (b : Fin 4) (u : Fin 4) (c : Fin 4) (h : Fin 4) (r : Fin 128) (j : Fin 256) :
    all A T wq wk (ix6 b u c h r j) = Soft.near4Score (fun b r n => A (ix3 b r n)) (fun t h r j => T (ix4 t h r j)) (fun d => wq (ix2 0 d)) (fun d => wk (ix2 0 d)) b c h u r j := by
  unfold all Soft.near4Score Soft.nearScore
  rw [scores_eq]
  simp only [tiles_eq, stack_eq, tabs_eq, classes_eq, normed_eq, colsQ_eq, colsK_eq]

theorem real (A : FVec Ideal S4x2048x15872 .bf16) (T : FVec Ideal S3x4x128x256 .f32) (wq wk : FVec Ideal S1x128 .f32)
    (hT : ∀ t h r j, Soft.IsReal (T (ix4 t h r j))) (hq : ∀ d, Soft.IsReal (wq (ix2 0 d))) (hk : ∀ d, Soft.IsReal (wk (ix2 0 d)))
    (b : Fin 4) (c : Fin 4) (h : Fin 4) (u : Fin 4) (r : Fin 128) (j : Fin 256) :
    Soft.IsReal (Soft.near4Score (fun b r n => A (ix3 b r n)) (fun t h r j => T (ix4 t h r j)) (fun d => wq (ix2 0 d)) (fun d => wk (ix2 0 d)) b c h u r j) :=
  Soft.nearScore_real _ _ _ _ _ (fun _ => hT _ _ _ _) hq hk j

/-- The reference's first result at an index, for real bias and weights. -/
theorem resultO (A : FVec Ideal S4x2048x15872 .bf16) (T : FVec Ideal S3x4x128x256 .f32) (wq wk : FVec Ideal S1x128 .f32)
    (hT : ∀ t h r j, Soft.IsReal (T (ix4 t h r j))) (hq : ∀ d, Soft.IsReal (wq (ix2 0 d))) (hk : ∀ d, Soft.IsReal (wk (ix2 0 d)))
    (b : Fin 4) (i : Fin 512) (n : Fin 2048) :
    resO (stack (classes (colsV A))) (all A T wq wk) (logs (all A T wq wk)) (ix3 b i n)
      = Soft.near4O (fun b r n => A (ix3 b r n)) (fun t h r j => T (ix4 t h r j)) (fun d => wq (ix2 0 d)) (fun d => wk (ix2 0 d)) b i n := by
  rw [resO_eq]
  unfold Soft.near4O
  rw [← Soft.weigh_eq (by norm_num) _ _ fun j => real A T wq wk hT hq hk _ _ _ _ _ j]
  simp only [logs_eq, all_eq, stack_eq, classes_eq, colsV_eq]
  refine Finset.sum_congr rfl fun j _ => (mul_comm _ _).trans ?_
  have e : 6656 + n.val / 128 % 4 * 128 + n.val % 128 = 6656 + n.val % 512 := by omega
  simp only [e]

/-- The reference's second result at an index, for real bias and weights. -/
theorem resultL (A : FVec Ideal S4x2048x15872 .bf16) (T : FVec Ideal S3x4x128x256 .f32) (wq wk : FVec Ideal S1x128 .f32)
    (hT : ∀ t h r j, Soft.IsReal (T (ix4 t h r j))) (hq : ∀ d, Soft.IsReal (wq (ix2 0 d))) (hk : ∀ d, Soft.IsReal (wk (ix2 0 d)))
    (b : Fin 4) (i : Fin 512) (n : Fin 2048) :
    resL (logs (all A T wq wk)) (ix3 b i n)
      = Soft.near4L (fun b r n => A (ix3 b r n)) (fun t h r j => T (ix4 t h r j)) (fun d => wq (ix2 0 d)) (fun d => wk (ix2 0 d)) b i n := by
  rw [resL_eq]
  unfold Soft.near4L
  rw [← Soft.logSum_eq (by norm_num) _ fun j => real A T wq wk hT hq hk _ _ _ _ _ j, logs_eq]
  simp only [all_eq]

variable (m : (ℓ : Loc nD τ sig) → Buf (Elt Ideal) ℓ)

/-- The two results are these. -/
theorem first (c : Dev nD) : Value.res_main_v88 (F := Ideal) m c
    = resO (stack (classes (colsV (m ((c.tc : Thread nD τ).loc main_arg0))))) (all (m ((c.tc : Thread nD τ).loc main_arg0)) (m ((c.tc : Thread nD τ).loc main_arg1)) (m ((c.tc : Thread nD τ).loc main_arg2)) (m ((c.tc : Thread nD τ).loc main_arg3))) (logs (all (m ((c.tc : Thread nD τ).loc main_arg0)) (m ((c.tc : Thread nD τ).loc main_arg1)) (m ((c.tc : Thread nD τ).loc main_arg2)) (m ((c.tc : Thread nD τ).loc main_arg3)))) := rfl

theorem second (c : Dev nD) : Value.res_main_v89 (F := Ideal) m c
    = resL (logs (all (m ((c.tc : Thread nD τ).loc main_arg0)) (m ((c.tc : Thread nD τ).loc main_arg1)) (m ((c.tc : Thread nD τ).loc main_arg2)) (m ((c.tc : Thread nD τ).loc main_arg3)))) := rfl

end Cert.Reference11Ideal.Near

end
-- ==== Proof.Near4.lean ====
/- What the call of the group of dilation 4 leaves in its two result arrays: the reference's. -/
module

public import proofs.«01_k».proof.Proof.Gen.Kernel11Ideal.Value
public import proofs.«01_k».proof.Proof.Gen.Kernel11Ideal.Frame
public import proofs.«01_k».proof.Proof.Near4Ref
public import proofs.«01_k».proof.Proof.Gen.Pre_finite_bias11
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel11Ideal.Near

open Cert.Kernel11Ideal Cert.Kernel11Ideal.Gen

variable (m : (ℓ : Loc nD τ sig) → Buf (Elt Ideal) ℓ)

/-! ## One head of a point -/

theorem queries_eq (q : FVec Ideal S1x128x128 .bf16) (w : FVec Ideal S1x128 .f32) (r d : Fin 128) :
    k0_pay6 (F := Ideal) w q (ix2 r d) = Soft.nrm (fun e => q (ix3 0 r e)) (fun e => w (ix2 0 e)) d * Ideal.ofBits .f32 0x3DB504F3#32 := by
  pointwise [k0_pay6, Soft.nrm]

/-- One head's two results of a point, from its columns. -/
def headO (q : FVec Ideal S1x128x128 .bf16) (k v : FVec Ideal S1x256x128 .bf16) (t : FVec Ideal S1x1x128x256 .f32) (wq wk : FVec Ideal S1x128 .f32) : FVec Ideal S1x128x128 .f32 :=
  k0_pay13 wk (k0_pay6 wq q) (k0_pay7 k) (k0_pay8 k) v t
def headL (q : FVec Ideal S1x128x128 .bf16) (k : FVec Ideal S1x256x128 .bf16) (t : FVec Ideal S1x1x128x256 .f32) (wq wk : FVec Ideal S1x128 .f32) : FVec Ideal S1x128x128 .f32 :=
  k0_pay14 wk (k0_pay6 wq q) (k0_pay7 k) (k0_pay8 k) t

theorem scores_eq (w : FVec Ideal S1x128 .f32) (a : FVec Ideal S128x128 .bf16) (k : FVec Ideal S1x256x128 .bf16) (t : FVec Ideal S1x1x128x256 .f32) (r : Fin 128) (j : Fin 256) :
    k0_pay9 (F := Ideal) w a (k0_pay7 k) (k0_pay8 k) t (ix2 r j)
      = (∑ e, a (ix2 r e) * Soft.nrm (fun e => k (ix3 0 j e)) (fun e => w (ix2 0 e)) e) + t (ix4 0 0 r j) := by
  pointwise [k0_pay9, k0_pay8, k0_pay7, Soft.nrm]

theorem weights_eq (w : FVec Ideal S1x128 .f32) (a : FVec Ideal S128x128 .bf16) (x : FVec Ideal S256x128 .f32) (y : FVec Ideal S256x1 .f32) (v : FVec Ideal S1x256x128 .bf16) (t : FVec Ideal S1x1x128x256 .f32) (r d : Fin 128) :
    k0_pay13 (F := Ideal) w a x y v t (ix3 0 r d) = Soft.weigh (fun j => k0_pay9 w a x y t (ix2 r j)) (fun j => v (ix3 0 j d)) := by
  unfold Soft.weigh
  pointwise [k0_pay13, k0_pay12, k0_pay11, k0_pay10]
  simp only [Soft.neg_inf]

theorem logs_eq (w : FVec Ideal S1x128 .f32) (a : FVec Ideal S128x128 .bf16) (x : FVec Ideal S256x128 .f32) (y : FVec Ideal S256x1 .f32) (t : FVec Ideal S1x1x128x256 .f32) (r d : Fin 128) :
    k0_pay14 (F := Ideal) w a x y t (ix3 0 r d) = Soft.logSum (fun j => k0_pay9 w a x y t (ix2 r j)) := by
  unfold Soft.logSum
  pointwise [k0_pay14, k0_pay12, k0_pay11, k0_pay10]
  simp only [Soft.neg_inf]

theorem headO_eq (q : FVec Ideal S1x128x128 .bf16) (k v : FVec Ideal S1x256x128 .bf16) (t : FVec Ideal S1x1x128x256 .f32) (wq wk : FVec Ideal S1x128 .f32) (r d : Fin 128) :
    headO q k v t wq wk (ix3 0 r d) = Soft.weigh (Soft.nearScore (fun e => q (ix3 0 r e)) (fun j e => k (ix3 0 j e)) (fun j => t (ix4 0 0 r j)) (fun e => wq (ix2 0 e)) (fun e => wk (ix2 0 e))) (fun j => v (ix3 0 j d)) := by
  refine (weights_eq _ _ _ _ _ _ r d).trans (congrArg (fun l => Soft.weigh l _) (funext fun j => ?_))
  unfold Soft.nearScore
  simp only [scores_eq, queries_eq, Soft.scale_out _ _ _ Soft.pos_scale]

theorem headL_eq (q : FVec Ideal S1x128x128 .bf16) (k : FVec Ideal S1x256x128 .bf16) (t : FVec Ideal S1x1x128x256 .f32) (wq wk : FVec Ideal S1x128 .f32) (r d : Fin 128) :
    headL q k t wq wk (ix3 0 r d) = Soft.logSum (Soft.nearScore (fun e => q (ix3 0 r e)) (fun j e => k (ix3 0 j e)) (fun j => t (ix4 0 0 r j)) (fun e => wq (ix2 0 e)) (fun e => wk (ix2 0 e))) := by
  refine (logs_eq _ _ _ _ _ r d).trans (congrArg (fun l => Soft.logSum l) (funext fun j => ?_))
  unfold Soft.nearScore
  simp only [scores_eq, queries_eq, Soft.scale_out _ _ _ Soft.pos_scale]

/-! ## The other three heads' stored values are the same functions of their columns -/

theorem head1O (q : FVec Ideal S1x128x128 .bf16) (k v : FVec Ideal S1x256x128 .bf16) (t : FVec Ideal S1x1x128x256 .f32) (wq wk : FVec Ideal S1x128 .f32) :
    k0_pay23 (F := Ideal) (k0_pay17 v) (k0_pay20 wq wk (k0_pay15 q) (k0_pay16 q) k t) (k0_pay21 wq wk (k0_pay15 q) (k0_pay16 q) k t) = headO q k v t wq wk := rfl
theorem head1L (q : FVec Ideal S1x128x128 .bf16) (k : FVec Ideal S1x256x128 .bf16) (t : FVec Ideal S1x1x128x256 .f32) (wq wk : FVec Ideal S1x128 .f32) :
    k0_pay24 (F := Ideal) (k0_pay19 wq wk (k0_pay15 q) (k0_pay16 q) k t) (k0_pay21 wq wk (k0_pay15 q) (k0_pay16 q) k t) = headL q k t wq wk := rfl
theorem head2O (q : FVec Ideal S1x128x128 .bf16) (k v : FVec Ideal S1x256x128 .bf16) (t : FVec Ideal S1x1x128x256 .f32) (wq wk : FVec Ideal S1x128 .f32) :
    k0_pay32 (F := Ideal) wk (k0_pay25 wq q) (k0_pay26 k) (k0_pay27 k) (FloatOps.ofBits .f32 0x43000000#32) v t = headO q k v t wq wk := rfl
theorem head2L (q : FVec Ideal S1x128x128 .bf16) (k : FVec Ideal S1x256x128 .bf16) (t : FVec Ideal S1x1x128x256 .f32) (wq wk : FVec Ideal S1x128 .f32) :
    k0_pay33 (F := Ideal) wk (k0_pay25 wq q) (k0_pay26 k) (k0_pay27 k) (FloatOps.ofBits .f32 0x43000000#32) t = headL q k t wq wk := rfl
theorem head3O (q : FVec Ideal S1x128x128 .bf16) (k v : FVec Ideal S1x256x128 .bf16) (t : FVec Ideal S1x1x128x256 .f32) (wq wk : FVec Ideal S1x128 .f32) :
    k0_pay4 (F := Ideal) (k0_pay34 v) (k0_pay35 wq wk q k t) (k0_pay36 wq wk q k t) = headO q k v t wq wk := rfl
theorem head3L (q : FVec Ideal S1x128x128 .bf16) (k : FVec Ideal S1x256x128 .bf16) (t : FVec Ideal S1x1x128x256 .f32) (wq wk : FVec Ideal S1x128 .f32) :
    k0_pay5 (F := Ideal) (k0_pay35 wq wk q k t) (k0_pay36 wq wk q k t) = headL q k t wq wk := rfl

/-! ## The four heads side by side -/

/-- The 128 columns of a block of queries from a column on, the columns and rows of a block of keys at an offset, and
one head's bias. -/
def part (q : FVec Ideal S1x128x512 .bf16) (o : ℕ) (h : ∀ a, (![0, 0, o] : Fin 3 → Nat) a + S1x128x128.size a ≤ S1x128x512.size a) : FVec Ideal S1x128x128 .bf16 :=
  View.ld (Val := Elt Ideal) (e' := .bf16) q (Rect.unit (s := S1x128x512) ![0, 0, o] S1x128x128.size h)
def win (x : FVec Ideal S1x512x512 .bf16) (off : Fin 3 → Nat) (h : ∀ a, off a + S1x256x128.size a ≤ S1x512x512.size a) : FVec Ideal S1x256x128 .bf16 :=
  View.ld (Val := Elt Ideal) (e' := .bf16) x (Rect.unit (s := S1x512x512) off S1x256x128.size h)
def tab (t : FVec Ideal S1x4x128x256 .f32) (o : ℕ) (h : ∀ a, (![0, o, 0, 0] : Fin 4 → Nat) a + S1x1x128x256.size a ≤ S1x4x128x256.size a) : FVec Ideal S1x1x128x256 .f32 :=
  View.ld (Val := Elt Ideal) (e' := .f32) t (Rect.unit (s := S1x4x128x256) ![0, o, 0, 0] S1x1x128x256.size h)

/-- Where the keys of a point's tile start, for each head. -/
theorem offs : ∀ t : Fin cfg0.N, k0_off1 (grid0.coords t) = ![0, min (t.val % 4 * 128 - 64) 256, 0]
    ∧ k0_off2 (grid0.coords t) = ![0, min (t.val % 4 * 128 - 64) 256, 128]
    ∧ k0_off3 (grid0.coords t) = ![0, min (t.val % 4 * 128 - 64) 256, 256]
    ∧ k0_off4 (grid0.coords t) = ![0, min (t.val % 4 * 128 - 64) 256, 384] :=
  (by decide +kernel : ∀ t : Fin grid0.N, _)

theorem win_at (x : FVec Ideal S1x512x512 .bf16) (off : Fin 3 → ℕ) (s : ℕ) (h : Fin 4) (e : off = ![0, s, h.val * 128]) (hb) (hs : s ≤ 256) (a : Fin 256) (d : Fin 128) :
    win x off hb (ix3 0 a d) = x (ix3 0 ⟨s + a.val, by omega⟩ ⟨h.val * 128 + d.val, by omega⟩) := by
  subst e
  pointwise [win]

/-- The first result of a point, as its four stores leave it. -/
def tileO (p : Fin cfg0.N) (q : FVec Ideal S1x128x512 .bf16) (k v : FVec Ideal S1x512x512 .bf16) (t : FVec Ideal S1x4x128x256 .f32) (wq wk : FVec Ideal S1x128 .f32) : FVec Ideal S1x128x512 .f32 :=
  View.canon
    [(⟨Rect.unit ![0, 0, 384] ![1, 128, 128] inb_S1x128x512_S1x128x128_0_0_384, headO (part q 384 inb_S1x128x512_S1x128x128_0_0_384) (win k (k0_off4 (grid0.coords p)) (k0_off4_inb _)) (win v (k0_off4 (grid0.coords p)) (k0_off4_inb _)) (tab t 3 inb_S1x4x128x256_S1x1x128x256_0_3_0_0) wq wk⟩ : View.Piece (Elt Ideal) S1x128x512 .f32),
     ⟨Rect.unit ![0, 0, 256] ![1, 128, 128] inb_S1x128x512_S1x128x128_0_0_256, headO (part q 256 inb_S1x128x512_S1x128x128_0_0_256) (win k (k0_off3 (grid0.coords p)) (k0_off3_inb _)) (win v (k0_off3 (grid0.coords p)) (k0_off3_inb _)) (tab t 2 inb_S1x4x128x256_S1x1x128x256_0_2_0_0) wq wk⟩,
     ⟨Rect.unit ![0, 0, 128] ![1, 128, 128] inb_S1x128x512_S1x128x128_0_0_128, headO (part q 128 inb_S1x128x512_S1x128x128_0_0_128) (win k (k0_off2 (grid0.coords p)) (k0_off2_inb _)) (win v (k0_off2 (grid0.coords p)) (k0_off2_inb _)) (tab t 1 inb_S1x4x128x256_S1x1x128x256_0_1_0_0) wq wk⟩,
     ⟨Rect.unit ![0, 0, 0] ![1, 128, 128] inb_S1x128x512_S1x128x128_0_0_0, headO (part q 0 inb_S1x128x512_S1x128x128_0_0_0) (win k (k0_off1 (grid0.coords p)) (k0_off1_inb _)) (win v (k0_off1 (grid0.coords p)) (k0_off1_inb _)) (tab t 0 inb_S1x4x128x256_S1x1x128x256_0_0_0_0) wq wk⟩]

/-- The second result of a point, as its four stores leave it. -/
def tileL (p : Fin cfg0.N) (q : FVec Ideal S1x128x512 .bf16) (k : FVec Ideal S1x512x512 .bf16) (t : FVec Ideal S1x4x128x256 .f32) (wq wk : FVec Ideal S1x128 .f32) : FVec Ideal S1x128x512 .f32 :=
  View.canon
    [(⟨Rect.unit ![0, 0, 384] ![1, 128, 128] inb_S1x128x512_S1x128x128_0_0_384, headL (part q 384 inb_S1x128x512_S1x128x128_0_0_384) (win k (k0_off4 (grid0.coords p)) (k0_off4_inb _)) (tab t 3 inb_S1x4x128x256_S1x1x128x256_0_3_0_0) wq wk⟩ : View.Piece (Elt Ideal) S1x128x512 .f32),
     ⟨Rect.unit ![0, 0, 256] ![1, 128, 128] inb_S1x128x512_S1x128x128_0_0_256, headL (part q 256 inb_S1x128x512_S1x128x128_0_0_256) (win k (k0_off3 (grid0.coords p)) (k0_off3_inb _)) (tab t 2 inb_S1x4x128x256_S1x1x128x256_0_2_0_0) wq wk⟩,
     ⟨Rect.unit ![0, 0, 128] ![1, 128, 128] inb_S1x128x512_S1x128x128_0_0_128, headL (part q 128 inb_S1x128x512_S1x128x128_0_0_128) (win k (k0_off2 (grid0.coords p)) (k0_off2_inb _)) (tab t 1 inb_S1x4x128x256_S1x1x128x256_0_1_0_0) wq wk⟩,
     ⟨Rect.unit ![0, 0, 0] ![1, 128, 128] inb_S1x128x512_S1x128x128_0_0_0, headL (part q 0 inb_S1x128x512_S1x128x128_0_0_0) (win k (k0_off1 (grid0.coords p)) (k0_off1_inb _)) (tab t 0 inb_S1x4x128x256_S1x1x128x256_0_0_0_0) wq wk⟩]

/-- An index of a head's columns, from the column in the block. -/
theorem place_in (o : ℕ) (ho : o % 128 = 0) (r : Fin 128) (n : Fin 512) (x : S1x128x128.Idx)
    (h1 : r.val = (x 1).val) (h2 : n.val = o + (x 2).val) (h2l : (x 2).val < 128) :
    o = n.val / 128 * 128 ∧ x = ix3 (0 : Fin 1) r (⟨n.val % 128, by omega⟩ : Fin 128) := by
  obtain rfl : r = x 1 := Fin.ext h1
  have e2 : x 2 = (⟨n.val % 128, by omega⟩ : Fin 128) := Fin.ext (by show (x 2).val = n.val % 128; omega)
  refine ⟨by omega, ?_⟩
  rw [← e2]
  exact (eq_ix3 x).trans (congrArg (fun a => ix3 a (x 1) (x 2)) (Subsingleton.elim (α := Fin 1) _ _))

theorem headO_of (q : FVec Ideal S1x128x512 .bf16) (k v : FVec Ideal S1x512x512 .bf16) (t : FVec Ideal S1x4x128x256 .f32) (wq wk : FVec Ideal S1x128 .f32) (q' : FVec Ideal S1x128x128 .bf16) (k' v' : FVec Ideal S1x256x128 .bf16) (t' : FVec Ideal S1x1x128x256 .f32) (h : Fin 4) (s : ℕ) (hs : s ≤ 256) (r : Fin 128) (n : Fin 512) (x : S1x128x128.Idx)
    (hq : ∀ (a e : Fin 128), q' (ix3 0 a e) = q (ix3 0 a ⟨h.val * 128 + e.val, by omega⟩))
    (hk : ∀ (a : Fin 256) (e : Fin 128), k' (ix3 0 a e) = k (ix3 0 ⟨s + a.val, by omega⟩ ⟨h.val * 128 + e.val, by omega⟩))
    (hv : ∀ (a : Fin 256) (e : Fin 128), v' (ix3 0 a e) = v (ix3 0 ⟨s + a.val, by omega⟩ ⟨h.val * 128 + e.val, by omega⟩))
    (ht : ∀ (a : Fin 128) (e : Fin 256), t' (ix4 0 0 a e) = t (ix4 0 h a e))
    (h1 : r.val = (x 1).val) (h2 : n.val = h.val * 128 + (x 2).val) (h2l : (x 2).val < 128) :
    headO q' k' v' t' wq wk x = Soft.weigh (Soft.nearScore (fun e => q (ix3 0 r ⟨n.val / 128 * 128 + e.val, by omega⟩)) (fun j e => k (ix3 0 ⟨s + j.val, by omega⟩ ⟨n.val / 128 * 128 + e.val, by omega⟩)) (fun j => t (ix4 0 ⟨n.val / 128, by omega⟩ r j)) (fun e => wq (ix2 0 e)) (fun e => wk (ix2 0 e))) (fun j => v (ix3 0 ⟨s + j.val, by omega⟩ n)) := by
  obtain ⟨eo, ex⟩ := place_in (h.val * 128) (by omega) r n x h1 h2 h2l
  have eh : h = ⟨n.val / 128, by omega⟩ := Fin.ext (by show h.val = n.val / 128; omega)
  have et : ∀ a e, t (ix4 0 h a e) = t (ix4 0 ⟨n.val / 128, by omega⟩ a e) := fun a e => congrArg (fun h => t (ix4 0 h a e)) eh
  refine (congrArg (headO q' k' v' t' wq wk) ex).trans ((headO_eq q' k' v' t' wq wk _ _).trans ?_)
  have en : (⟨n.val / 128 * 128 + n.val % 128, by omega⟩ : Fin 512) = n := Fin.ext (by show n.val / 128 * 128 + n.val % 128 = n.val; omega)
  simp only [hq, hk, hv, ht, eo, en, et]

theorem headL_of (q : FVec Ideal S1x128x512 .bf16) (k : FVec Ideal S1x512x512 .bf16) (t : FVec Ideal S1x4x128x256 .f32) (wq wk : FVec Ideal S1x128 .f32) (q' : FVec Ideal S1x128x128 .bf16) (k' : FVec Ideal S1x256x128 .bf16) (t' : FVec Ideal S1x1x128x256 .f32) (h : Fin 4) (s : ℕ) (hs : s ≤ 256) (r : Fin 128) (n : Fin 512) (x : S1x128x128.Idx)
    (hq : ∀ (a e : Fin 128), q' (ix3 0 a e) = q (ix3 0 a ⟨h.val * 128 + e.val, by omega⟩))
    (hk : ∀ (a : Fin 256) (e : Fin 128), k' (ix3 0 a e) = k (ix3 0 ⟨s + a.val, by omega⟩ ⟨h.val * 128 + e.val, by omega⟩))
    (ht : ∀ (a : Fin 128) (e : Fin 256), t' (ix4 0 0 a e) = t (ix4 0 h a e))
    (h1 : r.val = (x 1).val) (h2 : n.val = h.val * 128 + (x 2).val) (h2l : (x 2).val < 128) :
    headL q' k' t' wq wk x = Soft.logSum (Soft.nearScore (fun e => q (ix3 0 r ⟨n.val / 128 * 128 + e.val, by omega⟩)) (fun j e => k (ix3 0 ⟨s + j.val, by omega⟩ ⟨n.val / 128 * 128 + e.val, by omega⟩)) (fun j => t (ix4 0 ⟨n.val / 128, by omega⟩ r j)) (fun e => wq (ix2 0 e)) (fun e => wk (ix2 0 e))) := by
  obtain ⟨eo, ex⟩ := place_in (h.val * 128) (by omega) r n x h1 h2 h2l
  have eh : h = ⟨n.val / 128, by omega⟩ := Fin.ext (by show h.val = n.val / 128; omega)
  have et : ∀ a e, t (ix4 0 h a e) = t (ix4 0 ⟨n.val / 128, by omega⟩ a e) := fun a e => congrArg (fun h => t (ix4 0 h a e)) eh
  refine (congrArg (headL q' k' t' wq wk) ex).trans ((headL_eq q' k' t' wq wk _ _).trans ?_)
  simp only [hq, hk, ht, eo, et]

theorem tileO_eq (p : Fin cfg0.N) (q : FVec Ideal S1x128x512 .bf16) (k v : FVec Ideal S1x512x512 .bf16) (t : FVec Ideal S1x4x128x256 .f32) (wq wk : FVec Ideal S1x128 .f32) (s : ℕ) (es : s = min (p.val % 4 * 128 - 64) 256) (hs : s ≤ 256) (r : Fin 128) (n : Fin 512) :
    tileO p q k v t wq wk (ix3 0 r n) = Soft.weigh (Soft.nearScore (fun e => q (ix3 0 r ⟨n.val / 128 * 128 + e.val, by omega⟩)) (fun j e => k (ix3 0 ⟨s + j.val, by omega⟩ ⟨n.val / 128 * 128 + e.val, by omega⟩)) (fun j => t (ix4 0 ⟨n.val / 128, by omega⟩ r j)) (fun e => wq (ix2 0 e)) (fun e => wk (ix2 0 e))) (fun j => v (ix3 0 ⟨s + j.val, by omega⟩ n)) := by
  unfold tileO
  have e1 : k0_off1 (grid0.coords p) = ![0, s, (0 : Fin 4).val * 128] := es ▸ (offs p).1
  have e2 : k0_off2 (grid0.coords p) = ![0, s, (1 : Fin 4).val * 128] := es ▸ (offs p).2.1
  have e3 : k0_off3 (grid0.coords p) = ![0, s, (2 : Fin 4).val * 128] := es ▸ (offs p).2.2.1
  have e4 : k0_off4 (grid0.coords p) = ![0, s, (3 : Fin 4).val * 128] := es ▸ (offs p).2.2.2
  canon_tiles x h
  · exact headO_of q k v t wq wk _ _ _ _ 3 s hs r n x (fun a e => by pointwise [part])
      (fun a e => win_at k _ s 3 e4 (k0_off4_inb _) hs a e) (fun a e => win_at v _ s 3 e4 (k0_off4_inb _) hs a e) (fun a e => by pointwise [tab]) h1 h2 x2_lt
  · exact headO_of q k v t wq wk _ _ _ _ 2 s hs r n x (fun a e => by pointwise [part])
      (fun a e => win_at k _ s 2 e3 (k0_off3_inb _) hs a e) (fun a e => win_at v _ s 2 e3 (k0_off3_inb _) hs a e) (fun a e => by pointwise [tab]) h1 h2 x2_lt
  · exact headO_of q k v t wq wk _ _ _ _ 1 s hs r n x (fun a e => by pointwise [part])
      (fun a e => win_at k _ s 1 e2 (k0_off2_inb _) hs a e) (fun a e => win_at v _ s 1 e2 (k0_off2_inb _) hs a e) (fun a e => by pointwise [tab]) h1 h2 x2_lt
  · exact headO_of q k v t wq wk _ _ _ _ 0 s hs r n x (fun a e => by pointwise [part])
      (fun a e => win_at k _ s 0 e1 (k0_off1_inb _) hs a e) (fun a e => win_at v _ s 0 e1 (k0_off1_inb _) hs a e) (fun a e => by pointwise [tab]) h1 (h2.trans (Nat.zero_add _).symm) x2_lt

theorem tileL_eq (p : Fin cfg0.N) (q : FVec Ideal S1x128x512 .bf16) (k : FVec Ideal S1x512x512 .bf16) (t : FVec Ideal S1x4x128x256 .f32) (wq wk : FVec Ideal S1x128 .f32) (s : ℕ) (es : s = min (p.val % 4 * 128 - 64) 256) (hs : s ≤ 256) (r : Fin 128) (n : Fin 512) :
    tileL p q k t wq wk (ix3 0 r n) = Soft.logSum (Soft.nearScore (fun e => q (ix3 0 r ⟨n.val / 128 * 128 + e.val, by omega⟩)) (fun j e => k (ix3 0 ⟨s + j.val, by omega⟩ ⟨n.val / 128 * 128 + e.val, by omega⟩)) (fun j => t (ix4 0 ⟨n.val / 128, by omega⟩ r j)) (fun e => wq (ix2 0 e)) (fun e => wk (ix2 0 e))) := by
  unfold tileL
  have e1 : k0_off1 (grid0.coords p) = ![0, s, (0 : Fin 4).val * 128] := es ▸ (offs p).1
  have e2 : k0_off2 (grid0.coords p) = ![0, s, (1 : Fin 4).val * 128] := es ▸ (offs p).2.1
  have e3 : k0_off3 (grid0.coords p) = ![0, s, (2 : Fin 4).val * 128] := es ▸ (offs p).2.2.1
  have e4 : k0_off4 (grid0.coords p) = ![0, s, (3 : Fin 4).val * 128] := es ▸ (offs p).2.2.2
  canon_tiles x h
  · exact headL_of q k t wq wk _ _ _ 3 s hs r n x (fun a e => by pointwise [part])
      (fun a e => win_at k _ s 3 e4 (k0_off4_inb _) hs a e)  (fun a e => by pointwise [tab]) h1 h2 x2_lt
  · exact headL_of q k t wq wk _ _ _ 2 s hs r n x (fun a e => by pointwise [part])
      (fun a e => win_at k _ s 2 e3 (k0_off3_inb _) hs a e)  (fun a e => by pointwise [tab]) h1 h2 x2_lt
  · exact headL_of q k t wq wk _ _ _ 1 s hs r n x (fun a e => by pointwise [part])
      (fun a e => win_at k _ s 1 e2 (k0_off2_inb _) hs a e)  (fun a e => by pointwise [tab]) h1 h2 x2_lt
  · exact headL_of q k t wq wk _ _ _ 0 s hs r n x (fun a e => by pointwise [part])
      (fun a e => win_at k _ s 0 e1 (k0_off1_inb _) hs a e)  (fun a e => by pointwise [tab]) h1 (h2.trans (Nat.zero_add _).symm) x2_lt

/-- What a point leaves in the first result's buffer, from the blocks it reads. -/
theorem leftO (c : Dev nD) (t : Fin cfg0.N) : (outsAt0 m c t).1
    = tileO t (iblk m c 0 t) (iblk m c 1 t) (iblk m c 2 t) (iblk m c 3 t) (iblk m c 4 t) (iblk m c 5 t) := by
  frame_out
  simp only [head1O, head2O, head3O]
  rfl

/-- What a point leaves in the second result's buffer, from the blocks it reads. -/
theorem leftL (c : Dev nD) (t : Fin cfg0.N) : (outsAt0 m c t).2
    = tileL t (iblk m c 0 t) (iblk m c 1 t) (iblk m c 3 t) (iblk m c 4 t) (iblk m c 5 t) := by
  frame_out
  simp only [head1L, head2L, head3L]
  rfl

/-- The windows' block indices at a point. -/
theorem idx : ∀ t : Fin cfg0.N, win0_0.index t = ![t.val / 16, t.val % 4, t.val / 4 % 4 * 31 + 7]
    ∧ win0_1.index t = ![t.val / 16, 0, t.val / 4 % 4 * 31 + 10] ∧ win0_2.index t = ![t.val / 16, 0, t.val / 4 % 4 * 31 + 13]
    ∧ win0_3.index t = ![(Soft.near4Tile ⟨t.val % 4, Nat.mod_lt _ (by decide)⟩).val, 0, 0, 0] ∧ win0_4.index t = ![0, 0] ∧ win0_5.index t = ![0, 0]
    ∧ win0_6.index t = ![t.val / 16, t.val % 4, t.val / 4 % 4] ∧ win0_7.index t = ![t.val / 16, t.val % 4, t.val / 4 % 4] :=
  (by decide +kernel : ∀ t : Fin grid0.N, _)

theorem lt_t (t : Fin cfg0.N) : t.val < 64 := lt_of_lt_of_eq t.isLt N_0

/-- The projection with each residue class's positions side by side. -/
theorem V_cls (c : Dev nD) : V m c main_v0
    = (shapeCast S4x512x63488 (m ((c : Thread nD τ).loc main_arg0) : FVec Ideal S4x2048x15872 .bf16) shapeCasts_S4x2048x15872_S4x512x63488) := by
  unfold_abbrev_sides
  after_results_simp <;> rfl

theorem cls_eq (A : FVec Ideal S4x2048x15872 .bf16) (b : Fin 4) (r : Fin 512) (c : Fin 4) (n : Fin 15872) :
    shapeCast S4x512x63488 A shapeCasts_S4x2048x15872_S4x512x63488 (ix3 b r ⟨c.val * 15872 + n.val, by omega⟩)
      = A (ix3 b ⟨r.val * 4 + c.val, by omega⟩ n) := by
  pointwise []
  have e : (c.val * 15872 + n.val) / 15872 = c.val := by omega
  simp only [e]

theorem blk_q (c : Dev nD) (t : Fin cfg0.N) (r : Fin 128) (n : Fin 512) : iblk m c 0 t (ix3 0 r n)
    = m ((c : Thread nD τ).loc main_arg0) (ix3 (⟨t.val / 16, by have := lt_t t; omega⟩ : Fin 4)
        (⟨(t.val % 4 * 128 + r.val) * 4 + t.val / 4 % 4, by omega⟩ : Fin 2048) (⟨3584 + n.val, by omega⟩ : Fin 15872)) := by
  refine Eq.trans ?_ (cls_eq _ ⟨t.val / 16, by have := lt_t t; omega⟩ ⟨t.val % 4 * 128 + r.val, by omega⟩ ⟨t.val / 4 % 4, by omega⟩ ⟨3584 + n.val, by omega⟩)
  rw [← V_cls m c]
  blk_point [iblk, idx t]

theorem blk_k (c : Dev nD) (t : Fin cfg0.N) (r : Fin 512) (n : Fin 512) : iblk m c 1 t (ix3 0 r n)
    = m ((c : Thread nD τ).loc main_arg0) (ix3 (⟨t.val / 16, by have := lt_t t; omega⟩ : Fin 4)
        (⟨(r.val) * 4 + t.val / 4 % 4, by omega⟩ : Fin 2048) (⟨5120 + n.val, by omega⟩ : Fin 15872)) := by
  refine Eq.trans ?_ (cls_eq _ ⟨t.val / 16, by have := lt_t t; omega⟩ ⟨r.val, by omega⟩ ⟨t.val / 4 % 4, by omega⟩ ⟨5120 + n.val, by omega⟩)
  rw [← V_cls m c]
  blk_point [iblk, idx t]

theorem blk_v (c : Dev nD) (t : Fin cfg0.N) (r : Fin 512) (n : Fin 512) : iblk m c 2 t (ix3 0 r n)
    = m ((c : Thread nD τ).loc main_arg0) (ix3 (⟨t.val / 16, by have := lt_t t; omega⟩ : Fin 4)
        (⟨(r.val) * 4 + t.val / 4 % 4, by omega⟩ : Fin 2048) (⟨6656 + n.val, by omega⟩ : Fin 15872)) := by
  refine Eq.trans ?_ (cls_eq _ ⟨t.val / 16, by have := lt_t t; omega⟩ ⟨r.val, by omega⟩ ⟨t.val / 4 % 4, by omega⟩ ⟨6656 + n.val, by omega⟩)
  rw [← V_cls m c]
  blk_point [iblk, idx t]

theorem blk_t (c : Dev nD) (t : Fin cfg0.N) (h : Fin 4) (r : Fin 128) (j : Fin 256) : iblk m c 3 t (ix4 0 h r j)
    = m ((c : Thread nD τ).loc main_arg1) (ix4 (Soft.near4Tile ⟨t.val % 4, Nat.mod_lt _ (by decide)⟩) h r j) := by
  rw [← V_main_arg1 m c]
  blk_point [iblk, idx t]

theorem blk_wq (c : Dev nD) (t : Fin cfg0.N) (d : Fin 128) : iblk m c 4 t (ix2 0 d)
    = m ((c : Thread nD τ).loc main_arg2) (ix2 (0 : Fin 1) d) := by
  rw [← V_main_arg2 m c]
  blk_point [iblk, idx t]

theorem blk_wk (c : Dev nD) (t : Fin cfg0.N) (d : Fin 128) : iblk m c 5 t (ix2 0 d)
    = m ((c : Thread nD τ).loc main_arg3) (ix2 (0 : Fin 1) d) := by
  rw [← V_main_arg3 m c]
  blk_point [iblk, idx t]

/-- An index of a block is three coordinates, the first of them zero. -/
theorem coords (y : S1x128x512.Idx) : ∃ (r : Fin 128) (n : Fin 512), y = ix3 0 r n := ⟨y 1, y 2, (eq_ix3 y).trans
    (congrArg (fun a => ix3 a (y 1) (y 2)) (Subsingleton.elim (α := Fin 1) _ _))⟩

/-- The first result as an array, from the four argument arrays. -/
def REFO (A : FVec Ideal S4x2048x15872 .bf16) (T : FVec Ideal S3x4x128x256 .f32) (wq wk : FVec Ideal S1x128 .f32) : FVec Ideal S4x512x2048 .f32 :=
  fun i => Soft.near4O (fun b r n => A (ix3 b r n)) (fun t h r j => T (ix4 t h r j)) (fun d => wq (ix2 0 d)) (fun d => wk (ix2 0 d)) (i 0) (i 1) (i 2)

theorem REFO_at (A : FVec Ideal S4x2048x15872 .bf16) (T : FVec Ideal S3x4x128x256 .f32) (wq wk : FVec Ideal S1x128 .f32)
    (b : Fin 4) (r : Fin 512) (n : Fin 2048) : REFO A T wq wk (ix3 b r n) = Soft.near4O (fun b r n => A (ix3 b r n)) (fun t h r j => T (ix4 t h r j)) (fun d => wq (ix2 0 d)) (fun d => wk (ix2 0 d)) b r n := rfl

/-- One point's values are the result's at the place of its block. -/
theorem pointO (c : Dev nD) (t : Fin cfg0.N) (r : Fin 128) (n : Fin 512) :
    tileO t (iblk m c 0 t) (iblk m c 1 t) (iblk m c 2 t) (iblk m c 3 t) (iblk m c 4 t) (iblk m c 5 t) (ix3 0 r n)
      = Soft.near4O (fun b r n => m ((c : Thread nD τ).loc main_arg0) (ix3 b r n)) (fun t h r j => m ((c : Thread nD τ).loc main_arg1) (ix4 t h r j)) (fun d => m ((c : Thread nD τ).loc main_arg2) (ix2 0 d)) (fun d => m ((c : Thread nD τ).loc main_arg3) (ix2 0 d)) ⟨t.val / 16, by have := lt_t t; omega⟩ ⟨t.val % 4 * 128 + r.val, by omega⟩ ⟨t.val / 4 % 4 * 512 + n.val, by omega⟩ := by
  rw [tileO_eq t _ _ _ _ _ _ _ rfl (Nat.min_le_right _ _)]
  have a1 : (t.val / 4 % 4 * 512 + n.val) / 512 = t.val / 4 % 4 := by omega
  have a2 : (t.val / 4 % 4 * 512 + n.val) / 128 % 4 = n.val / 128 := by omega
  have a3 : (t.val / 4 % 4 * 512 + n.val) % 512 = n.val := by omega
  have a4 : (t.val % 4 * 128 + r.val) / 128 = t.val % 4 := by omega
  have a5 : (t.val % 4 * 128 + r.val) % 128 = r.val := by omega
  unfold Soft.near4O Soft.near4Score
  simp only [blk_q, blk_k, blk_v, blk_t, blk_wq, blk_wk, a1, a2, a3, a4, a5, Nat.add_assoc]

theorem placeO (t : Fin cfg0.N) (r : Fin 128) (n : Fin 512) : ((cfg0.win 6).blk t).view.emb (ix3 0 r n)
      = ix3 (⟨t.val / 16, by have := lt_t t; omega⟩ : Fin 4) (⟨t.val % 4 * 128 + r.val, by omega⟩ : Fin 512) (⟨t.val / 4 % 4 * 512 + n.val, by omega⟩ : Fin 2048) := by
  blk_point [idx t]

theorem agreesO (c : Dev nD) (t : Fin cfg0.N) (y : S1x128x512.Idx) :
    tileO t (iblk m c 0 t) (iblk m c 1 t) (iblk m c 2 t) (iblk m c 3 t) (iblk m c 4 t) (iblk m c 5 t) y
      = REFO (m ((c : Thread nD τ).loc main_arg0)) (m ((c : Thread nD τ).loc main_arg1)) (m ((c : Thread nD τ).loc main_arg2)) (m ((c : Thread nD τ).loc main_arg3)) (((cfg0.win 6).blk t).view.emb y) := by
  obtain ⟨r, n, rfl⟩ := coords y
  exact (pointO m c t r n).trans ((REFO_at _ _ _ _ _ _ _).symm.trans (congrArg (REFO _ _ _ _) (placeO t r n).symm))

/-- The first result array after the run. -/
theorem finalO (c : Dev nD) : (dats m 0 c).arrAt 6 (cfgs 0).N = REFO (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6, leftO]
  exact agreesO m c t y

/-- The second result as an array, from the four argument arrays. -/
def REFL (A : FVec Ideal S4x2048x15872 .bf16) (T : FVec Ideal S3x4x128x256 .f32) (wq wk : FVec Ideal S1x128 .f32) : FVec Ideal S4x512x2048 .f32 :=
  fun i => Soft.near4L (fun b r n => A (ix3 b r n)) (fun t h r j => T (ix4 t h r j)) (fun d => wq (ix2 0 d)) (fun d => wk (ix2 0 d)) (i 0) (i 1) (i 2)

theorem REFL_at (A : FVec Ideal S4x2048x15872 .bf16) (T : FVec Ideal S3x4x128x256 .f32) (wq wk : FVec Ideal S1x128 .f32)
    (b : Fin 4) (r : Fin 512) (n : Fin 2048) : REFL A T wq wk (ix3 b r n) = Soft.near4L (fun b r n => A (ix3 b r n)) (fun t h r j => T (ix4 t h r j)) (fun d => wq (ix2 0 d)) (fun d => wk (ix2 0 d)) b r n := rfl

/-- One point's values are the result's at the place of its block. -/
theorem pointL (c : Dev nD) (t : Fin cfg0.N) (r : Fin 128) (n : Fin 512) :
    tileL t (iblk m c 0 t) (iblk m c 1 t) (iblk m c 3 t) (iblk m c 4 t) (iblk m c 5 t) (ix3 0 r n)
      = Soft.near4L (fun b r n => m ((c : Thread nD τ).loc main_arg0) (ix3 b r n)) (fun t h r j => m ((c : Thread nD τ).loc main_arg1) (ix4 t h r j)) (fun d => m ((c : Thread nD τ).loc main_arg2) (ix2 0 d)) (fun d => m ((c : Thread nD τ).loc main_arg3) (ix2 0 d)) ⟨t.val / 16, by have := lt_t t; omega⟩ ⟨t.val % 4 * 128 + r.val, by omega⟩ ⟨t.val / 4 % 4 * 512 + n.val, by omega⟩ := by
  rw [tileL_eq t _ _ _ _ _ _ rfl (Nat.min_le_right _ _)]
  have a1 : (t.val / 4 % 4 * 512 + n.val) / 512 = t.val / 4 % 4 := by omega
  have a2 : (t.val / 4 % 4 * 512 + n.val) / 128 % 4 = n.val / 128 := by omega
  have a3 : (t.val / 4 % 4 * 512 + n.val) % 512 = n.val := by omega
  have a4 : (t.val % 4 * 128 + r.val) / 128 = t.val % 4 := by omega
  have a5 : (t.val % 4 * 128 + r.val) % 128 = r.val := by omega
  unfold Soft.near4L Soft.near4Score
  simp only [blk_q, blk_k, blk_t, blk_wq, blk_wk, a1, a2, a4, a5, Nat.add_assoc]

theorem placeL (t : Fin cfg0.N) (r : Fin 128) (n : Fin 512) : ((cfg0.win 7).blk t).view.emb (ix3 0 r n)
      = ix3 (⟨t.val / 16, by have := lt_t t; omega⟩ : Fin 4) (⟨t.val % 4 * 128 + r.val, by omega⟩ : Fin 512) (⟨t.val / 4 % 4 * 512 + n.val, by omega⟩ : Fin 2048) := by
  blk_point [idx t]

theorem agreesL (c : Dev nD) (t : Fin cfg0.N) (y : S1x128x512.Idx) :
    tileL t (iblk m c 0 t) (iblk m c 1 t) (iblk m c 3 t) (iblk m c 4 t) (iblk m c 5 t) y
      = REFL (m ((c : Thread nD τ).loc main_arg0)) (m ((c : Thread nD τ).loc main_arg1)) (m ((c : Thread nD τ).loc main_arg2)) (m ((c : Thread nD τ).loc main_arg3)) (((cfg0.win 7).blk t).view.emb y) := by
  obtain ⟨r, n, rfl⟩ := coords y
  exact (pointL m c t r n).trans ((REFL_at _ _ _ _ _ _ _).symm.trans (congrArg (REFL _ _ _ _) (placeL t r n).symm))

/-- The second result array after the run. -/
theorem finalL (c : Dev nD) : (dats m 0 c).arrAt 7 (cfgs 0).N = REFL (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7, leftL]
  exact agreesL m c t y

/-- The reference's two results from its argument arrays, for real bias and weights. -/
theorem referenceO (A : FVec Ideal S4x2048x15872 .bf16) (T : FVec Ideal S3x4x128x256 .f32) (wq wk : FVec Ideal S1x128 .f32)
    (hT : ∀ t h r j, Soft.IsReal (T (ix4 t h r j))) (hq : ∀ d, Soft.IsReal (wq (ix2 0 d))) (hk : ∀ d, Soft.IsReal (wk (ix2 0 d))) :
    Cert.Reference11Ideal.Near.resO (Cert.Reference11Ideal.Near.stack (Cert.Reference11Ideal.Near.classes (Cert.Reference11Ideal.Near.colsV A))) (Cert.Reference11Ideal.Near.all A T wq wk) (Cert.Reference11Ideal.Near.logs (Cert.Reference11Ideal.Near.all A T wq wk)) = REFO A T wq wk := by
  funext i
  obtain ⟨b, r, n, rfl⟩ : ∃ (b : Fin 4) (r : Fin 512) (n : Fin 2048), i = ix3 b r n := ⟨i 0, i 1, i 2, eq_ix3 i⟩
  exact (Cert.Reference11Ideal.Near.resultO A T wq wk hT hq hk b r n).trans (REFO_at _ _ _ _ _ _ _).symm

theorem referenceL (A : FVec Ideal S4x2048x15872 .bf16) (T : FVec Ideal S3x4x128x256 .f32) (wq wk : FVec Ideal S1x128 .f32)
    (hT : ∀ t h r j, Soft.IsReal (T (ix4 t h r j))) (hq : ∀ d, Soft.IsReal (wq (ix2 0 d))) (hk : ∀ d, Soft.IsReal (wk (ix2 0 d))) :
    Cert.Reference11Ideal.Near.resL (Cert.Reference11Ideal.Near.logs (Cert.Reference11Ideal.Near.all A T wq wk)) = REFL A T wq wk := by
  funext i
  obtain ⟨b, r, n, rfl⟩ : ∃ (b : Fin 4) (r : Fin 512) (n : Fin 2048), i = ix3 b r n := ⟨i 0, i 1, i 2, eq_ix3 i⟩
  exact (Cert.Reference11Ideal.Near.resultL A T wq wk hT hq hk b r n).trans (REFL_at _ _ _ _ _ _ _).symm

/-- The statement's condition makes the bias and the two weights real. -/
theorem reals (A : FVec Ideal S4x2048x15872 .bf16) (T : FVec Ideal S3x4x128x256 .f32) (wq wk : FVec Ideal S1x128 .f32)
    (h : Cert.Pre_finite_bias11.fn (F := Ideal) A T wq wk = fun _ => 1#1) :
    (∀ t h r j, Soft.IsReal (T (ix4 t h r j))) ∧ (∀ d, Soft.IsReal (wq (ix2 0 d))) ∧ ∀ d, Soft.IsReal (wk (ix2 0 d)) := by
  have key : ∀ (t : Fin 3) (h : Fin 4) (r : Fin 128) (j : Fin 256),
      ((Ideal.cmp .olt (max (T (ix4 t h r j)) (-T (ix4 t h r j))) (Ideal.ofBits .f32 0x7F800000#32))
        &&& (Ideal.cmp .olt (max (wq (ix2 0 r)) (-wq (ix2 0 r))) (Ideal.ofBits .f32 0x7F800000#32)))
      &&& (Ideal.cmp .olt (max (wk (ix2 0 r)) (-wk (ix2 0 r))) (Ideal.ofBits .f32 0x7F800000#32)) = 1#1 := by
    intro t' h' r j
    have e := congrFun h (ix4 t' h' r j)
    rw [← e]
    pointwise [Cert.Pre_finite_bias11.fn]
    rfl
  refine ⟨fun t h r j => ?_, fun d => ?_, fun d => ?_⟩
  · exact Soft.real_of_cmp (Soft.both _ _ (Soft.both _ _ (key t h r j)).1).1
  · exact Soft.real_of_cmp (Soft.both _ _ (Soft.both _ _ (key 0 0 d 0)).1).2
  · exact Soft.real_of_cmp (Soft.both _ _ (key 0 0 d 0)).2

end Cert.Kernel11Ideal.Near

end
-- ==== Proof.Near1Ref.lean ====
/- The reference of the group of dilation 1, element by element. -/
module

public import proofs.«01_k».proof.Proof.Gen.Reference12Ideal.Run
public import proofs.«01_k».proof.Proof.Soft
public import Idealize.ShloMosaic.Lib.Pointwise

@[expose] public section

set_option maxRecDepth 16384

noncomputable section

open Idealize.ShloMosaic Idealize.ShloMosaic.TcCoe Idealize.SL.Sem

namespace Cert.Reference12Ideal.Near

open Cert.Reference12Ideal Cert.Reference12Ideal.Gen

/-- The group's columns of the queries, of the keys and of the values. -/
def colsQ (A : FVec Ideal S4x2048x15872 .bf16) : FVec Ideal S4x2048x4x128 .f32 :=
  shapeCast _ (extractStridedSlice S4x2048x1x4x128 ![0, 0, 0, 0, 0] (shapeCast _ (extractStridedSlice S4x2048x1536 ![0, 0, 0] (extractStridedSlice S4x2048x4608 ![0, 0, 3072] (extf .f32 A bitsLt_bf16_f32) slices_S4x2048x15872_S4x2048x4608_0_0_3072) slices_S4x2048x4608_S4x2048x1536_0_0_0) shapeCasts_S4x2048x1536_S4x2048x3x4x128) slices_S4x2048x3x4x128_S4x2048x1x4x128_0_0_0_0_0) shapeCasts_S4x2048x1x4x128_S4x2048x4x128
def colsK (A : FVec Ideal S4x2048x15872 .bf16) : FVec Ideal S4x2048x4x128 .f32 :=
  shapeCast _ (extractStridedSlice S4x2048x1x4x128 ![0, 0, 0, 0, 0] (shapeCast _ (extractStridedSlice S4x2048x1536 ![0, 0, 1536] (extractStridedSlice S4x2048x4608 ![0, 0, 3072] (extf .f32 A bitsLt_bf16_f32) slices_S4x2048x15872_S4x2048x4608_0_0_3072) slices_S4x2048x4608_S4x2048x1536_0_0_1536) shapeCasts_S4x2048x1536_S4x2048x3x4x128) slices_S4x2048x3x4x128_S4x2048x1x4x128_0_0_0_0_0) shapeCasts_S4x2048x1x4x128_S4x2048x4x128
def colsV (A : FVec Ideal S4x2048x15872 .bf16) : FVec Ideal S4x2048x4x128 .f32 :=
  shapeCast _ (extractStridedSlice S4x2048x1x4x128 ![0, 0, 0, 0, 0] (shapeCast _ (extractStridedSlice S4x2048x1536 ![0, 0, 3072] (extractStridedSlice S4x2048x4608 ![0, 0, 3072] (extf .f32 A bitsLt_bf16_f32) slices_S4x2048x15872_S4x2048x4608_0_0_3072) slices_S4x2048x4608_S4x2048x1536_0_0_3072) shapeCasts_S4x2048x1536_S4x2048x3x4x128) slices_S4x2048x3x4x128_S4x2048x1x4x128_0_0_0_0_0) shapeCasts_S4x2048x1x4x128_S4x2048x4x128

/-- The columns normalized with the weights `w`, set out by residue class, and set out by tile and class. -/
def normed (Y : FVec Ideal S4x2048x4x128 .f32) (w : FVec Ideal S1x128 .f32) : FVec Ideal S4x2048x4x128 .f32 :=
  mulf (mulf Y (broadcastInDim S4x2048x4x128 ![0, 1, 2, 3] bcast_S4x2048x4x1_S4x2048x4x128_0_1_2_3 (Host.rsqrt (addf (Host.divf (broadcastInDim S4x2048x4x1 ![0, 1, 2] bcast_S4x2048x4_S4x2048x4x1_0_1_2 (Host.reduceAdd (mulf Y Y) (constant S_ .f32 0x00000000#32) reducesTo_S4x2048x4x128_S4x2048x4_d3 h_S_)) (broadcastInDim S4x2048x4x1 ![] bcast_S_S4x2048x4x1 (constant S_ .f32 0x43000000#32))) (broadcastInDim S4x2048x4x1 ![] bcast_S_S4x2048x4x1 (constant S_ .f32 0x358637BD#32)))))) (broadcastInDim S4x2048x4x128 ![0, 1, 2, 3] bcast_S1x1x1x128_S4x2048x4x128_0_1_2_3 (broadcastInDim S1x1x1x128 ![3] bcast_S128_S1x1x1x128_3 (shapeCast _ w shapeCasts_S1x128_S128)))
def classes (Y : FVec Ideal S4x2048x4x128 .f32) : FVec Ideal S4x2048x1x4x128 .f32 :=
  shapeCast _ Y shapeCasts_S4x2048x4x128_S4x2048x1x4x128
def tiles (Y : FVec Ideal S4x2048x4x128 .f32) : FVec Ideal S4x16x128x1x4x128 .f32 :=
  shapeCast _ Y shapeCasts_S4x2048x4x128_S4x16x128x1x4x128

/-- The 256 positions around each tile, and the tiles' biases. -/
def mid (Y : FVec Ideal S4x2048x1x4x128 .f32) : FVec Ideal S4x15x128x1x4x128 .f32 :=
  shapeCast _ (extractStridedSlice S4x1920x1x4x128 ![0, 64, 0, 0, 0] Y slices_S4x2048x1x4x128_S4x1920x1x4x128_0_64_0_0_0) shapeCasts_S4x1920x1x4x128_S4x15x128x1x4x128
def inner (Y : FVec Ideal S4x2048x1x4x128 .f32) : FVec Ideal S4x14x256x1x4x128 .f32 :=
  concatenate S4x14x256x1x4x128 2 [⟨S4x14x128x1x4x128, extractStridedSlice S4x14x128x1x4x128 ![0, 0, 0, 0, 0, 0] (mid Y) slices_S4x15x128x1x4x128_S4x14x128x1x4x128_0_0_0_0_0_0⟩, ⟨S4x14x128x1x4x128, extractStridedSlice S4x14x128x1x4x128 ![0, 1, 0, 0, 0, 0] (mid Y) slices_S4x15x128x1x4x128_S4x14x128x1x4x128_0_1_0_0_0_0⟩] concatenates_S4x14x128x1x4x128_S4x14x128x1x4x128_S4x14x256x1x4x128_d2
def stack (Y : FVec Ideal S4x2048x1x4x128 .f32) : FVec Ideal S4x16x256x1x4x128 .f32 :=
  (concatenate S4x16x256x1x4x128 1 [⟨S4x1x256x1x4x128, ((broadcastInDim S4x1x256x1x4x128 ![0, 2, 3, 4, 5] bcast_S4x256x1x4x128_S4x1x256x1x4x128_0_2_3_4_5 (extractStridedSlice S4x256x1x4x128 ![0, 0, 0, 0, 0] Y slices_S4x2048x1x4x128_S4x256x1x4x128_0_0_0_0_0)) : (⟨S4x1x256x1x4x128, .f32⟩ : BufTy).Contents (Elt Ideal))⟩, ⟨S4x14x256x1x4x128, (inner Y : (⟨S4x14x256x1x4x128, .f32⟩ : BufTy).Contents (Elt Ideal))⟩, ⟨S4x1x256x1x4x128, ((broadcastInDim S4x1x256x1x4x128 ![0, 2, 3, 4, 5] bcast_S4x256x1x4x128_S4x1x256x1x4x128_0_2_3_4_5 (extractStridedSlice S4x256x1x4x128 ![0, 1792, 0, 0, 0] Y slices_S4x2048x1x4x128_S4x256x1x4x128_0_1792_0_0_0)) : (⟨S4x1x256x1x4x128, .f32⟩ : BufTy).Contents (Elt Ideal))⟩] concatenates_S4x1x256x1x4x128_S4x14x256x1x4x128_S4x1x256x1x4x128_S4x16x256x1x4x128_d1 : (⟨S4x16x256x1x4x128, .f32⟩ : BufTy).Contents (Elt Ideal))
def tabs (T : FVec Ideal S3x4x128x256 .f32) : FVec Ideal S16x4x128x256 .f32 :=
  (concatenate S16x4x128x256 0 [⟨S1x4x128x256, (extractStridedSlice S1x4x128x256 ![0, 0, 0, 0] T slices_S3x4x128x256_S1x4x128x256_0_0_0_0 : (⟨S1x4x128x256, .f32⟩ : BufTy).Contents (Elt Ideal))⟩, ⟨S14x4x128x256, (broadcastInDim S14x4x128x256 ![0, 1, 2, 3] bcast_S1x4x128x256_S14x4x128x256_0_1_2_3 (extractStridedSlice S1x4x128x256 ![1, 0, 0, 0] T slices_S3x4x128x256_S1x4x128x256_1_0_0_0) : (⟨S14x4x128x256, .f32⟩ : BufTy).Contents (Elt Ideal))⟩, ⟨S1x4x128x256, (extractStridedSlice S1x4x128x256 ![2, 0, 0, 0] T slices_S3x4x128x256_S1x4x128x256_2_0_0_0 : (⟨S1x4x128x256, .f32⟩ : BufTy).Contents (Elt Ideal))⟩] concatenates_S1x4x128x256_S14x4x128x256_S1x4x128x256_S16x4x128x256_d0 : (⟨S16x4x128x256, .f32⟩ : BufTy).Contents (Elt Ideal))

/-- The scores with the tiles' biases `T`. -/
def scores (Q : FVec Ideal S4x16x128x1x4x128 .f32) (K : FVec Ideal S4x16x256x1x4x128 .f32) (T : FVec Ideal S16x4x128x256 .f32) : FVec Ideal S4x16x1x4x128x256 .f32 :=
  addf (mulf (Host.dotGeneral dot_S4x16x128x1x4x128_S4x16x256x1x4x128_S4x16x1x4x128x256_5_5_2_2_0134_0134 none Q K) (broadcastInDim S4x16x1x4x128x256 ![] bcast_S_S4x16x1x4x128x256 (constant S_ .f32 0x3DB504F3#32))) (broadcastInDim S4x16x1x4x128x256 ![0, 1, 2, 3, 4, 5] bcast_S1x16x1x4x128x256_S4x16x1x4x128x256_0_1_2_3_4_5 (broadcastInDim S1x16x1x4x128x256 ![1, 3, 4, 5] bcast_S16x4x128x256_S1x16x1x4x128x256_1_3_4_5 T))

/-- The log of the sum of each row's exponentials. -/
def logs (L : FVec Ideal S4x16x1x4x128x256 .f32) : FVec Ideal S4x16x1x4x128 .f32 :=
  Host.log (Host.reduceAdd (Host.exp L) (constant S_ .f32 0x00000000#32) reducesTo_S4x16x1x4x128x256_S4x16x1x4x128_d5 h_S_)

/-- The two results from the scores, their logs and the values. -/
def resO (V : FVec Ideal S4x16x256x1x4x128 .f32) (L : FVec Ideal S4x16x1x4x128x256 .f32) (Z : FVec Ideal S4x16x1x4x128 .f32) : FVec Ideal S4x2048x512 .f32 :=
  shapeCast _ (transpose S4x16x128x1x4x128 [0, 1, 5, 2, 3, 4] (Host.dotGeneral dot_S4x16x256x1x4x128_S4x16x1x4x128x256_S4x16x1x4x128x128_2_5_5_4_0134_0123 none V (Host.exp (subf L (broadcastInDim S4x16x1x4x128x256 ![0, 1, 2, 3, 4, 5] bcast_S4x16x1x4x128x1_S4x16x1x4x128x256_0_1_2_3_4_5 (broadcastInDim S4x16x1x4x128x1 ![0, 1, 2, 3, 4] bcast_S4x16x1x4x128_S4x16x1x4x128x1_0_1_2_3_4 Z))))) transposes_S4x16x1x4x128x128_S4x16x128x1x4x128_0_1_5_2_3_4) shapeCasts_S4x16x128x1x4x128_S4x2048x512
def resL (Z : FVec Ideal S4x16x1x4x128 .f32) : FVec Ideal S4x2048x512 .f32 :=
  shapeCast _ (broadcastInDim S4x16x128x1x4x128 ![0, 1, 2, 3, 4, 5] bcast_S4x16x128x1x4x1_S4x16x128x1x4x128_0_1_2_3_4_5 (broadcastInDim S4x16x128x1x4x1 ![0, 1, 2, 3, 4] bcast_S4x16x128x1x4_S4x16x128x1x4x1_0_1_2_3_4 (transpose S4x16x128x1x4 [0, 1, 4, 2, 3] Z transposes_S4x16x1x4x128_S4x16x128x1x4_0_1_4_2_3))) shapeCasts_S4x16x128x1x4x128_S4x2048x512

theorem colsQ_eq (A : FVec Ideal S4x2048x15872 .bf16) (b : Fin 4) (s : Fin 2048) (h : Fin 4) (d : Fin 128) :
    colsQ A (ix4 b s h d) = A (ix3 b s ⟨3072 + h.val * 128 + d.val, by omega⟩) := by
  pointwise [colsQ]
  simp only [← Nat.add_assoc, Nat.reduceAdd]

theorem colsK_eq (A : FVec Ideal S4x2048x15872 .bf16) (b : Fin 4) (s : Fin 2048) (h : Fin 4) (d : Fin 128) :
    colsK A (ix4 b s h d) = A (ix3 b s ⟨4608 + h.val * 128 + d.val, by omega⟩) := by
  pointwise [colsK]
  simp only [← Nat.add_assoc, Nat.reduceAdd]

theorem colsV_eq (A : FVec Ideal S4x2048x15872 .bf16) (b : Fin 4) (s : Fin 2048) (h : Fin 4) (d : Fin 128) :
    colsV A (ix4 b s h d) = A (ix3 b s ⟨6144 + h.val * 128 + d.val, by omega⟩) := by
  pointwise [colsV]
  simp only [← Nat.add_assoc, Nat.reduceAdd]

theorem normed_eq (Y : FVec Ideal S4x2048x4x128 .f32) (w : FVec Ideal S1x128 .f32) (b : Fin 4) (s : Fin 2048) (h : Fin 4) (d : Fin 128) :
    normed Y w (ix4 b s h d) = Soft.nrm (fun e => Y (ix4 b s h e)) (fun e => w (ix2 0 e)) d := by
  pointwise [normed, Soft.nrm]

theorem classes_eq (Y : FVec Ideal S4x2048x4x128 .f32) (b : Fin 4) (r : Fin 2048) (h : Fin 4) (d : Fin 128) :
    classes Y (ix5 b r (0 : Fin 1) h d) = Y (ix4 b r h d) := by
  pointwise [classes]

theorem tiles_eq (Y : FVec Ideal S4x2048x4x128 .f32) (b : Fin 4) (u : Fin 16) (r : Fin 128) (h : Fin 4) (d : Fin 128) :
    tiles Y (ix6 b u r (0 : Fin 1) h d) = Y (ix4 b ⟨u.val * 128 + r.val, by omega⟩ h d) := by
  pointwise [tiles]

theorem mid_eq (Y : FVec Ideal S4x2048x1x4x128 .f32) (b : Fin 4) (u : Fin 15) (r : Fin 128) (h : Fin 4) (d : Fin 128) :
    mid Y (ix6 b u r (0 : Fin 1) h d) = Y (ix5 b ⟨64 + (u.val * 128 + r.val), by omega⟩ (0 : Fin 1) h d) := by
  pointwise [mid]

theorem inner_eq (Y : FVec Ideal S4x2048x1x4x128 .f32) (b : Fin 4) (u : Fin 14) (j : Fin 256) (h : Fin 4) (d : Fin 128) :
    inner Y (ix6 b u j (0 : Fin 1) h d) = Y (ix5 b ⟨64 + (u.val * 128 + j.val), by omega⟩ (0 : Fin 1) h d) := by
  pointwise [inner, mid_eq]
  split_ifs <;> exact congrArg (fun s => Y (ix5 b s (0 : Fin 1) h d)) (Fin.ext (by (try simp only []) <;> omega))

theorem stack_eq (Y : FVec Ideal S4x2048x1x4x128 .f32) (b : Fin 4) (u : Fin 16) (j : Fin 256) (h : Fin 4) (d : Fin 128) :
    stack Y (ix6 b u j (0 : Fin 1) h d) = Y (ix5 b ⟨min (u.val * 128 - 64) 1792 + j.val, by omega⟩ (0 : Fin 1) h d) := by
  pointwise [stack, inner_eq]
  split_ifs <;> exact congrArg (fun s => Y (ix5 b s (0 : Fin 1) h d)) (Fin.ext (by (try simp only []) <;> omega))

theorem tabs_eq (T : FVec Ideal S3x4x128x256 .f32) (u : Fin 16) (h : Fin 4) (r : Fin 128) (j : Fin 256) :
    tabs T (ix4 u h r j) = T (ix4 (Soft.near1Tile u) h r j) := by
  have e0 : u.val < 1 → Soft.near1Tile u = 0 := fun a => if_pos (by omega)
  have e1 : ¬ u.val < 1 → u.val - 1 < 14 → Soft.near1Tile u = 1 := fun a b => (if_neg (by omega)).trans (if_neg (by omega))
  have e2 : ¬ u.val < 1 → ¬ u.val - 1 < 14 → Soft.near1Tile u = 2 := fun a b => (if_neg (by omega)).trans (if_pos (by omega))
  pointwise [tabs]
  split_ifs <;> first
    | (rw [e0 (by omega)]
       exact congrArg (fun a => T (ix4 a h r j)) (Fin.ext (by show u.val = 0; omega)))
    | (rw [e1 (by omega) (by omega)]; done)
    | (rw [e1 (by omega) (by omega)]; rfl)
    | (rw [e2 (by omega) (by omega)]
       exact congrArg (fun a => T (ix4 a h r j)) (Fin.ext (by show 2 + (u.val - 1 - 14) = 2; omega)))
    | (exfalso; simp_all; done)

theorem scores_eq (Q : FVec Ideal S4x16x128x1x4x128 .f32) (K : FVec Ideal S4x16x256x1x4x128 .f32) (T : FVec Ideal S16x4x128x256 .f32) (b : Fin 4) (u : Fin 16) (h : Fin 4) (r : Fin 128) (j : Fin 256) :
    scores Q K T (ix6 b u (0 : Fin 1) h r j)
      = (∑ e, Q (ix6 b u r (0 : Fin 1) h e) * K (ix6 b u j (0 : Fin 1) h e)) * Ideal.ofBits .f32 0x3DB504F3#32 + T (ix4 u h r j) := by
  pointwise [scores]

theorem logs_eq (L : FVec Ideal S4x16x1x4x128x256 .f32) (b : Fin 4) (u : Fin 16) (h : Fin 4) (r : Fin 128) :
    logs L (ix5 b u (0 : Fin 1) h r) = Ideal.log (∑ j, Ideal.exp (L (ix6 b u (0 : Fin 1) h r j))) := by
  have hr : Shape.Reduces S4x16x1x4x128x256 [5] S4x16x1x4x128 := by decide
  pointwise [logs]
  rw [Ideal.hostReduceAdd_single _ hr, zero_add]
  refine congrArg Ideal.log (Finset.sum_congr rfl fun k _ => ?_)
  exact congrArg (fun i => Ideal.exp (L i)) (funext fun a => Fin.ext (by fin_cases a <;> rfl))

theorem resO_eq (V : FVec Ideal S4x16x256x1x4x128 .f32) (L : FVec Ideal S4x16x1x4x128x256 .f32) (Z : FVec Ideal S4x16x1x4x128 .f32)
    (b : Fin 4) (i : Fin 2048) (n : Fin 512) :
    resO V L Z (ix3 b i n) = ∑ j, V (ix6 b ⟨i.val / 128, by omega⟩ j (0 : Fin 1) ⟨n.val / 128 % 4, by omega⟩ ⟨n.val % 128, by omega⟩)
      * Ideal.exp (L (ix6 b ⟨i.val / 128, by omega⟩ (0 : Fin 1) ⟨n.val / 128 % 4, by omega⟩ ⟨i.val % 128, by omega⟩ j)
        - Z (ix5 b ⟨i.val / 128, by omega⟩ (0 : Fin 1) ⟨n.val / 128 % 4, by omega⟩ ⟨i.val % 128, by omega⟩)) := by
  pointwise [resO]
  have e : n.val / 128 % 4 = n.val / 128 := by omega
  simp only [e]

theorem resL_eq (Z : FVec Ideal S4x16x1x4x128 .f32) (b : Fin 4) (i : Fin 2048) (n : Fin 512) :
    resL Z (ix3 b i n) = Z (ix5 b ⟨i.val / 128, by omega⟩ (0 : Fin 1) ⟨n.val / 128 % 4, by omega⟩ ⟨i.val % 128, by omega⟩) := by
  pointwise [resL]
  have e : n.val / 128 % 4 = n.val / 128 := by omega
  simp only [e]

/-- The scores of the argument arrays. -/
def all (A : FVec Ideal S4x2048x15872 .bf16) (T : FVec Ideal S3x4x128x256 .f32) (wq wk : FVec Ideal S1x128 .f32) : FVec Ideal S4x16x1x4x128x256 .f32 :=
  scores (tiles (normed (colsQ A) wq)) (stack (classes (normed (colsK A) wk))) (tabs T)

theorem all_eq (A : FVec Ideal S4x2048x15872 .bf16) (T : FVec Ideal S3x4x128x256 .f32) (wq wk : FVec Ideal S1x128 .f32)
    (b : Fin 4) (u : Fin 16) (h : Fin 4) (r : Fin 128) (j : Fin 256) :
    all A T wq wk (ix6 b u (0 : Fin 1) h r j) = Soft.near1Score (fun b r n => A (ix3 b r n)) (fun t h r j => T (ix4 t h r j)) (fun d => wq (ix2 0 d)) (fun d => wk (ix2 0 d)) b h u r j := by
  unfold all Soft.near1Score Soft.nearScore
  rw [scores_eq]
  simp only [tiles_eq, stack_eq, tabs_eq, classes_eq, normed_eq, colsQ_eq, colsK_eq]

theorem real (A : FVec Ideal S4x2048x15872 .bf16) (T : FVec Ideal S3x4x128x256 .f32) (wq wk : FVec Ideal S1x128 .f32)
    (hT : ∀ t h r j, Soft.IsReal (T (ix4 t h r j))) (hq : ∀ d, Soft.IsReal (wq (ix2 0 d))) (hk : ∀ d, Soft.IsReal (wk (ix2 0 d)))
    (b : Fin 4) (h : Fin 4) (u : Fin 16) (r : Fin 128) (j : Fin 256) :
    Soft.IsReal (Soft.near1Score (fun b r n => A (ix3 b r n)) (fun t h r j => T (ix4 t h r j)) (fun d => wq (ix2 0 d)) (fun d => wk (ix2 0 d)) b h u r j) :=
  Soft.nearScore_real _ _ _ _ _ (fun _ => hT _ _ _ _) hq hk j

/-- The reference's first result at an index, for real bias and weights. -/
theorem resultO (A : FVec Ideal S4x2048x15872 .bf16) (T : FVec Ideal S3x4x128x256 .f32) (wq wk : FVec Ideal S1x128 .f32)
    (hT : ∀ t h r j, Soft.IsReal (T (ix4 t h r j))) (hq : ∀ d, Soft.IsReal (wq (ix2 0 d))) (hk : ∀ d, Soft.IsReal (wk (ix2 0 d)))
    (b : Fin 4) (i : Fin 2048) (n : Fin 512) :
    resO (stack (classes (colsV A))) (all A T wq wk) (logs (all A T wq wk)) (ix3 b i n)
      = Soft.near1O (fun b r n => A (ix3 b r n)) (fun t h r j => T (ix4 t h r j)) (fun d => wq (ix2 0 d)) (fun d => wk (ix2 0 d)) b i n := by
  rw [resO_eq]
  unfold Soft.near1O
  rw [← Soft.weigh_eq (by norm_num) _ _ fun j => real A T wq wk hT hq hk _ _ _ _ j]
  simp only [logs_eq, all_eq, stack_eq, classes_eq, colsV_eq]
  refine Finset.sum_congr rfl fun j _ => (mul_comm _ _).trans ?_
  have e : 6144 + n.val / 128 % 4 * 128 + n.val % 128 = 6144 + n.val % 512 := by omega
  simp only [e]

/-- The reference's second result at an index, for real bias and weights. -/
theorem resultL (A : FVec Ideal S4x2048x15872 .bf16) (T : FVec Ideal S3x4x128x256 .f32) (wq wk : FVec Ideal S1x128 .f32)
    (hT : ∀ t h r j, Soft.IsReal (T (ix4 t h r j))) (hq : ∀ d, Soft.IsReal (wq (ix2 0 d))) (hk : ∀ d, Soft.IsReal (wk (ix2 0 d)))
    (b : Fin 4) (i : Fin 2048) (n : Fin 512) :
    resL (logs (all A T wq wk)) (ix3 b i n)
      = Soft.near1L (fun b r n => A (ix3 b r n)) (fun t h r j => T (ix4 t h r j)) (fun d => wq (ix2 0 d)) (fun d => wk (ix2 0 d)) b i n := by
  rw [resL_eq]
  unfold Soft.near1L
  rw [← Soft.logSum_eq (by norm_num) _ fun j => real A T wq wk hT hq hk _ _ _ _ j, logs_eq]
  simp only [all_eq]

variable (m : (ℓ : Loc nD τ sig) → Buf (Elt Ideal) ℓ)

/-- The two results are these. -/
theorem first (c : Dev nD) : Value.res_main_v88 (F := Ideal) m c
    = resO (stack (classes (colsV (m ((c.tc : Thread nD τ).loc main_arg0))))) (all (m ((c.tc : Thread nD τ).loc main_arg0)) (m ((c.tc : Thread nD τ).loc main_arg1)) (m ((c.tc : Thread nD τ).loc main_arg2)) (m ((c.tc : Thread nD τ).loc main_arg3))) (logs (all (m ((c.tc : Thread nD τ).loc main_arg0)) (m ((c.tc : Thread nD τ).loc main_arg1)) (m ((c.tc : Thread nD τ).loc main_arg2)) (m ((c.tc : Thread nD τ).loc main_arg3)))) := rfl

theorem second (c : Dev nD) : Value.res_main_v89 (F := Ideal) m c
    = resL (logs (all (m ((c.tc : Thread nD τ).loc main_arg0)) (m ((c.tc : Thread nD τ).loc main_arg1)) (m ((c.tc : Thread nD τ).loc main_arg2)) (m ((c.tc : Thread nD τ).loc main_arg3)))) := rfl

end Cert.Reference12Ideal.Near

end
-- ==== Proof.Near1.lean ====
/- What the call of the group of dilation 1 leaves in its two result arrays: the reference's. -/
module

public import proofs.«01_k».proof.Proof.Gen.Kernel12Ideal.Value
public import proofs.«01_k».proof.Proof.Gen.Kernel12Ideal.Frame
public import proofs.«01_k».proof.Proof.Near1Ref
public import proofs.«01_k».proof.Proof.Gen.Pre_finite_bias11
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel12Ideal.Near

open Cert.Kernel12Ideal Cert.Kernel12Ideal.Gen

variable (m : (ℓ : Loc nD τ sig) → Buf (Elt Ideal) ℓ)

/-! ## One head of a point -/

theorem queries_eq (q : FVec Ideal S1x128x128 .bf16) (w : FVec Ideal S1x128 .f32) (r d : Fin 128) :
    k0_pay6 (F := Ideal) w q (ix2 r d) = Soft.nrm (fun e => q (ix3 0 r e)) (fun e => w (ix2 0 e)) d * Ideal.ofBits .f32 0x3DB504F3#32 := by
  pointwise [k0_pay6, Soft.nrm]

/-- One head's two results of a point, from its columns. -/
def headO (q : FVec Ideal S1x128x128 .bf16) (k v : FVec Ideal S1x256x128 .bf16) (t : FVec Ideal S1x1x128x256 .f32) (wq wk : FVec Ideal S1x128 .f32) : FVec Ideal S1x128x128 .f32 :=
  k0_pay13 wk (k0_pay6 wq q) (k0_pay7 k) (k0_pay8 k) v t
def headL (q : FVec Ideal S1x128x128 .bf16) (k : FVec Ideal S1x256x128 .bf16) (t : FVec Ideal S1x1x128x256 .f32) (wq wk : FVec Ideal S1x128 .f32) : FVec Ideal S1x128x128 .f32 :=
  k0_pay14 wk (k0_pay6 wq q) (k0_pay7 k) (k0_pay8 k) t

theorem scores_eq (w : FVec Ideal S1x128 .f32) (a : FVec Ideal S128x128 .bf16) (k : FVec Ideal S1x256x128 .bf16) (t : FVec Ideal S1x1x128x256 .f32) (r : Fin 128) (j : Fin 256) :
    k0_pay9 (F := Ideal) w a (k0_pay7 k) (k0_pay8 k) t (ix2 r j)
      = (∑ e, a (ix2 r e) * Soft.nrm (fun e => k (ix3 0 j e)) (fun e => w (ix2 0 e)) e) + t (ix4 0 0 r j) := by
  pointwise [k0_pay9, k0_pay8, k0_pay7, Soft.nrm]

theorem weights_eq (w : FVec Ideal S1x128 .f32) (a : FVec Ideal S128x128 .bf16) (x : FVec Ideal S256x128 .f32) (y : FVec Ideal S256x1 .f32) (v : FVec Ideal S1x256x128 .bf16) (t : FVec Ideal S1x1x128x256 .f32) (r d : Fin 128) :
    k0_pay13 (F := Ideal) w a x y v t (ix3 0 r d) = Soft.weigh (fun j => k0_pay9 w a x y t (ix2 r j)) (fun j => v (ix3 0 j d)) := by
  unfold Soft.weigh
  pointwise [k0_pay13, k0_pay12, k0_pay11, k0_pay10]
  simp only [Soft.neg_inf]

theorem logs_eq (w : FVec Ideal S1x128 .f32) (a : FVec Ideal S128x128 .bf16) (x : FVec Ideal S256x128 .f32) (y : FVec Ideal S256x1 .f32) (t : FVec Ideal S1x1x128x256 .f32) (r d : Fin 128) :
    k0_pay14 (F := Ideal) w a x y t (ix3 0 r d) = Soft.logSum (fun j => k0_pay9 w a x y t (ix2 r j)) := by
  unfold Soft.logSum
  pointwise [k0_pay14, k0_pay12, k0_pay11, k0_pay10]
  simp only [Soft.neg_inf]

theorem headO_eq (q : FVec Ideal S1x128x128 .bf16) (k v : FVec Ideal S1x256x128 .bf16) (t : FVec Ideal S1x1x128x256 .f32) (wq wk : FVec Ideal S1x128 .f32) (r d : Fin 128) :
    headO q k v t wq wk (ix3 0 r d) = Soft.weigh (Soft.nearScore (fun e => q (ix3 0 r e)) (fun j e => k (ix3 0 j e)) (fun j => t (ix4 0 0 r j)) (fun e => wq (ix2 0 e)) (fun e => wk (ix2 0 e))) (fun j => v (ix3 0 j d)) := by
  refine (weights_eq _ _ _ _ _ _ r d).trans (congrArg (fun l => Soft.weigh l _) (funext fun j => ?_))
  unfold Soft.nearScore
  simp only [scores_eq, queries_eq, Soft.scale_out _ _ _ Soft.pos_scale]

theorem headL_eq (q : FVec Ideal S1x128x128 .bf16) (k : FVec Ideal S1x256x128 .bf16) (t : FVec Ideal S1x1x128x256 .f32) (wq wk : FVec Ideal S1x128 .f32) (r d : Fin 128) :
    headL q k t wq wk (ix3 0 r d) = Soft.logSum (Soft.nearScore (fun e => q (ix3 0 r e)) (fun j e => k (ix3 0 j e)) (fun j => t (ix4 0 0 r j)) (fun e => wq (ix2 0 e)) (fun e => wk (ix2 0 e))) := by
  refine (logs_eq _ _ _ _ _ r d).trans (congrArg (fun l => Soft.logSum l) (funext fun j => ?_))
  unfold Soft.nearScore
  simp only [scores_eq, queries_eq, Soft.scale_out _ _ _ Soft.pos_scale]

/-! ## The other three heads' stored values are the same functions of their columns -/

theorem head1O (q : FVec Ideal S1x128x128 .bf16) (k v : FVec Ideal S1x256x128 .bf16) (t : FVec Ideal S1x1x128x256 .f32) (wq wk : FVec Ideal S1x128 .f32) :
    k0_pay23 (F := Ideal) (k0_pay17 v) (k0_pay20 wq wk (k0_pay15 q) (k0_pay16 q) k t) (k0_pay21 wq wk (k0_pay15 q) (k0_pay16 q) k t) = headO q k v t wq wk := rfl
theorem head1L (q : FVec Ideal S1x128x128 .bf16) (k : FVec Ideal S1x256x128 .bf16) (t : FVec Ideal S1x1x128x256 .f32) (wq wk : FVec Ideal S1x128 .f32) :
    k0_pay24 (F := Ideal) (k0_pay19 wq wk (k0_pay15 q) (k0_pay16 q) k t) (k0_pay21 wq wk (k0_pay15 q) (k0_pay16 q) k t) = headL q k t wq wk := rfl
theorem head2O (q : FVec Ideal S1x128x128 .bf16) (k v : FVec Ideal S1x256x128 .bf16) (t : FVec Ideal S1x1x128x256 .f32) (wq wk : FVec Ideal S1x128 .f32) :
    k0_pay32 (F := Ideal) wk (k0_pay25 wq q) (k0_pay26 k) (k0_pay27 k) (FloatOps.ofBits .f32 0x43000000#32) v t = headO q k v t wq wk := rfl
theorem head2L (q : FVec Ideal S1x128x128 .bf16) (k : FVec Ideal S1x256x128 .bf16) (t : FVec Ideal S1x1x128x256 .f32) (wq wk : FVec Ideal S1x128 .f32) :
    k0_pay33 (F := Ideal) wk (k0_pay25 wq q) (k0_pay26 k) (k0_pay27 k) (FloatOps.ofBits .f32 0x43000000#32) t = headL q k t wq wk := rfl
theorem head3O (q : FVec Ideal S1x128x128 .bf16) (k v : FVec Ideal S1x256x128 .bf16) (t : FVec Ideal S1x1x128x256 .f32) (wq wk : FVec Ideal S1x128 .f32) :
    k0_pay4 (F := Ideal) (k0_pay34 v) (k0_pay35 wq wk q k t) (k0_pay36 wq wk q k t) = headO q k v t wq wk := rfl
theorem head3L (q : FVec Ideal S1x128x128 .bf16) (k : FVec Ideal S1x256x128 .bf16) (t : FVec Ideal S1x1x128x256 .f32) (wq wk : FVec Ideal S1x128 .f32) :
    k0_pay5 (F := Ideal) (k0_pay35 wq wk q k t) (k0_pay36 wq wk q k t) = headL q k t wq wk := rfl

/-! ## The four heads side by side -/

/-- The 128 columns of a block of queries from a column on, the columns and rows of a block of keys at an offset, and
one head's bias. -/
def part (q : FVec Ideal S1x128x512 .bf16) (o : ℕ) (h : ∀ a, (![0, 0, o] : Fin 3 → Nat) a + S1x128x128.size a ≤ S1x128x512.size a) : FVec Ideal S1x128x128 .bf16 :=
  View.ld (Val := Elt Ideal) (e' := .bf16) q (Rect.unit (s := S1x128x512) ![0, 0, o] S1x128x128.size h)
def win (x : FVec Ideal S1x2048x512 .bf16) (off : Fin 3 → Nat) (h : ∀ a, off a + S1x256x128.size a ≤ S1x2048x512.size a) : FVec Ideal S1x256x128 .bf16 :=
  View.ld (Val := Elt Ideal) (e' := .bf16) x (Rect.unit (s := S1x2048x512) off S1x256x128.size h)
def tab (t : FVec Ideal S1x4x128x256 .f32) (o : ℕ) (h : ∀ a, (![0, o, 0, 0] : Fin 4 → Nat) a + S1x1x128x256.size a ≤ S1x4x128x256.size a) : FVec Ideal S1x1x128x256 .f32 :=
  View.ld (Val := Elt Ideal) (e' := .f32) t (Rect.unit (s := S1x4x128x256) ![0, o, 0, 0] S1x1x128x256.size h)

/-- Where the keys of a point's tile start, for each head. -/
theorem offs : ∀ t : Fin cfg0.N, k0_off1 (grid0.coords t) = ![0, min (t.val % 16 * 128 - 64) 1792, 0]
    ∧ k0_off2 (grid0.coords t) = ![0, min (t.val % 16 * 128 - 64) 1792, 128]
    ∧ k0_off3 (grid0.coords t) = ![0, min (t.val % 16 * 128 - 64) 1792, 256]
    ∧ k0_off4 (grid0.coords t) = ![0, min (t.val % 16 * 128 - 64) 1792, 384] :=
  (by decide +kernel : ∀ t : Fin grid0.N, _)

theorem win_at (x : FVec Ideal S1x2048x512 .bf16) (off : Fin 3 → ℕ) (s : ℕ) (h : Fin 4) (e : off = ![0, s, h.val * 128]) (hb) (hs : s ≤ 1792) (a : Fin 256) (d : Fin 128) :
    win x off hb (ix3 0 a d) = x (ix3 0 ⟨s + a.val, by omega⟩ ⟨h.val * 128 + d.val, by omega⟩) := by
  subst e
  pointwise [win]

/-- The first result of a point, as its four stores leave it. -/
def tileO (p : Fin cfg0.N) (q : FVec Ideal S1x128x512 .bf16) (k v : FVec Ideal S1x2048x512 .bf16) (t : FVec Ideal S1x4x128x256 .f32) (wq wk : FVec Ideal S1x128 .f32) : FVec Ideal S1x128x512 .f32 :=
  View.canon
    [(⟨Rect.unit ![0, 0, 384] ![1, 128, 128] inb_S1x128x512_S1x128x128_0_0_384, headO (part q 384 inb_S1x128x512_S1x128x128_0_0_384) (win k (k0_off4 (grid0.coords p)) (k0_off4_inb _)) (win v (k0_off4 (grid0.coords p)) (k0_off4_inb _)) (tab t 3 inb_S1x4x128x256_S1x1x128x256_0_3_0_0) wq wk⟩ : View.Piece (Elt Ideal) S1x128x512 .f32),
     ⟨Rect.unit ![0, 0, 256] ![1, 128, 128] inb_S1x128x512_S1x128x128_0_0_256, headO (part q 256 inb_S1x128x512_S1x128x128_0_0_256) (win k (k0_off3 (grid0.coords p)) (k0_off3_inb _)) (win v (k0_off3 (grid0.coords p)) (k0_off3_inb _)) (tab t 2 inb_S1x4x128x256_S1x1x128x256_0_2_0_0) wq wk⟩,
     ⟨Rect.unit ![0, 0, 128] ![1, 128, 128] inb_S1x128x512_S1x128x128_0_0_128, headO (part q 128 inb_S1x128x512_S1x128x128_0_0_128) (win k (k0_off2 (grid0.coords p)) (k0_off2_inb _)) (win v (k0_off2 (grid0.coords p)) (k0_off2_inb _)) (tab t 1 inb_S1x4x128x256_S1x1x128x256_0_1_0_0) wq wk⟩,
     ⟨Rect.unit ![0, 0, 0] ![1, 128, 128] inb_S1x128x512_S1x128x128_0_0_0, headO (part q 0 inb_S1x128x512_S1x128x128_0_0_0) (win k (k0_off1 (grid0.coords p)) (k0_off1_inb _)) (win v (k0_off1 (grid0.coords p)) (k0_off1_inb _)) (tab t 0 inb_S1x4x128x256_S1x1x128x256_0_0_0_0) wq wk⟩]

/-- The second result of a point, as its four stores leave it. -/
def tileL (p : Fin cfg0.N) (q : FVec Ideal S1x128x512 .bf16) (k : FVec Ideal S1x2048x512 .bf16) (t : FVec Ideal S1x4x128x256 .f32) (wq wk : FVec Ideal S1x128 .f32) : FVec Ideal S1x128x512 .f32 :=
  View.canon
    [(⟨Rect.unit ![0, 0, 384] ![1, 128, 128] inb_S1x128x512_S1x128x128_0_0_384, headL (part q 384 inb_S1x128x512_S1x128x128_0_0_384) (win k (k0_off4 (grid0.coords p)) (k0_off4_inb _)) (tab t 3 inb_S1x4x128x256_S1x1x128x256_0_3_0_0) wq wk⟩ : View.Piece (Elt Ideal) S1x128x512 .f32),
     ⟨Rect.unit ![0, 0, 256] ![1, 128, 128] inb_S1x128x512_S1x128x128_0_0_256, headL (part q 256 inb_S1x128x512_S1x128x128_0_0_256) (win k (k0_off3 (grid0.coords p)) (k0_off3_inb _)) (tab t 2 inb_S1x4x128x256_S1x1x128x256_0_2_0_0) wq wk⟩,
     ⟨Rect.unit ![0, 0, 128] ![1, 128, 128] inb_S1x128x512_S1x128x128_0_0_128, headL (part q 128 inb_S1x128x512_S1x128x128_0_0_128) (win k (k0_off2 (grid0.coords p)) (k0_off2_inb _)) (tab t 1 inb_S1x4x128x256_S1x1x128x256_0_1_0_0) wq wk⟩,
     ⟨Rect.unit ![0, 0, 0] ![1, 128, 128] inb_S1x128x512_S1x128x128_0_0_0, headL (part q 0 inb_S1x128x512_S1x128x128_0_0_0) (win k (k0_off1 (grid0.coords p)) (k0_off1_inb _)) (tab t 0 inb_S1x4x128x256_S1x1x128x256_0_0_0_0) wq wk⟩]

/-- An index of a head's columns, from the column in the block. -/
theorem place_in (o : ℕ) (ho : o % 128 = 0) (r : Fin 128) (n : Fin 512) (x : S1x128x128.Idx)
    (h1 : r.val = (x 1).val) (h2 : n.val = o + (x 2).val) (h2l : (x 2).val < 128) :
    o = n.val / 128 * 128 ∧ x = ix3 (0 : Fin 1) r (⟨n.val % 128, by omega⟩ : Fin 128) := by
  obtain rfl : r = x 1 := Fin.ext h1
  have e2 : x 2 = (⟨n.val % 128, by omega⟩ : Fin 128) := Fin.ext (by show (x 2).val = n.val % 128; omega)
  refine ⟨by omega, ?_⟩
  rw [← e2]
  exact (eq_ix3 x).trans (congrArg (fun a => ix3 a (x 1) (x 2)) (Subsingleton.elim (α := Fin 1) _ _))

theorem headO_of (q : FVec Ideal S1x128x512 .bf16) (k v : FVec Ideal S1x2048x512 .bf16) (t : FVec Ideal S1x4x128x256 .f32) (wq wk : FVec Ideal S1x128 .f32) (q' : FVec Ideal S1x128x128 .bf16) (k' v' : FVec Ideal S1x256x128 .bf16) (t' : FVec Ideal S1x1x128x256 .f32) (h : Fin 4) (s : ℕ) (hs : s ≤ 1792) (r : Fin 128) (n : Fin 512) (x : S1x128x128.Idx)
    (hq : ∀ (a e : Fin 128), q' (ix3 0 a e) = q (ix3 0 a ⟨h.val * 128 + e.val, by omega⟩))
    (hk : ∀ (a : Fin 256) (e : Fin 128), k' (ix3 0 a e) = k (ix3 0 ⟨s + a.val, by omega⟩ ⟨h.val * 128 + e.val, by omega⟩))
    (hv : ∀ (a : Fin 256) (e : Fin 128), v' (ix3 0 a e) = v (ix3 0 ⟨s + a.val, by omega⟩ ⟨h.val * 128 + e.val, by omega⟩))
    (ht : ∀ (a : Fin 128) (e : Fin 256), t' (ix4 0 0 a e) = t (ix4 0 h a e))
    (h1 : r.val = (x 1).val) (h2 : n.val = h.val * 128 + (x 2).val) (h2l : (x 2).val < 128) :
    headO q' k' v' t' wq wk x = Soft.weigh (Soft.nearScore (fun e => q (ix3 0 r ⟨n.val / 128 * 128 + e.val, by omega⟩)) (fun j e => k (ix3 0 ⟨s + j.val, by omega⟩ ⟨n.val / 128 * 128 + e.val, by omega⟩)) (fun j => t (ix4 0 ⟨n.val / 128, by omega⟩ r j)) (fun e => wq (ix2 0 e)) (fun e => wk (ix2 0 e))) (fun j => v (ix3 0 ⟨s + j.val, by omega⟩ n)) := by
  obtain ⟨eo, ex⟩ := place_in (h.val * 128) (by omega) r n x h1 h2 h2l
  have eh : h = ⟨n.val / 128, by omega⟩ := Fin.ext (by show h.val = n.val / 128; omega)
  have et : ∀ a e, t (ix4 0 h a e) = t (ix4 0 ⟨n.val / 128, by omega⟩ a e) := fun a e => congrArg (fun h => t (ix4 0 h a e)) eh
  refine (congrArg (headO q' k' v' t' wq wk) ex).trans ((headO_eq q' k' v' t' wq wk _ _).trans ?_)
  have en : (⟨n.val / 128 * 128 + n.val % 128, by omega⟩ : Fin 512) = n := Fin.ext (by show n.val / 128 * 128 + n.val % 128 = n.val; omega)
  simp only [hq, hk, hv, ht, eo, en, et]

theorem headL_of (q : FVec Ideal S1x128x512 .bf16) (k : FVec Ideal S1x2048x512 .bf16) (t : FVec Ideal S1x4x128x256 .f32) (wq wk : FVec Ideal S1x128 .f32) (q' : FVec Ideal S1x128x128 .bf16) (k' : FVec Ideal S1x256x128 .bf16) (t' : FVec Ideal S1x1x128x256 .f32) (h : Fin 4) (s : ℕ) (hs : s ≤ 1792) (r : Fin 128) (n : Fin 512) (x : S1x128x128.Idx)
    (hq : ∀ (a e : Fin 128), q' (ix3 0 a e) = q (ix3 0 a ⟨h.val * 128 + e.val, by omega⟩))
    (hk : ∀ (a : Fin 256) (e : Fin 128), k' (ix3 0 a e) = k (ix3 0 ⟨s + a.val, by omega⟩ ⟨h.val * 128 + e.val, by omega⟩))
    (ht : ∀ (a : Fin 128) (e : Fin 256), t' (ix4 0 0 a e) = t (ix4 0 h a e))
    (h1 : r.val = (x 1).val) (h2 : n.val = h.val * 128 + (x 2).val) (h2l : (x 2).val < 128) :
    headL q' k' t' wq wk x = Soft.logSum (Soft.nearScore (fun e => q (ix3 0 r ⟨n.val / 128 * 128 + e.val, by omega⟩)) (fun j e => k (ix3 0 ⟨s + j.val, by omega⟩ ⟨n.val / 128 * 128 + e.val, by omega⟩)) (fun j => t (ix4 0 ⟨n.val / 128, by omega⟩ r j)) (fun e => wq (ix2 0 e)) (fun e => wk (ix2 0 e))) := by
  obtain ⟨eo, ex⟩ := place_in (h.val * 128) (by omega) r n x h1 h2 h2l
  have eh : h = ⟨n.val / 128, by omega⟩ := Fin.ext (by show h.val = n.val / 128; omega)
  have et : ∀ a e, t (ix4 0 h a e) = t (ix4 0 ⟨n.val / 128, by omega⟩ a e) := fun a e => congrArg (fun h => t (ix4 0 h a e)) eh
  refine (congrArg (headL q' k' t' wq wk) ex).trans ((headL_eq q' k' t' wq wk _ _).trans ?_)
  simp only [hq, hk, ht, eo, et]

theorem tileO_eq (p : Fin cfg0.N) (q : FVec Ideal S1x128x512 .bf16) (k v : FVec Ideal S1x2048x512 .bf16) (t : FVec Ideal S1x4x128x256 .f32) (wq wk : FVec Ideal S1x128 .f32) (s : ℕ) (es : s = min (p.val % 16 * 128 - 64) 1792) (hs : s ≤ 1792) (r : Fin 128) (n : Fin 512) :
    tileO p q k v t wq wk (ix3 0 r n) = Soft.weigh (Soft.nearScore (fun e => q (ix3 0 r ⟨n.val / 128 * 128 + e.val, by omega⟩)) (fun j e => k (ix3 0 ⟨s + j.val, by omega⟩ ⟨n.val / 128 * 128 + e.val, by omega⟩)) (fun j => t (ix4 0 ⟨n.val / 128, by omega⟩ r j)) (fun e => wq (ix2 0 e)) (fun e => wk (ix2 0 e))) (fun j => v (ix3 0 ⟨s + j.val, by omega⟩ n)) := by
  unfold tileO
  have e1 : k0_off1 (grid0.coords p) = ![0, s, (0 : Fin 4).val * 128] := es ▸ (offs p).1
  have e2 : k0_off2 (grid0.coords p) = ![0, s, (1 : Fin 4).val * 128] := es ▸ (offs p).2.1
  have e3 : k0_off3 (grid0.coords p) = ![0, s, (2 : Fin 4).val * 128] := es ▸ (offs p).2.2.1
  have e4 : k0_off4 (grid0.coords p) = ![0, s, (3 : Fin 4).val * 128] := es ▸ (offs p).2.2.2
  canon_tiles x h
  · exact headO_of q k v t wq wk _ _ _ _ 3 s hs r n x (fun a e => by pointwise [part])
      (fun a e => win_at k _ s 3 e4 (k0_off4_inb _) hs a e) (fun a e => win_at v _ s 3 e4 (k0_off4_inb _) hs a e) (fun a e => by pointwise [tab]) h1 h2 x2_lt
  · exact headO_of q k v t wq wk _ _ _ _ 2 s hs r n x (fun a e => by pointwise [part])
      (fun a e => win_at k _ s 2 e3 (k0_off3_inb _) hs a e) (fun a e => win_at v _ s 2 e3 (k0_off3_inb _) hs a e) (fun a e => by pointwise [tab]) h1 h2 x2_lt
  · exact headO_of q k v t wq wk _ _ _ _ 1 s hs r n x (fun a e => by pointwise [part])
      (fun a e => win_at k _ s 1 e2 (k0_off2_inb _) hs a e) (fun a e => win_at v _ s 1 e2 (k0_off2_inb _) hs a e) (fun a e => by pointwise [tab]) h1 h2 x2_lt
  · exact headO_of q k v t wq wk _ _ _ _ 0 s hs r n x (fun a e => by pointwise [part])
      (fun a e => win_at k _ s 0 e1 (k0_off1_inb _) hs a e) (fun a e => win_at v _ s 0 e1 (k0_off1_inb _) hs a e) (fun a e => by pointwise [tab]) h1 (h2.trans (Nat.zero_add _).symm) x2_lt

theorem tileL_eq (p : Fin cfg0.N) (q : FVec Ideal S1x128x512 .bf16) (k : FVec Ideal S1x2048x512 .bf16) (t : FVec Ideal S1x4x128x256 .f32) (wq wk : FVec Ideal S1x128 .f32) (s : ℕ) (es : s = min (p.val % 16 * 128 - 64) 1792) (hs : s ≤ 1792) (r : Fin 128) (n : Fin 512) :
    tileL p q k t wq wk (ix3 0 r n) = Soft.logSum (Soft.nearScore (fun e => q (ix3 0 r ⟨n.val / 128 * 128 + e.val, by omega⟩)) (fun j e => k (ix3 0 ⟨s + j.val, by omega⟩ ⟨n.val / 128 * 128 + e.val, by omega⟩)) (fun j => t (ix4 0 ⟨n.val / 128, by omega⟩ r j)) (fun e => wq (ix2 0 e)) (fun e => wk (ix2 0 e))) := by
  unfold tileL
  have e1 : k0_off1 (grid0.coords p) = ![0, s, (0 : Fin 4).val * 128] := es ▸ (offs p).1
  have e2 : k0_off2 (grid0.coords p) = ![0, s, (1 : Fin 4).val * 128] := es ▸ (offs p).2.1
  have e3 : k0_off3 (grid0.coords p) = ![0, s, (2 : Fin 4).val * 128] := es ▸ (offs p).2.2.1
  have e4 : k0_off4 (grid0.coords p) = ![0, s, (3 : Fin 4).val * 128] := es ▸ (offs p).2.2.2
  canon_tiles x h
  · exact headL_of q k t wq wk _ _ _ 3 s hs r n x (fun a e => by pointwise [part])
      (fun a e => win_at k _ s 3 e4 (k0_off4_inb _) hs a e)  (fun a e => by pointwise [tab]) h1 h2 x2_lt
  · exact headL_of q k t wq wk _ _ _ 2 s hs r n x (fun a e => by pointwise [part])
      (fun a e => win_at k _ s 2 e3 (k0_off3_inb _) hs a e)  (fun a e => by pointwise [tab]) h1 h2 x2_lt
  · exact headL_of q k t wq wk _ _ _ 1 s hs r n x (fun a e => by pointwise [part])
      (fun a e => win_at k _ s 1 e2 (k0_off2_inb _) hs a e)  (fun a e => by pointwise [tab]) h1 h2 x2_lt
  · exact headL_of q k t wq wk _ _ _ 0 s hs r n x (fun a e => by pointwise [part])
      (fun a e => win_at k _ s 0 e1 (k0_off1_inb _) hs a e)  (fun a e => by pointwise [tab]) h1 (h2.trans (Nat.zero_add _).symm) x2_lt

/-- What a point leaves in the first result's buffer, from the blocks it reads. -/
theorem leftO (c : Dev nD) (t : Fin cfg0.N) : (outsAt0 m c t).1
    = tileO t (iblk m c 0 t) (iblk m c 1 t) (iblk m c 2 t) (iblk m c 3 t) (iblk m c 4 t) (iblk m c 5 t) := by
  frame_out
  simp only [head1O, head2O, head3O]
  rfl

/-- What a point leaves in the second result's buffer, from the blocks it reads. -/
theorem leftL (c : Dev nD) (t : Fin cfg0.N) : (outsAt0 m c t).2
    = tileL t (iblk m c 0 t) (iblk m c 1 t) (iblk m c 3 t) (iblk m c 4 t) (iblk m c 5 t) := by
  frame_out
  simp only [head1L, head2L, head3L]
  rfl

/-- The windows' block indices at a point. -/
theorem idx : ∀ t : Fin cfg0.N, win0_0.index t = ![t.val / 16, t.val % 16, 6]
    ∧ win0_1.index t = ![t.val / 16, 0, 9] ∧ win0_2.index t = ![t.val / 16, 0, 12]
    ∧ win0_3.index t = ![(Soft.near1Tile ⟨t.val % 16, Nat.mod_lt _ (by decide)⟩).val, 0, 0, 0] ∧ win0_4.index t = ![0, 0] ∧ win0_5.index t = ![0, 0]
    ∧ win0_6.index t = ![t.val / 16, t.val % 16, 0] ∧ win0_7.index t = ![t.val / 16, t.val % 16, 0] :=
  (by decide +kernel : ∀ t : Fin grid0.N, _)

theorem lt_t (t : Fin cfg0.N) : t.val < 64 := lt_of_lt_of_eq t.isLt N_0

theorem blk_q (c : Dev nD) (t : Fin cfg0.N) (r : Fin 128) (n : Fin 512) : iblk m c 0 t (ix3 0 r n)
    = m ((c : Thread nD τ).loc main_arg0) (ix3 (⟨t.val / 16, by have := lt_t t; omega⟩ : Fin 4)
        (⟨t.val % 16 * 128 + r.val, by omega⟩ : Fin 2048) (⟨3072 + n.val, by omega⟩ : Fin 15872)) := by
  rw [← V_main_arg0 m c]
  blk_point [iblk, idx t]

theorem blk_k (c : Dev nD) (t : Fin cfg0.N) (r : Fin 2048) (n : Fin 512) : iblk m c 1 t (ix3 0 r n)
    = m ((c : Thread nD τ).loc main_arg0) (ix3 (⟨t.val / 16, by have := lt_t t; omega⟩ : Fin 4)
        (⟨r.val, by omega⟩ : Fin 2048) (⟨4608 + n.val, by omega⟩ : Fin 15872)) := by
  rw [← V_main_arg0 m c]
  blk_point [iblk, idx t]

theorem blk_v (c : Dev nD) (t : Fin cfg0.N) (r : Fin 2048) (n : Fin 512) : iblk m c 2 t (ix3 0 r n)
    = m ((c : Thread nD τ).loc main_arg0) (ix3 (⟨t.val / 16, by have := lt_t t; omega⟩ : Fin 4)
        (⟨r.val, by omega⟩ : Fin 2048) (⟨6144 + n.val, by omega⟩ : Fin 15872)) := by
  rw [← V_main_arg0 m c]
  blk_point [iblk, idx t]

theorem blk_t (c : Dev nD) (t : Fin cfg0.N) (h : Fin 4) (r : Fin 128) (j : Fin 256) : iblk m c 3 t (ix4 0 h r j)
    = m ((c : Thread nD τ).loc main_arg1) (ix4 (Soft.near1Tile ⟨t.val % 16, Nat.mod_lt _ (by decide)⟩) h r j) := by
  rw [← V_main_arg1 m c]
  blk_point [iblk, idx t]

theorem blk_wq (c : Dev nD) (t : Fin cfg0.N) (d : Fin 128) : iblk m c 4 t (ix2 0 d)
    = m ((c : Thread nD τ).loc main_arg2) (ix2 (0 : Fin 1) d) := by
  rw [← V_main_arg2 m c]
  blk_point [iblk, idx t]

theorem blk_wk (c : Dev nD) (t : Fin cfg0.N) (d : Fin 128) : iblk m c 5 t (ix2 0 d)
    = m ((c : Thread nD τ).loc main_arg3) (ix2 (0 : Fin 1) d) := by
  rw [← V_main_arg3 m c]
  blk_point [iblk, idx t]

/-- An index of a block is three coordinates, the first of them zero. -/
theorem coords (y : S1x128x512.Idx) : ∃ (r : Fin 128) (n : Fin 512), y = ix3 0 r n := ⟨y 1, y 2, (eq_ix3 y).trans
    (congrArg (fun a => ix3 a (y 1) (y 2)) (Subsingleton.elim (α := Fin 1) _ _))⟩

/-- The first result as an array, from the four argument arrays. -/
def REFO (A : FVec Ideal S4x2048x15872 .bf16) (T : FVec Ideal S3x4x128x256 .f32) (wq wk : FVec Ideal S1x128 .f32) : FVec Ideal S4x2048x512 .f32 :=
  fun i => Soft.near1O (fun b r n => A (ix3 b r n)) (fun t h r j => T (ix4 t h r j)) (fun d => wq (ix2 0 d)) (fun d => wk (ix2 0 d)) (i 0) (i 1) (i 2)

theorem REFO_at (A : FVec Ideal S4x2048x15872 .bf16) (T : FVec Ideal S3x4x128x256 .f32) (wq wk : FVec Ideal S1x128 .f32)
    (b : Fin 4) (r : Fin 2048) (n : Fin 512) : REFO A T wq wk (ix3 b r n) = Soft.near1O (fun b r n => A (ix3 b r n)) (fun t h r j => T (ix4 t h r j)) (fun d => wq (ix2 0 d)) (fun d => wk (ix2 0 d)) b r n := rfl

/-- One point's values are the result's at the place of its block. -/
theorem pointO (c : Dev nD) (t : Fin cfg0.N) (r : Fin 128) (n : Fin 512) :
    tileO t (iblk m c 0 t) (iblk m c 1 t) (iblk m c 2 t) (iblk m c 3 t) (iblk m c 4 t) (iblk m c 5 t) (ix3 0 r n)
      = Soft.near1O (fun b r n => m ((c : Thread nD τ).loc main_arg0) (ix3 b r n)) (fun t h r j => m ((c : Thread nD τ).loc main_arg1) (ix4 t h r j)) (fun d => m ((c : Thread nD τ).loc main_arg2) (ix2 0 d)) (fun d => m ((c : Thread nD τ).loc main_arg3) (ix2 0 d)) ⟨t.val / 16, by have := lt_t t; omega⟩ ⟨t.val % 16 * 128 + r.val, by omega⟩ ⟨n.val, by omega⟩ := by
  rw [tileO_eq t _ _ _ _ _ _ _ rfl (Nat.min_le_right _ _)]
  have a1 : ∀ x : ℕ, x + 0 = x := fun x => rfl
  have a2 : n.val / 128 % 4 = n.val / 128 := by omega
  have a3 : n.val % 512 = n.val := by omega
  have a4 : (t.val % 16 * 128 + r.val) / 128 = t.val % 16 := by omega
  have a5 : (t.val % 16 * 128 + r.val) % 128 = r.val := by omega
  unfold Soft.near1O Soft.near1Score
  simp only [blk_q, blk_k, blk_v, blk_t, blk_wq, blk_wk, a1, a2, a3, a4, a5, Nat.add_assoc]

theorem placeO (t : Fin cfg0.N) (r : Fin 128) (n : Fin 512) : ((cfg0.win 6).blk t).view.emb (ix3 0 r n)
      = ix3 (⟨t.val / 16, by have := lt_t t; omega⟩ : Fin 4) (⟨t.val % 16 * 128 + r.val, by omega⟩ : Fin 2048) (⟨n.val, by omega⟩ : Fin 512) := by
  blk_point [idx t]

theorem agreesO (c : Dev nD) (t : Fin cfg0.N) (y : S1x128x512.Idx) :
    tileO t (iblk m c 0 t) (iblk m c 1 t) (iblk m c 2 t) (iblk m c 3 t) (iblk m c 4 t) (iblk m c 5 t) y
      = REFO (m ((c : Thread nD τ).loc main_arg0)) (m ((c : Thread nD τ).loc main_arg1)) (m ((c : Thread nD τ).loc main_arg2)) (m ((c : Thread nD τ).loc main_arg3)) (((cfg0.win 6).blk t).view.emb y) := by
  obtain ⟨r, n, rfl⟩ := coords y
  exact (pointO m c t r n).trans ((REFO_at _ _ _ _ _ _ _).symm.trans (congrArg (REFO _ _ _ _) (placeO t r n).symm))

/-- The first result array after the run. -/
theorem finalO (c : Dev nD) : (dats m 0 c).arrAt 6 (cfgs 0).N = REFO (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6, leftO]
  exact agreesO m c t y

/-- The second result as an array, from the four argument arrays. -/
def REFL (A : FVec Ideal S4x2048x15872 .bf16) (T : FVec Ideal S3x4x128x256 .f32) (wq wk : FVec Ideal S1x128 .f32) : FVec Ideal S4x2048x512 .f32 :=
  fun i => Soft.near1L (fun b r n => A (ix3 b r n)) (fun t h r j => T (ix4 t h r j)) (fun d => wq (ix2 0 d)) (fun d => wk (ix2 0 d)) (i 0) (i 1) (i 2)

theorem REFL_at (A : FVec Ideal S4x2048x15872 .bf16) (T : FVec Ideal S3x4x128x256 .f32) (wq wk : FVec Ideal S1x128 .f32)
    (b : Fin 4) (r : Fin 2048) (n : Fin 512) : REFL A T wq wk (ix3 b r n) = Soft.near1L (fun b r n => A (ix3 b r n)) (fun t h r j => T (ix4 t h r j)) (fun d => wq (ix2 0 d)) (fun d => wk (ix2 0 d)) b r n := rfl

/-- One point's values are the result's at the place of its block. -/
theorem pointL (c : Dev nD) (t : Fin cfg0.N) (r : Fin 128) (n : Fin 512) :
    tileL t (iblk m c 0 t) (iblk m c 1 t) (iblk m c 3 t) (iblk m c 4 t) (iblk m c 5 t) (ix3 0 r n)
      = Soft.near1L (fun b r n => m ((c : Thread nD τ).loc main_arg0) (ix3 b r n)) (fun t h r j => m ((c : Thread nD τ).loc main_arg1) (ix4 t h r j)) (fun d => m ((c : Thread nD τ).loc main_arg2) (ix2 0 d)) (fun d => m ((c : Thread nD τ).loc main_arg3) (ix2 0 d)) ⟨t.val / 16, by have := lt_t t; omega⟩ ⟨t.val % 16 * 128 + r.val, by omega⟩ ⟨n.val, by omega⟩ := by
  rw [tileL_eq t _ _ _ _ _ _ rfl (Nat.min_le_right _ _)]
  have a1 : ∀ x : ℕ, x + 0 = x := fun x => rfl
  have a2 : n.val / 128 % 4 = n.val / 128 := by omega
  have a3 : n.val % 512 = n.val := by omega
  have a4 : (t.val % 16 * 128 + r.val) / 128 = t.val % 16 := by omega
  have a5 : (t.val % 16 * 128 + r.val) % 128 = r.val := by omega
  unfold Soft.near1L Soft.near1Score
  simp only [blk_q, blk_k, blk_t, blk_wq, blk_wk, a1, a2, a4, a5, Nat.add_assoc]

theorem placeL (t : Fin cfg0.N) (r : Fin 128) (n : Fin 512) : ((cfg0.win 7).blk t).view.emb (ix3 0 r n)
      = ix3 (⟨t.val / 16, by have := lt_t t; omega⟩ : Fin 4) (⟨t.val % 16 * 128 + r.val, by omega⟩ : Fin 2048) (⟨n.val, by omega⟩ : Fin 512) := by
  blk_point [idx t]

theorem agreesL (c : Dev nD) (t : Fin cfg0.N) (y : S1x128x512.Idx) :
    tileL t (iblk m c 0 t) (iblk m c 1 t) (iblk m c 3 t) (iblk m c 4 t) (iblk m c 5 t) y
      = REFL (m ((c : Thread nD τ).loc main_arg0)) (m ((c : Thread nD τ).loc main_arg1)) (m ((c : Thread nD τ).loc main_arg2)) (m ((c : Thread nD τ).loc main_arg3)) (((cfg0.win 7).blk t).view.emb y) := by
  obtain ⟨r, n, rfl⟩ := coords y
  exact (pointL m c t r n).trans ((REFL_at _ _ _ _ _ _ _).symm.trans (congrArg (REFL _ _ _ _) (placeL t r n).symm))

/-- The second result array after the run. -/
theorem finalL (c : Dev nD) : (dats m 0 c).arrAt 7 (cfgs 0).N = REFL (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7, leftL]
  exact agreesL m c t y

/-- The reference's two results from its argument arrays, for real bias and weights. -/
theorem referenceO (A : FVec Ideal S4x2048x15872 .bf16) (T : FVec Ideal S3x4x128x256 .f32) (wq wk : FVec Ideal S1x128 .f32)
    (hT : ∀ t h r j, Soft.IsReal (T (ix4 t h r j))) (hq : ∀ d, Soft.IsReal (wq (ix2 0 d))) (hk : ∀ d, Soft.IsReal (wk (ix2 0 d))) :
    Cert.Reference12Ideal.Near.resO (Cert.Reference12Ideal.Near.stack (Cert.Reference12Ideal.Near.classes (Cert.Reference12Ideal.Near.colsV A))) (Cert.Reference12Ideal.Near.all A T wq wk) (Cert.Reference12Ideal.Near.logs (Cert.Reference12Ideal.Near.all A T wq wk)) = REFO A T wq wk := by
  funext i
  obtain ⟨b, r, n, rfl⟩ : ∃ (b : Fin 4) (r : Fin 2048) (n : Fin 512), i = ix3 b r n := ⟨i 0, i 1, i 2, eq_ix3 i⟩
  exact (Cert.Reference12Ideal.Near.resultO A T wq wk hT hq hk b r n).trans (REFO_at _ _ _ _ _ _ _).symm

theorem referenceL (A : FVec Ideal S4x2048x15872 .bf16) (T : FVec Ideal S3x4x128x256 .f32) (wq wk : FVec Ideal S1x128 .f32)
    (hT : ∀ t h r j, Soft.IsReal (T (ix4 t h r j))) (hq : ∀ d, Soft.IsReal (wq (ix2 0 d))) (hk : ∀ d, Soft.IsReal (wk (ix2 0 d))) :
    Cert.Reference12Ideal.Near.resL (Cert.Reference12Ideal.Near.logs (Cert.Reference12Ideal.Near.all A T wq wk)) = REFL A T wq wk := by
  funext i
  obtain ⟨b, r, n, rfl⟩ : ∃ (b : Fin 4) (r : Fin 2048) (n : Fin 512), i = ix3 b r n := ⟨i 0, i 1, i 2, eq_ix3 i⟩
  exact (Cert.Reference12Ideal.Near.resultL A T wq wk hT hq hk b r n).trans (REFL_at _ _ _ _ _ _ _).symm

/-- The statement's condition makes the bias and the two weights real. -/
theorem reals (A : FVec Ideal S4x2048x15872 .bf16) (T : FVec Ideal S3x4x128x256 .f32) (wq wk : FVec Ideal S1x128 .f32)
    (h : Cert.Pre_finite_bias11.fn (F := Ideal) A T wq wk = fun _ => 1#1) :
    (∀ t h r j, Soft.IsReal (T (ix4 t h r j))) ∧ (∀ d, Soft.IsReal (wq (ix2 0 d))) ∧ ∀ d, Soft.IsReal (wk (ix2 0 d)) := by
  have key : ∀ (t : Fin 3) (h : Fin 4) (r : Fin 128) (j : Fin 256),
      ((Ideal.cmp .olt (max (T (ix4 t h r j)) (-T (ix4 t h r j))) (Ideal.ofBits .f32 0x7F800000#32))
        &&& (Ideal.cmp .olt (max (wq (ix2 0 r)) (-wq (ix2 0 r))) (Ideal.ofBits .f32 0x7F800000#32)))
      &&& (Ideal.cmp .olt (max (wk (ix2 0 r)) (-wk (ix2 0 r))) (Ideal.ofBits .f32 0x7F800000#32)) = 1#1 := by
    intro t' h' r j
    have e := congrFun h (ix4 t' h' r j)
    rw [← e]
    pointwise [Cert.Pre_finite_bias11.fn]
    rfl
  refine ⟨fun t h r j => ?_, fun d => ?_, fun d => ?_⟩
  · exact Soft.real_of_cmp (Soft.both _ _ (Soft.both _ _ (key t h r j)).1).1
  · exact Soft.real_of_cmp (Soft.both _ _ (Soft.both _ _ (key 0 0 d 0)).1).2
  · exact Soft.real_of_cmp (Soft.both _ _ (key 0 0 d 0)).2

end Cert.Kernel12Ideal.Near

end
-- ==== Proof.lean ====
/- The claim: the frames of every program, and that every kernel program computes what its reference
   program computes. -/
module

public import proofs.«01_k».proof.Defs
public import proofs.«01_k».proof.Proof.Gen.Kernel.Frame
public import proofs.«01_k».proof.Proof.AttnA
public import proofs.«01_k».proof.Proof.Gen.Kernel2.Frame
public import proofs.«01_k».proof.Proof.Up
public import proofs.«01_k».proof.Proof.Gen.Kernel3.Frame
public import proofs.«01_k».proof.Proof.InProj
public import proofs.«01_k».proof.Proof.Gen.Kernel4.Frame
public import proofs.«01_k».proof.Proof.Down0
public import proofs.«01_k».proof.Proof.Gen.Kernel5.Frame
public import proofs.«01_k».proof.Proof.Down1
public import proofs.«01_k».proof.Proof.Gen.Kernel6.Frame
public import proofs.«01_k».proof.Proof.OutProj
public import proofs.«01_k».proof.Proof.Gen.Kernel7.Frame
public import proofs.«01_k».proof.Proof.Merge
public import proofs.«01_k».proof.Proof.Gen.Kernel8.Frame
public import proofs.«01_k».proof.Proof.RmsNorm
public import proofs.«01_k».proof.Proof.Gen.Kernel9.Frame
public import proofs.«01_k».proof.Proof.Combine
public import proofs.«01_k».proof.Proof.Gen.Kernel10.Frame
public import proofs.«01_k».proof.Proof.Band
public import proofs.«01_k».proof.Proof.Gen.Kernel11.Frame
public import proofs.«01_k».proof.Proof.Near4
public import proofs.«01_k».proof.Proof.Gen.Kernel12.Frame
public import proofs.«01_k».proof.Proof.Near1

@[expose] public section

noncomputable section

namespace Cert.Proof

open Idealize.ShloMosaic Idealize.ShloMosaic.TcCoe Idealize.SL.Sem

/-- The attention: the two programs end with the same array where the norm weights are finite. -/
theorem algebraic : algebraic_KernelIdeal_ReferenceIdeal_pre_finite_norm_weights := by
  intro m g m' g' hpre hag
  refine ⟨fun c => Cert.KernelIdeal.AttnA.REF (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    θ_run_mono (Cert.KernelIdeal.Value.run_blocks m g) fun r h c => ⟨(h c).1.trans (Cert.KernelIdeal.AttnA.final m c), (h c).2⟩,
    θ_run_mono (Cert.ReferenceIdeal.Value.run m' g') fun r h c => ⟨(h c).1.trans ?_, (h c).2⟩⟩
  obtain ⟨h0, h1, h2⟩ := hag c
  obtain ⟨hq, hk⟩ := Cert.KernelIdeal.AttnA.weights _ _ _ (hpre c)
  rw [← h1] at hq
  rw [← h2] at hk
  refine (Cert.KernelIdeal.AttnA.reference (StableHlo.launchContents m' c) hq hk).trans ?_
  change Cert.KernelIdeal.AttnA.REF (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) = _
  rw [h0, h1, h2]

/-- The feed-forward up projection: the two programs end with the same array. -/
theorem algebraic2 : algebraic_Kernel2Ideal_Reference2Ideal := by
  intro m g m' g' _ hag
  refine ⟨fun c => Cert.Kernel2Ideal.Up.REF (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
    θ_run_mono (Cert.Kernel2Ideal.Value.run_blocks m g) fun r h c => ⟨(h c).1.trans (Cert.Kernel2Ideal.Up.final m c), (h c).2⟩,
    θ_run_mono (Cert.Reference2Ideal.Value.run m' g') fun r h c => ⟨(h c).1.trans ?_, (h c).2⟩⟩
  obtain ⟨h0, h1, h2⟩ := hag c
  rw [h0, h1, h2]
  rfl

/-- The input projection: the two programs end with the same array. -/
theorem algebraic3 : algebraic_Kernel3Ideal_Reference3Ideal := by
  intro m g m' g' _ hag
  refine ⟨fun c => Cert.Kernel3Ideal.InProj.REF (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    θ_run_mono (Cert.Kernel3Ideal.Value.run_blocks m g) fun r h c => ⟨(h c).1.trans (Cert.Kernel3Ideal.InProj.final m c), (h c).2⟩,
    θ_run_mono (Cert.Reference3Ideal.Value.run m' g') fun r h c => ⟨(h c).1.trans ?_, (h c).2⟩⟩
  obtain ⟨h0, h1⟩ := hag c
  rw [h0, h1]
  rfl

/-- The first half of the down projection: the two programs end with the same array. -/
theorem algebraic4 : algebraic_Kernel4Ideal_Reference4Ideal := by
  intro m g m' g' _ hag
  refine ⟨fun c => Cert.Kernel4Ideal.Down0.REF (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
    θ_run_mono (Cert.Kernel4Ideal.Value.run_blocks m g) fun r h c => ⟨(h c).1.trans (Cert.Kernel4Ideal.Down0.final m c), (h c).2⟩,
    θ_run_mono (Cert.Reference4Ideal.Value.run m' g') fun r h c => ⟨(h c).1.trans ?_, (h c).2⟩⟩
  obtain ⟨h0, h1, h2⟩ := hag c
  rw [h0, h1, h2]
  rfl

/-- The second half of the down projection: the two programs end with the same array. -/
theorem algebraic5 : algebraic_Kernel5Ideal_Reference5Ideal := by
  intro m g m' g' _ hag
  refine ⟨fun c => Cert.Kernel5Ideal.Down1.REF (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)),
    θ_run_mono (Cert.Kernel5Ideal.Value.run_blocks m g) fun r h c => ⟨(h c).1.trans (Cert.Kernel5Ideal.Down1.final m c), (h c).2⟩,
    θ_run_mono (Cert.Reference5Ideal.Value.run m' g') fun r h c => ⟨(h c).1.trans ?_, (h c).2⟩⟩
  obtain ⟨h0, h1, h2⟩ := hag c
  rw [h0, h1, h2]
  rfl

/-- The output projection: the two programs end with the same array. -/
theorem algebraic6 : algebraic_Kernel6Ideal_Reference6Ideal := by
  intro m g m' g' _ hag
  refine ⟨fun c => Cert.Kernel6Ideal.OutProj.REF (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)),
    θ_run_mono (Cert.Kernel6Ideal.Value.run_blocks m g) fun r h c => ⟨(h c).1.trans (Cert.Kernel6Ideal.OutProj.final m c), (h c).2⟩,
    θ_run_mono (Cert.Reference6Ideal.Value.run m' g') fun r h c => ⟨(h c).1.trans ?_, (h c).2⟩⟩
  obtain ⟨h0, h1, h2⟩ := hag c
  rw [h0, h1, h2]
  rfl

/-- The gated merge: the two programs end with the same array. -/
theorem algebraic7 : algebraic_Kernel7Ideal_Reference7Ideal := by
  intro m g m' g' _ hag
  refine ⟨fun c => Cert.Kernel7Ideal.Merge.REF (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)),
    θ_run_mono (Cert.Kernel7Ideal.Value.run_blocks m g) fun r h c => ⟨(h c).1.trans (Cert.Kernel7Ideal.Merge.final m c), (h c).2⟩,
    θ_run_mono (Cert.Reference7Ideal.Value.run m' g') fun r h c => ⟨(h c).1.trans ?_, (h c).2⟩⟩
  obtain ⟨h0, h1, h2, h3, h4, h5⟩ := hag c
  rw [h0, h1, h2, h3, h4, h5]
  rfl

/-- The normalization: the two programs end with the same array. -/
theorem algebraic8 : algebraic_Kernel8Ideal_Reference8Ideal := by
  intro m g m' g' _ hag
  refine ⟨fun c => Cert.Kernel8Ideal.RmsNorm.REF (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)),
    θ_run_mono (Cert.Kernel8Ideal.Value.run_blocks m g) fun r h c => ⟨(h c).1.trans (Cert.Kernel8Ideal.RmsNorm.final m c), (h c).2⟩,
    θ_run_mono (Cert.Reference8Ideal.Value.run m' g') fun r h c => ⟨(h c).1.trans ?_, (h c).2⟩⟩
  obtain ⟨h0, h1⟩ := hag c
  rw [h0, h1]
  rfl

/-- The combination of the groups: the two programs end with the same array where the log sums are finite. -/
theorem algebraic9 : algebraic_Kernel9Ideal_Reference9Ideal_pre_finite_log_sums := by
  intro m g m' g' hpre hag
  refine ⟨fun c => Cert.Kernel9Ideal.Combine.REF (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)),
    θ_run_mono (Cert.Kernel9Ideal.Value.run_blocks m g) fun r h c => ⟨(h c).1.trans (Cert.Kernel9Ideal.Combine.final m c), (h c).2⟩,
    θ_run_mono (Cert.Reference9Ideal.Value.run m' g') fun r h c => ⟨(h c).1.trans ?_, (h c).2⟩⟩
  obtain ⟨h0, h1, h2, h3, h4, h5⟩ := hag c
  have hl := Cert.Kernel9Ideal.Combine.reals _ _ _ _ _ _ (hpre c)
  rw [← h3, ← h4, ← h5] at hl
  refine (Cert.Kernel9Ideal.Combine.reference (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5)) hl).trans ?_
  rw [h0, h1, h2, h3, h4, h5]

/-- The group of dilation 16: the two programs end with the same two arrays where the bias and the norm weights
    are finite. -/
theorem algebraic10 : algebraic_Kernel10Ideal_Reference10Ideal_pre_finite_bias10 := by
  intro m g m' g' hpre hag
  refine ⟨fun c => Cert.Kernel10Ideal.Band.REFO (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)),
    fun c => Cert.Kernel10Ideal.Band.REFL (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)),
    θ_run_mono (Cert.Kernel10Ideal.Value.run_blocks m g) fun r h c =>
      ⟨(h c).1.trans (Cert.Kernel10Ideal.Band.finalO m c), (h c).2.1.trans (Cert.Kernel10Ideal.Band.finalL m c), (h c).2.2⟩,
    θ_run_mono (Cert.Reference10Ideal.Value.run m' g') fun r h c => ⟨(h c).1.trans ?_, (h c).2.1.trans ?_, (h c).2.2⟩⟩
  all_goals
    obtain ⟨h0, h1, h2, h3⟩ := hag c
    obtain ⟨hT, hq, hk⟩ := Cert.Kernel10Ideal.Band.reals _ _ _ _ (hpre c)
    rw [← h1] at hT
    rw [← h2] at hq
    rw [← h3] at hk
  · refine (Cert.Reference10Ideal.Band.first m' c).trans ((Cert.Kernel10Ideal.Band.referenceO (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) (m' ((c.tc : Thread Cert.Reference10Ideal.nD Cert.Reference10Ideal.τ).loc Cert.Reference10Ideal.main_arg3)) hT hq hk).trans ?_)
    rw [h0, h1, h2, h3]
  · refine (Cert.Reference10Ideal.Band.second m' c).trans ((Cert.Kernel10Ideal.Band.referenceL (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) (m' ((c.tc : Thread Cert.Reference10Ideal.nD Cert.Reference10Ideal.τ).loc Cert.Reference10Ideal.main_arg3)) hT hq hk).trans ?_)
    rw [h0, h1, h2, h3]

/-- The group of dilation 4: the two programs end with the same two arrays where the bias and the norm weights
    are finite. -/
theorem algebraic11 : algebraic_Kernel11Ideal_Reference11Ideal_pre_finite_bias11 := by
  intro m g m' g' hpre hag
  refine ⟨fun c => Cert.Kernel11Ideal.Near.REFO (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)),
    fun c => Cert.Kernel11Ideal.Near.REFL (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)),
    θ_run_mono (Cert.Kernel11Ideal.Value.run_blocks m g) fun r h c =>
      ⟨(h c).1.trans (Cert.Kernel11Ideal.Near.finalO m c), (h c).2.1.trans (Cert.Kernel11Ideal.Near.finalL m c), (h c).2.2⟩,
    θ_run_mono (Cert.Reference11Ideal.Value.run m' g') fun r h c => ⟨(h c).1.trans ?_, (h c).2.1.trans ?_, (h c).2.2⟩⟩
  all_goals
    obtain ⟨h0, h1, h2, h3⟩ := hag c
    obtain ⟨hT, hq, hk⟩ := Cert.Kernel11Ideal.Near.reals _ _ _ _ (hpre c)
    rw [← h1] at hT
    rw [← h2] at hq
    rw [← h3] at hk
  · refine (Cert.Reference11Ideal.Near.first m' c).trans ((Cert.Kernel11Ideal.Near.referenceO (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) hT hq hk).trans ?_)
    rw [h0, h1, h2, h3]
  · refine (Cert.Reference11Ideal.Near.second m' c).trans ((Cert.Kernel11Ideal.Near.referenceL (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) hT hq hk).trans ?_)
    rw [h0, h1, h2, h3]

/-- The group of dilation 1: the two programs end with the same two arrays where the bias and the norm weights
    are finite. -/
theorem algebraic12 : algebraic_Kernel12Ideal_Reference12Ideal_pre_finite_bias11 := by
  intro m g m' g' hpre hag
  refine ⟨fun c => Cert.Kernel12Ideal.Near.REFO (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)),
    fun c => Cert.Kernel12Ideal.Near.REFL (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)),
    θ_run_mono (Cert.Kernel12Ideal.Value.run_blocks m g) fun r h c =>
      ⟨(h c).1.trans (Cert.Kernel12Ideal.Near.finalO m c), (h c).2.1.trans (Cert.Kernel12Ideal.Near.finalL m c), (h c).2.2⟩,
    θ_run_mono (Cert.Reference12Ideal.Value.run m' g') fun r h c => ⟨(h c).1.trans ?_, (h c).2.1.trans ?_, (h c).2.2⟩⟩
  all_goals
    obtain ⟨h0, h1, h2, h3⟩ := hag c
    obtain ⟨hT, hq, hk⟩ := Cert.Kernel12Ideal.Near.reals _ _ _ _ (hpre c)
    rw [← h1] at hT
    rw [← h2] at hq
    rw [← h3] at hk
  · refine (Cert.Reference12Ideal.Near.first m' c).trans ((Cert.Kernel12Ideal.Near.referenceO (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2)) (m' ((c.tc : Thread Cert.Reference12Ideal.nD Cert.Reference12Ideal.τ).loc Cert.Reference12Ideal.main_arg3)) hT hq hk).trans ?_)
    rw [h0, h1, h2, h3]
  · refine (Cert.Reference12Ideal.Near.second m' c).trans ((Cert.Kernel12Ideal.Near.referenceL (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2)) (m' ((c.tc : Thread Cert.Reference12Ideal.nD Cert.Reference12Ideal.τ).loc Cert.Reference12Ideal.main_arg3)) hT hq hk).trans ?_)
    rw [h0, h1, h2, h3]

/-- The reference program of the attention runs to an end and leaves nothing behind. -/
theorem frameR : quiescent_ReferenceIdeal := by
  intro m ρ _
  exact θ_run_mono (Cert.ReferenceIdeal.Value.run m ρ) fun r h =>
    ⟨fun c => (h c).2, sem_eq_zero_of_no_sems (by decide) r.2⟩

/-- The reference program of the feed-forward up projection runs to an end and leaves nothing behind. -/
theorem frameR2 : quiescent_Reference2Ideal := by
  intro m ρ _
  exact θ_run_mono (Cert.Reference2Ideal.Value.run m ρ) fun r h =>
    ⟨fun c => (h c).2, sem_eq_zero_of_no_sems (by decide) r.2⟩

/-- The reference program of the input projection runs to an end and leaves nothing behind. -/
theorem frameR3 : quiescent_Reference3Ideal := by
  intro m ρ _
  exact θ_run_mono (Cert.Reference3Ideal.Value.run m ρ) fun r h =>
    ⟨fun c => (h c).2, sem_eq_zero_of_no_sems (by decide) r.2⟩

/-- The reference program of the first half of the down projection runs to an end and leaves nothing behind. -/
theorem frameR4 : quiescent_Reference4Ideal := by
  intro m ρ _
  exact θ_run_mono (Cert.Reference4Ideal.Value.run m ρ) fun r h =>
    ⟨fun c => (h c).2, sem_eq_zero_of_no_sems (by decide) r.2⟩

/-- The reference program of the second half of the down projection runs to an end and leaves nothing behind. -/
theorem frameR5 : quiescent_Reference5Ideal := by
  intro m ρ _
  exact θ_run_mono (Cert.Reference5Ideal.Value.run m ρ) fun r h =>
    ⟨fun c => (h c).2, sem_eq_zero_of_no_sems (by decide) r.2⟩

/-- The reference program of the output projection runs to an end and leaves nothing behind. -/
theorem frameR6 : quiescent_Reference6Ideal := by
  intro m ρ _
  exact θ_run_mono (Cert.Reference6Ideal.Value.run m ρ) fun r h =>
    ⟨fun c => (h c).2, sem_eq_zero_of_no_sems (by decide) r.2⟩

/-- The reference program of the gated merge runs to an end and leaves nothing behind. -/
theorem frameR7 : quiescent_Reference7Ideal := by
  intro m ρ _
  exact θ_run_mono (Cert.Reference7Ideal.Value.run m ρ) fun r h =>
    ⟨fun c => (h c).2, sem_eq_zero_of_no_sems (by decide) r.2⟩

/-- The reference program of the normalization runs to an end and leaves nothing behind. -/
theorem frameR8 : quiescent_Reference8Ideal := by
  intro m ρ _
  exact θ_run_mono (Cert.Reference8Ideal.Value.run m ρ) fun r h =>
    ⟨fun c => (h c).2, sem_eq_zero_of_no_sems (by decide) r.2⟩

/-- The reference program of the combination of the groups runs to an end and leaves nothing behind. -/
theorem frameR9 : quiescent_Reference9Ideal := by
  intro m ρ _
  exact θ_run_mono (Cert.Reference9Ideal.Value.run m ρ) fun r h =>
    ⟨fun c => (h c).2, sem_eq_zero_of_no_sems (by decide) r.2⟩

/-- The reference program of the group of dilation 16 runs to an end and leaves nothing behind. -/
theorem frameR10 : quiescent_Reference10Ideal := by
  intro m ρ _
  exact θ_run_mono (Cert.Reference10Ideal.Value.run m ρ) fun r h =>
    ⟨fun c => (h c).2.2, sem_eq_zero_of_no_sems (by decide) r.2⟩

/-- The reference program of the group of dilation 4 runs to an end and leaves nothing behind. -/
theorem frameR11 : quiescent_Reference11Ideal := by
  intro m ρ _
  exact θ_run_mono (Cert.Reference11Ideal.Value.run m ρ) fun r h =>
    ⟨fun c => (h c).2.2, sem_eq_zero_of_no_sems (by decide) r.2⟩

/-- The reference program of the group of dilation 1 runs to an end and leaves nothing behind. -/
theorem frameR12 : quiescent_Reference12Ideal := by
  intro m ρ _
  exact θ_run_mono (Cert.Reference12Ideal.Value.run m ρ) fun r h =>
    ⟨fun c => (h c).2.2, sem_eq_zero_of_no_sems (by decide) r.2⟩

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Pre_finite_norm_weights.Gen.facts, Cert.Pre_finite_log_sums.Gen.facts, Cert.Pre_finite_bias10.Gen.facts, Cert.Pre_finite_bias11.Gen.facts,
    fun m ρ _ => Cert.Kernel.Gen.frame m ρ,
    fun m ρ _ => Cert.KernelIdeal.Gen.frame m ρ,
    fun m ρ _ => Cert.KernelIdeal.Gen.frame m ρ,
    frameR,
    fun m ρ _ => frameR m ρ trivial,
    fun m ρ _ => Cert.Kernel2.Gen.frame m ρ,
    fun m ρ _ => Cert.Kernel2Ideal.Gen.frame m ρ,
    frameR2,
    fun m ρ _ => Cert.Kernel3.Gen.frame m ρ,
    fun m ρ _ => Cert.Kernel3Ideal.Gen.frame m ρ,
    frameR3,
    fun m ρ _ => Cert.Kernel4.Gen.frame m ρ,
    fun m ρ _ => Cert.Kernel4Ideal.Gen.frame m ρ,
    frameR4,
    fun m ρ _ => Cert.Kernel5.Gen.frame m ρ,
    fun m ρ _ => Cert.Kernel5Ideal.Gen.frame m ρ,
    frameR5,
    fun m ρ _ => Cert.Kernel6.Gen.frame m ρ,
    fun m ρ _ => Cert.Kernel6Ideal.Gen.frame m ρ,
    frameR6,
    fun m ρ _ => Cert.Kernel7.Gen.frame m ρ,
    fun m ρ _ => Cert.Kernel7Ideal.Gen.frame m ρ,
    frameR7,
    fun m ρ _ => Cert.Kernel8.Gen.frame m ρ,
    fun m ρ _ => Cert.Kernel8Ideal.Gen.frame m ρ,
    frameR8,
    fun m ρ _ => Cert.Kernel9.Gen.frame m ρ,
    fun m ρ _ => Cert.Kernel9Ideal.Gen.frame m ρ,
    fun m ρ _ => Cert.Kernel9Ideal.Gen.frame m ρ,
    frameR9,
    fun m ρ _ => frameR9 m ρ trivial,
    fun m ρ _ => Cert.Kernel10.Gen.frame m ρ,
    fun m ρ _ => Cert.Kernel10Ideal.Gen.frame m ρ,
    fun m ρ _ => Cert.Kernel10Ideal.Gen.frame m ρ,
    frameR10,
    fun m ρ _ => frameR10 m ρ trivial,
    fun m ρ _ => Cert.Kernel11.Gen.frame m ρ,
    fun m ρ _ => Cert.Kernel11Ideal.Gen.frame m ρ,
    fun m ρ _ => Cert.Kernel11Ideal.Gen.frame m ρ,
    frameR11,
    fun m ρ _ => frameR11 m ρ trivial,
    fun m ρ _ => Cert.Kernel12.Gen.frame m ρ,
    fun m ρ _ => Cert.Kernel12Ideal.Gen.frame m ρ,
    fun m ρ _ => Cert.Kernel12Ideal.Gen.frame m ρ,
    frameR12,
    fun m ρ _ => frameR12 m ρ trivial,
    trivial, algebraic, trivial, algebraic2, trivial, algebraic3, trivial, algebraic4, trivial, algebraic5, trivial, algebraic6, trivial, algebraic7, trivial, algebraic8, trivial, algebraic9, trivial, algebraic10, trivial, algebraic11, trivial, algebraic12⟩

end Cert.Proof

end
